-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  IdealRules.named_const.Statement Cert.KernelIdeal.κ "gelu_c1" .bf16 0x3D12#16 ((80338380498831 / 2251799813685248 : ℝ) : EReal)
  ∧ IdealRules.named_const.Statement Cert.KernelIdeal.κ "gelu_c0" .bf16 0x3F4C#16 ((6693141 / 8388608 : ℝ) : EReal)
  ∧ IdealRules.named_const.Statement Cert.KernelIdeal.κ "gelu_3c1" .bf16 0x3DDB#16 ((241015141496493 / 2251799813685248 : ℝ) : EReal)

def algebraic_KernelIdeal_ReferenceIdeal_on_value_half_pre_finite [hKernelIdeal : Cert.KernelIdeal.Facts] [hReferenceIdeal : Cert.ReferenceIdeal.Facts] [hPre_finite : Cert.Pre_finite.Facts] [hOn_value_half : Cert.On_value_half.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)) (v5 : (c : Dev Cert.KernelIdeal.nD) → Buf (Elt Ideal) ((c.tc : Thread Cert.KernelIdeal.nD Cert.KernelIdeal.τ).loc Cert.KernelIdeal.main_v9_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 2816]⟩ : Shape).Idx, (Cert.On_value_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v9_0) i = v0 c i)
          ∧ (∀ i : (⟨2, ![3, 2816]⟩ : Shape).Idx, (Cert.On_value_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v9_1) i = v1 c i)
          ∧ (∀ i : (⟨2, ![1, 2816]⟩ : Shape).Idx, (Cert.On_value_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.KernelIdeal.nD Cert.KernelIdeal.τ).loc Cert.KernelIdeal.main_v9_2) i = v2 c i)
          ∧ (∀ i : (⟨2, ![2816, 1024]⟩ : Shape).Idx, (Cert.On_value_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.KernelIdeal.nD Cert.KernelIdeal.τ).loc Cert.KernelIdeal.main_v9_3) i = v3 c i)
          ∧ (∀ i : (⟨3, ![4, 1024, 1408]⟩ : Shape).Idx, (Cert.On_value_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 i = 1#1 → r.2.mem ((c.tc : Thread Cert.KernelIdeal.nD Cert.KernelIdeal.τ).loc Cert.KernelIdeal.main_v9_4) i = v4 c i)
          ∧ (∀ i : (⟨2, ![4096, 2816]⟩ : Shape).Idx, (Cert.On_value_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 i = 1#1 → r.2.mem ((c.tc : Thread Cert.KernelIdeal.nD Cert.KernelIdeal.τ).loc Cert.KernelIdeal.main_v9_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 2816]⟩ : Shape).Idx, (Cert.On_value_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v115) i = v0 c i)
          ∧ (∀ i : (⟨2, ![3, 2816]⟩ : Shape).Idx, (Cert.On_value_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v102) i = v1 c i)
          ∧ (∀ i : (⟨2, ![1, 2816]⟩ : Shape).Idx, (Cert.On_value_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.ReferenceIdeal.nD Cert.ReferenceIdeal.τ).loc Cert.ReferenceIdeal.main_v73) i = v2 c i)
          ∧ (∀ i : (⟨2, ![2816, 1024]⟩ : Shape).Idx, (Cert.On_value_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.ReferenceIdeal.nD Cert.ReferenceIdeal.τ).loc Cert.ReferenceIdeal.main_v54) i = v3 c i)
          ∧ (∀ i : (⟨3, ![4, 1024, 1408]⟩ : Shape).Idx, (Cert.On_value_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 i = 1#1 → r.2.mem ((c.tc : Thread Cert.ReferenceIdeal.nD Cert.ReferenceIdeal.τ).loc Cert.ReferenceIdeal.main_v114) i = v4 c i)
          ∧ (∀ i : (⟨2, ![4096, 2816]⟩ : Shape).Idx, (Cert.On_value_half.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 i = 1#1 → r.2.mem ((c.tc : Thread Cert.ReferenceIdeal.nD Cert.ReferenceIdeal.τ).loc Cert.ReferenceIdeal.main_v116) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v43_0)) (v1 : (c : Dev Cert.Kernel2Ideal.nD) → Buf (Elt Ideal) ((c.tc : Thread Cert.Kernel2Ideal.nD Cert.Kernel2Ideal.τ).loc Cert.Kernel2Ideal.main_v43_1)) (v2 : (c : Dev Cert.Kernel2Ideal.nD) → Buf (Elt Ideal) ((c.tc : Thread Cert.Kernel2Ideal.nD Cert.Kernel2Ideal.τ).loc Cert.Kernel2Ideal.main_v43_2)) (v3 : (c : Dev Cert.Kernel2Ideal.nD) → Buf (Elt Ideal) ((c.tc : Thread Cert.Kernel2Ideal.nD Cert.Kernel2Ideal.τ).loc Cert.Kernel2Ideal.main_v43_3)) (v4 : (c : Dev Cert.Kernel2Ideal.nD) → Buf (Elt Ideal) ((c.tc : Thread Cert.Kernel2Ideal.nD Cert.Kernel2Ideal.τ).loc Cert.Kernel2Ideal.main_v43_4)) (v5 : (c : Dev Cert.Kernel2Ideal.nD) → Buf (Elt Ideal) ((c.tc : Thread Cert.Kernel2Ideal.nD Cert.Kernel2Ideal.τ).loc Cert.Kernel2Ideal.main_v43_5)) (v6 : (c : Dev Cert.Kernel2Ideal.nD) → Buf (Elt Ideal) ((c.tc : Thread Cert.Kernel2Ideal.nD Cert.Kernel2Ideal.τ).loc Cert.Kernel2Ideal.main_v43_6)) (v7 : (c : Dev Cert.Kernel2Ideal.nD) → Buf (Elt Ideal) ((c.tc : Thread Cert.Kernel2Ideal.nD Cert.Kernel2Ideal.τ).loc Cert.Kernel2Ideal.main_v43_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v43_0) = v0 c
          ∧ r.2.mem ((c.tc : Thread Cert.Kernel2Ideal.nD Cert.Kernel2Ideal.τ).loc Cert.Kernel2Ideal.main_v43_1) = v1 c
          ∧ r.2.mem ((c.tc : Thread Cert.Kernel2Ideal.nD Cert.Kernel2Ideal.τ).loc Cert.Kernel2Ideal.main_v43_2) = v2 c
          ∧ r.2.mem ((c.tc : Thread Cert.Kernel2Ideal.nD Cert.Kernel2Ideal.τ).loc Cert.Kernel2Ideal.main_v43_3) = v3 c
          ∧ r.2.mem ((c.tc : Thread Cert.Kernel2Ideal.nD Cert.Kernel2Ideal.τ).loc Cert.Kernel2Ideal.main_v43_4) = v4 c
          ∧ r.2.mem ((c.tc : Thread Cert.Kernel2Ideal.nD Cert.Kernel2Ideal.τ).loc Cert.Kernel2Ideal.main_v43_5) = v5 c
          ∧ r.2.mem ((c.tc : Thread Cert.Kernel2Ideal.nD Cert.Kernel2Ideal.τ).loc Cert.Kernel2Ideal.main_v43_6) = v6 c
          ∧ r.2.mem ((c.tc : Thread Cert.Kernel2Ideal.nD Cert.Kernel2Ideal.τ).loc Cert.Kernel2Ideal.main_v43_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v115) = v0 c
          ∧ r.2.mem ((c.tc : Thread Cert.Reference2Ideal.nD Cert.Reference2Ideal.τ).loc Cert.Reference2Ideal.main_v143) = v1 c
          ∧ r.2.mem ((c.tc : Thread Cert.Reference2Ideal.nD Cert.Reference2Ideal.τ).loc Cert.Reference2Ideal.main_v90) = v2 c
          ∧ r.2.mem ((c.tc : Thread Cert.Reference2Ideal.nD Cert.Reference2Ideal.τ).loc Cert.Reference2Ideal.main_v93) = v3 c
          ∧ r.2.mem ((c.tc : Thread Cert.Reference2Ideal.nD Cert.Reference2Ideal.τ).loc Cert.Reference2Ideal.main_v98) = v4 c
          ∧ r.2.mem ((c.tc : Thread Cert.Reference2Ideal.nD Cert.Reference2Ideal.τ).loc Cert.Reference2Ideal.main_v121) = v5 c
          ∧ r.2.mem ((c.tc : Thread Cert.Reference2Ideal.nD Cert.Reference2Ideal.τ).loc Cert.Reference2Ideal.main_v124) = v6 c
          ∧ r.2.mem ((c.tc : Thread Cert.Reference2Ideal.nD Cert.Reference2Ideal.τ).loc Cert.Reference2Ideal.main_v146) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  IdealRules.named_const.Statement Cert.Kernel3Ideal.κ "gelu_c1" .bf16 0x3D12#16 ((80338380498831 / 2251799813685248 : ℝ) : EReal)
  ∧ IdealRules.named_const.Statement Cert.Kernel3Ideal.κ "gelu_c0" .bf16 0x3F4C#16 ((6693141 / 8388608 : ℝ) : EReal)

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)) (v4 : (c : Dev Cert.Kernel3Ideal.nD) → Buf (Elt Ideal) ((c.tc : Thread Cert.Kernel3Ideal.nD Cert.Kernel3Ideal.τ).loc Cert.Kernel3Ideal.main_v5_4)) (v5 : (c : Dev Cert.Kernel3Ideal.nD) → Buf (Elt Ideal) ((c.tc : Thread Cert.Kernel3Ideal.nD Cert.Kernel3Ideal.τ).loc Cert.Kernel3Ideal.main_v5_5)) (v6 : (c : Dev Cert.Kernel3Ideal.nD) → Buf (Elt Ideal) ((c.tc : Thread Cert.Kernel3Ideal.nD Cert.Kernel3Ideal.τ).loc Cert.Kernel3Ideal.main_v5_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_v5_4) = v4 c
          ∧ r.2.mem ((c.tc : Thread Cert.Kernel3Ideal.nD Cert.Kernel3Ideal.τ).loc Cert.Kernel3Ideal.main_v5_5) = v5 c
          ∧ r.2.mem ((c.tc : Thread Cert.Kernel3Ideal.nD Cert.Kernel3Ideal.τ).loc Cert.Kernel3Ideal.main_v5_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v100) = v0 c
          ∧ r.2.mem ((c.tc : Thread Cert.Reference3Ideal.nD Cert.Reference3Ideal.τ).loc Cert.Reference3Ideal.main_v101) = v1 c
          ∧ r.2.mem ((c.tc : Thread Cert.Reference3Ideal.nD Cert.Reference3Ideal.τ).loc Cert.Reference3Ideal.main_v102) = v2 c
          ∧ r.2.mem ((c.tc : Thread Cert.Reference3Ideal.nD Cert.Reference3Ideal.τ).loc Cert.Reference3Ideal.main_v75) = v3 c
          ∧ r.2.mem ((c.tc : Thread Cert.Reference3Ideal.nD Cert.Reference3Ideal.τ).loc Cert.Reference3Ideal.main_v103) = v4 c
          ∧ r.2.mem ((c.tc : Thread Cert.Reference3Ideal.nD Cert.Reference3Ideal.τ).loc Cert.Reference3Ideal.main_v80) = v5 c
          ∧ r.2.mem ((c.tc : Thread Cert.Reference3Ideal.nD Cert.Reference3Ideal.τ).loc Cert.Reference3Ideal.main_v83) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_arg1) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_v4) = v2 c
          ∧ r.2.mem ((c.tc : Thread Cert.Reference4Ideal.nD Cert.Reference4Ideal.τ).loc Cert.Reference4Ideal.main_v10) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_arg1) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_v4) = v2 c
          ∧ r.2.mem ((c.tc : Thread Cert.Reference5Ideal.nD Cert.Reference5Ideal.τ).loc Cert.Reference5Ideal.main_v10) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_arg1) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_v4) = v2 c
          ∧ r.2.mem ((c.tc : Thread Cert.Reference6Ideal.nD Cert.Reference6Ideal.τ).loc Cert.Reference6Ideal.main_v10) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_arg1) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_v4) = v2 c
          ∧ r.2.mem ((c.tc : Thread Cert.Reference7Ideal.nD Cert.Reference7Ideal.τ).loc Cert.Reference7Ideal.main_v10) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)) (v3 : (c : Dev Cert.Kernel8Ideal.nD) → Buf (Elt Ideal) ((c.tc : Thread Cert.Kernel8Ideal.nD Cert.Kernel8Ideal.τ).loc Cert.Kernel8Ideal.main_v1_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_v1_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v27) = v1 c
          ∧ r.2.mem ((c.tc : Thread Cert.Reference8Ideal.nD Cert.Reference8Ideal.τ).loc Cert.Reference8Ideal.main_v8) = v2 c
          ∧ r.2.mem ((c.tc : Thread Cert.Reference8Ideal.nD Cert.Reference8Ideal.τ).loc Cert.Reference8Ideal.main_v14) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite3 : Cert.Pre_finite3.Facts) (hPre_finite8 : Cert.Pre_finite8.Facts) (hOn_value_half : Cert.On_value_half.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal_on_value_half_pre_finite (hKernelIdeal := hKernelIdeal) (hReferenceIdeal := hReferenceIdeal) (hPre_finite := hPre_finite) (hOn_value_half := hOn_value_half)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== On_value_half.lean ====
abbrev S4096x1024 : Shape := ⟨2, ![4096, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S4096x2816 : Shape := ⟨2, ![4096, 2816]⟩
abbrev S_ : Shape := ⟨0, ![]⟩
abbrev S4x1024x1408 : Shape := ⟨3, ![4, 1024, 1408]⟩

class Facts : Prop where
  bcast_S_S4096x2816 : S_.BroadcastsInDim S4096x2816 (![] : Fin 0 → Fin S4096x2816.rank)
  bcast_S_S3x2816 : S_.BroadcastsInDim S3x2816 (![] : Fin 0 → Fin S3x2816.rank)
  bcast_S_S1x2816 : S_.BroadcastsInDim S1x2816 (![] : Fin 0 → Fin S1x2816.rank)
  bcast_S_S2816x1024 : S_.BroadcastsInDim S2816x1024 (![] : Fin 0 → Fin S2816x1024.rank)
  bcast_S_S4x1024x1408 : S_.BroadcastsInDim S4x1024x1408 (![] : Fin 0 → Fin S4x1024x1408.rank)

variable [Facts]

def fn {F : FTy → Type} [FloatOps F] (main_arg0 : FVec F S4096x1024 .f32) (main_arg1 : FVec F S1024x5632 .f32) (main_arg2 : FVec F S3x2816 .f32) (main_arg3 : FVec F S1x2816 .f32) (main_arg4 : FVec F S2816x1024 .f32) (main_arg5 : FVec F S4096x1024 .f32) : IVec S4096x2816 1 × IVec S3x2816 1 × IVec S1x2816 1 × IVec S2816x1024 1 × IVec S4x1024x1408 1 × IVec S4096x2816 1 :=
  let main_v0 : IVec S4096x2816 32 := iotaInDim S4096x2816 32 0
  let main_c : IVec S_ 32 := constantI S_ 32 0#32
  let main_v1 : IVec S4096x2816 32 := broadcastInDim S4096x2816 ![] bcast_S_S4096x2816 main_c
  let main_v2 : IVec S4096x2816 1 := cmpi .sge main_v0 main_v1
  let main_v3 : IVec S3x2816 32 := iotaInDim S3x2816 32 0
  let main_c_0 : IVec S_ 32 := constantI S_ 32 0#32
  let main_v4 : IVec S3x2816 32 := broadcastInDim S3x2816 ![] bcast_S_S3x2816 main_c_0
  let main_v5 : IVec S3x2816 1 := cmpi .sge main_v3 main_v4
  let main_v6 : IVec S1x2816 32 := iotaInDim S1x2816 32 0
  let main_c_1 : IVec S_ 32 := constantI S_ 32 0#32
  let main_v7 : IVec S1x2816 32 := broadcastInDim S1x2816 ![] bcast_S_S1x2816 main_c_1
  let main_v8 : IVec S1x2816 1 := cmpi .sge main_v6 main_v7
  let main_v9 : IVec S2816x1024 32 := iotaInDim S2816x1024 32 0
  let main_c_2 : IVec S_ 32 := constantI S_ 32 0#32
  let main_v10 : IVec S2816x1024 32 := broadcastInDim S2816x1024 ![] bcast_S_S2816x1024 main_c_2
  let main_v11 : IVec S2816x1024 1 := cmpi .sge main_v9 main_v10
  let main_v12 : IVec S4x1024x1408 32 := iotaInDim S4x1024x1408 32 0
  let main_c_3 : IVec S_ 32 := constantI S_ 32 2#32
  let main_v13 : IVec S4x1024x1408 32 := broadcastInDim S4x1024x1408 ![] bcast_S_S4x1024x1408 main_c_3
  let main_v14 : IVec S4x1024x1408 1 := cmpi .sge main_v12 main_v13
  let main_v15 : IVec S4096x2816 32 := iotaInDim S4096x2816 32 0
  let main_c_4 : IVec S_ 32 := constantI S_ 32 0#32
  let main_v16 : IVec S4096x2816 32 := broadcastInDim S4096x2816 ![] bcast_S_S4096x2816 main_c_4
  let main_v17 : IVec S4096x2816 1 := cmpi .sge main_v15 main_v16
  (main_v2, main_v5, main_v8, main_v11, main_v14, main_v17)
-- ==== Pre_finite.lean ====
abbrev S4096x1024 : Shape := ⟨2, ![4096, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S1024x5632 .f32) (main_arg2 : FVec F S3x2816 .f32) (main_arg3 : FVec F S1x2816 .f32) (main_arg4 : FVec F S2816x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2816x1024 .f32 := Host.absf main_arg4
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := Host.absf main_arg5
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite2.lean ====
abbrev S4096x1024 : Shape := ⟨2, ![4096, 1024]⟩
abbrev S6x1024 : Shape := ⟨2, ![6, 1024]⟩
abbrev S1x1024 : Shape := ⟨2, ![1, 1024]⟩
abbrev S1024x5632 : Shape := ⟨2, ![1024, 5632]⟩
abbrev S3x2816 : Shape := ⟨2, ![3, 2816]⟩
abbrev S4096x2816 : Shape := ⟨2, ![4096, 2816]⟩
abbrev S4x1024x1408 : Shape := ⟨3, ![4, 1024, 1408]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  slices_S6x1024_S1x1024_2_0 : S6x1024.Slices ![2, 0] S1x1024
  bcast_S_S1x1024 : S_.BroadcastsInDim S1x1024 (![] : Fin 0 → Fin S1x1024.rank)
  reducesTo_S1x1024_S_d0_1 : S1x1024.ReducesTo [0, 1] S_
  slices_S6x1024_S1x1024_4_0 : S6x1024.Slices ![4, 0] S1x1024
  bcast_S_S1024x5632 : S_.BroadcastsInDim S1024x5632 (![] : Fin 0 → Fin S1024x5632.rank)
  reducesTo_S1024x5632_S_d0_1 : S1024x5632.ReducesTo [0, 1] S_
  bcast_S_S3x2816 : S_.BroadcastsInDim S3x2816 (![] : Fin 0 → Fin S3x2816.rank)
  reducesTo_S3x2816_S_d0_1 : S3x2816.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part3 {F : FTy → Type} [FloatOps F] (main_v50 : IVec S_ 1) (main_v51 : FVec F S4096x1024 .f32) : IVec S_ 1 :=
  let main_cst_18 : FVec F S_ .f32 := constant S_ .f32 0x7F800000#32
  let main_v52 : FVec F S4096x1024 .f32 := broadcastInDim S4096x1024 ![] bcast_S_S4096x1024 main_cst_18
  let main_v53 : IVec S4096x1024 1 := cmpf .olt main_v51 main_v52
  let main_c_19 : IVec S_ 1 := constantI S_ 1 1#1
  let main_v54 : IVec S_ 1 := (fun x v => Host.reduce IntOp.andi x v reducesTo_S4096x1024_S_d0_1 h_S_) main_v53 main_c_19
  let main_v55 : IVec S_ 1 := andi main_v50 main_v54
  main_v55

def fn_part2 {F : FTy → Type} [FloatOps F] (main_arg6 : FVec F S3x2816 .f32) (main_arg7 : FVec F S4096x2816 .f32) (main_arg8 : FVec F S4096x2816 .f32) (main_arg9 : FVec F S4096x1024 .f32) (main_v30 : IVec S_ 1) (main_v33 : IVec S1024x5632 1) (main_c_11 : IVec S_ 1) : IVec S_ 1 :=
  let main_v34 : IVec S_ 1 := (fun x v => Host.reduce IntOp.andi x v reducesTo_S1024x5632_S_d0_1 h_S_) main_v33 main_c_11
  let main_v35 : IVec S_ 1 := andi main_v30 main_v34
  let main_v36 : FVec F S3x2816 .f32 := Host.absf main_arg6
  let main_cst_12 : FVec F S_ .f32 := constant S_ .f32 0x7F800000#32
  let main_v37 : FVec F S3x2816 .f32 := broadcastInDim S3x2816 ![] bcast_S_S3x2816 main_cst_12
  let main_v38 : IVec S3x2816 1 := cmpf .olt main_v36 main_v37
  let main_c_13 : IVec S_ 1 := constantI S_ 1 1#1
  let main_v39 : IVec S_ 1 := (fun x v => Host.reduce IntOp.andi x v reducesTo_S3x2816_S_d0_1 h_S_) main_v38 main_c_13
  let main_v40 : IVec S_ 1 := andi main_v35 main_v39
  let main_v41 : FVec F S4096x2816 .f32 := Host.absf main_arg7
  let main_cst_14 : FVec F S_ .f32 := constant S_ .f32 0x7F800000#32
  let main_v42 : FVec F S4096x2816 .f32 := broadcastInDim S4096x2816 ![] bcast_S_S4096x2816 main_cst_14
  let main_v43 : IVec S4096x2816 1 := cmpf .olt main_v41 main_v42
  let main_c_15 : IVec S_ 1 := constantI S_ 1 1#1
  let main_v44 : IVec S_ 1 := (fun x v => Host.reduce IntOp.andi x v reducesTo_S4096x2816_S_d0_1 h_S_) main_v43 main_c_15
  let main_v45 : IVec S_ 1 := andi main_v40 main_v44
  let main_v46 : FVec F S4096x2816 .f32 := Host.absf main_arg8
  let main_cst_16 : FVec F S_ .f32 := constant S_ .f32 0x7F800000#32
  let main_v47 : FVec F S4096x2816 .f32 := broadcastInDim S4096x2816 ![] bcast_S_S4096x2816 main_cst_16
  let main_v48 : IVec S4096x2816 1 := cmpf .olt main_v46 main_v47
  let main_c_17 : IVec S_ 1 := constantI S_ 1 1#1
  let main_v49 : IVec S_ 1 := (fun x v => Host.reduce IntOp.andi x v reducesTo_S4096x2816_S_d0_1 h_S_) main_v48 main_c_17
  let main_v50 : IVec S_ 1 := andi main_v45 main_v49
  let main_v51 : FVec F S4096x1024 .f32 := Host.absf main_arg9
  fn_part3 (F := F) main_v50 main_v51

def fn_part1 {F : FTy → Type} [FloatOps F] (main_arg3 : FVec F S1x1024 .f32) (main_arg4 : FVec F S1x1024 .f32) (main_arg5 : FVec F S1024x5632 .f32) (main_arg6 : FVec F S3x2816 .f32) (main_arg7 : FVec F S4096x2816 .f32) (main_arg8 : FVec F S4096x2816 .f32) (main_arg9 : FVec F S4096x1024 .f32) (main_v14 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v14 main_v19
  let main_v21 : FVec F S1x1024 .f32 := Host.absf main_arg3
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_c_7 : IVec S_ 1 := constantI S_ 1 1#1
  let main_v24 : IVec S_ 1 := (fun x v => Host.reduce IntOp.andi x v reducesTo_S1x1024_S_d0_1 h_S_) main_v23 main_c_7
  let main_v25 : IVec S_ 1 := andi main_v20 main_v24
  let main_v26 : FVec F S1x1024 .f32 := Host.absf main_arg4
  let main_cst_8 : FVec F S_ .f32 := constant S_ .f32 0x7F800000#32
  let main_v27 : FVec F S1x1024 .f32 := broadcastInDim S1x1024 ![] bcast_S_S1x1024 main_cst_8
  let main_v28 : IVec S1x1024 1 := cmpf .olt main_v26 main_v27
  let main_c_9 : IVec S_ 1 := constantI S_ 1 1#1
  let main_v29 : IVec S_ 1 := (fun x v => Host.reduce IntOp.andi x v reducesTo_S1x1024_S_d0_1 h_S_) main_v28 main_c_9
  let main_v30 : IVec S_ 1 := andi main_v25 main_v29
  let main_v31 : FVec F S1024x5632 .f32 := Host.absf main_arg5
  let main_cst_10 : FVec F S_ .f32 := constant S_ .f32 0x7F800000#32
  let main_v32 : FVec F S1024x5632 .f32 := broadcastInDim S1024x5632 ![] bcast_S_S1024x5632 main_cst_10
  let main_v33 : IVec S1024x5632 1 := cmpf .olt main_v31 main_v32
  let main_c_11 : IVec S_ 1 := constantI S_ 1 1#1
  fn_part2 (F := F) main_arg6 main_arg7 main_arg8 main_arg9 main_v30 main_v33 main_c_11

def fn {F : FTy → Type} [FloatOps F] (main_arg0 : FVec F S4096x1024 .f32) (main_arg1 : FVec F S4096x1024 .f32) (main_arg2 : FVec F S6x1024 .f32) (main_arg3 : FVec F S1x1024 .f32) (main_arg4 : FVec F S1x1024 .f32) (main_arg5 : FVec F S1024x5632 .f32) (main_arg6 : FVec F S3x2816 .f32) (main_arg7 : FVec F S4096x2816 .f32) (main_arg8 : FVec F S4096x2816 .f32) (main_arg9 : FVec F S4096x1024 .f32) (main_arg10 : FVec F S4x1024x1408 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := (extractStridedSlice S1x1024 ![2, 0] · slices_S6x1024_S1x1024_2_0) main_arg2
  let main_v10 : FVec F S1x1024 .f32 := Host.absf main_v9
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v8 main_v13
  let main_v15 : FVec F S1x1024 .f32 := (extractStridedSlice S1x1024 ![4, 0] · slices_S6x1024_S1x1024_4_0) main_arg2
  let main_v16 : FVec F S1x1024 .f32 := Host.absf main_v15
  let main_cst_4 : FVec F S_ .f32 := constant S_ .f32 0x7F800000#32
  fn_part1 (F := F) main_arg3 main_arg4 main_arg5 main_arg6 main_arg7 main_arg8 main_arg9 main_v14 main_v16 main_cst_4
-- ==== Pre_finite3.lean ====
abbrev S4096x1024 : Shape := ⟨2, ![4096, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S1x1024 : Shape := ⟨2, ![1, 1024]⟩
abbrev S6x1024 : Shape := ⟨2, ![6, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S3x2816 : S_.BroadcastsInDim S3x2816 (![] : Fin 0 → Fin S3x2816.rank)
  reducesTo_S3x2816_S_d0_1 : S3x2816.ReducesTo [0, 1] S_
  bcast_S_S1x2816 : S_.BroadcastsInDim S1x2816 (![] : Fin 0 → Fin S1x2816.rank)
  reducesTo_S1x2816_S_d0_1 : S1x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_
  slices_S6x1024_S1x1024_5_0 : S6x1024.Slices ![5, 0] S1x1024

variable [Facts]

def fn_part2 {F : FTy → Type} [FloatOps F] (main_arg7 : FVec F S1x1024 .f32) (main_arg8 : FVec F S6x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1x1024 .f32 := (extractStridedSlice S1x1024 ![5, 0] · slices_S6x1024_S1x1024_5_0) main_arg8
  let main_v40 : FVec F S1x1024 .f32 := Host.absf main_v39
  let main_cst_14 : FVec F S_ .f32 := constant S_ .f32 0x7F800000#32
  let main_v41 : FVec F S1x1024 .f32 := broadcastInDim S1x1024 ![] bcast_S_S1x1024 main_cst_14
  let main_v42 : IVec S1x1024 1 := cmpf .olt main_v40 main_v41
  let main_c_15 : IVec S_ 1 := constantI S_ 1 1#1
  let main_v43 : IVec S_ 1 := (fun x v => Host.reduce IntOp.andi x v reducesTo_S1x1024_S_d0_1 h_S_) main_v42 main_c_15
  let main_v44 : IVec S_ 1 := andi main_v38 main_v43
  main_v44

def fn_part1 {F : FTy → Type} [FloatOps F] (main_arg4 : FVec F S2816x1024 .f32) (main_arg5 : FVec F S4096x1024 .f32) (main_arg6 : FVec F S4096x1024 .f32) (main_arg7 : FVec F S1x1024 .f32) (main_arg8 : FVec F S6x1024 .f32) (main_v13 : IVec S_ 1) (main_v16 : IVec S1x2816 1) : IVec S_ 1 :=
  let main_c_5 : IVec S_ 1 := constantI S_ 1 1#1
  let main_v17 : IVec S_ 1 := (fun x v => Host.reduce IntOp.andi x v reducesTo_S1x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S1024x5632 .f32) (main_arg2 : FVec F S3x2816 .f32) (main_arg3 : FVec F S1x2816 .f32) (main_arg4 : FVec F S2816x1024 .f32) (main_arg5 : FVec F S4096x1024 .f32) (main_arg6 : FVec F S4096x1024 .f32) (main_arg7 : FVec F S1x1024 .f32) (main_arg8 : FVec F S6x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S3x2816 .f32 := Host.absf main_arg2
  let main_cst_2 : FVec F S_ .f32 := constant S_ .f32 0x7F800000#32
  let main_v10 : FVec F S3x2816 .f32 := broadcastInDim S3x2816 ![] bcast_S_S3x2816 main_cst_2
  let main_v11 : IVec S3x2816 1 := cmpf .olt main_v9 main_v10
  let main_c_3 : IVec S_ 1 := constantI S_ 1 1#1
  let main_v12 : IVec S_ 1 := (fun x v => Host.reduce IntOp.andi x v reducesTo_S3x2816_S_d0_1 h_S_) main_v11 main_c_3
  let main_v13 : IVec S_ 1 := andi main_v8 main_v12
  let main_v14 : FVec F S1x2816 .f32 := Host.absf main_arg3
  let main_cst_4 : FVec F S_ .f32 := constant S_ .f32 0x7F800000#32
  let main_v15 : FVec F S1x2816 .f32 := broadcastInDim S1x2816 ![] bcast_S_S1x2816 main_cst_4
  let main_v16 : IVec S1x2816 1 := cmpf .olt main_v14 main_v15
  fn_part1 (F := F) main_arg4 main_arg5 main_arg6 main_arg7 main_arg8 main_v13 main_v16
-- ==== Pre_finite8.lean ====
abbrev S8x1024 : Shape := ⟨2, ![8, 1024]⟩
abbrev S8x1536 : Shape := ⟨2, ![8, 1536]⟩
abbrev S1024x1536 : Shape := ⟨2, ![1024, 1536]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S8x1536 : S_.BroadcastsInDim S8x1536 (![] : Fin 0 → Fin S8x1536.rank)
  reducesTo_S8x1536_S_d0_1 : S8x1536.ReducesTo [0, 1] S_

variable [Facts]

def fn {F : FTy → Type} [FloatOps F] (main_arg0 : FVec F S8x1024 .f32) (main_arg1 : FVec F S8x1536 .f32) (main_arg2 : FVec F S1024x1536 .f32) (main_arg3 : FVec F S1024x1536 .f32) (main_arg4 : FVec F S1024x1536 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S8x1536 .f32 := Host.absf main_arg1
  let main_cst_0 : FVec F S_ .f32 := constant S_ .f32 0x7F800000#32
  let main_v5 : FVec F S8x1536 .f32 := broadcastInDim S8x1536 ![] bcast_S_S8x1536 main_cst_0
  let main_v6 : IVec S8x1536 1 := cmpf .olt main_v4 main_v5
  let main_c_1 : IVec S_ 1 := constantI S_ 1 1#1
  let main_v7 : IVec S_ 1 := (fun x v => Host.reduce IntOp.andi x v reducesTo_S8x1536_S_d0_1 h_S_) main_v6 main_c_1
  let main_v8 : IVec S_ 1 := andi main_v3 main_v7
  main_v8
-- ==== Kernel.lean ====
abbrev S4096x1024 : Shape := ⟨2, ![4096, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S4096x5632 : Shape := ⟨2, ![4096, 5632]⟩
abbrev S4096x2816 : Shape := ⟨2, ![4096, 2816]⟩
abbrev S4x1024x1408 : Shape := ⟨3, ![4, 1024, 1408]⟩
abbrev S512x1024 : Shape := ⟨2, ![512, 1024]⟩
abbrev S1408x1024 : Shape := ⟨2, ![1408, 1024]⟩
abbrev S512x1408 : Shape := ⟨2, ![512, 1408]⟩
abbrev S16x1408 : Shape := ⟨2, ![16, 1408]⟩
abbrev S3x1408 : Shape := ⟨2, ![3, 1408]⟩
abbrev S1x1408 : Shape := ⟨2, ![1, 1408]⟩
abbrev S1x1024x1408 : Shape := ⟨3, ![1, 1024, 1408]⟩
abbrev S1024x1408 : Shape := ⟨2, ![1024, 1408]⟩
abbrev S512x512 : Shape := ⟨2, ![512, 512]⟩
abbrev S16x512 : Shape := ⟨2, ![16, 512]⟩
abbrev S1x512 : Shape := ⟨2, ![1, 512]⟩
abbrev S512 : Shape := ⟨1, ![512]⟩
abbrev S384x1024 : Shape := ⟨2, ![384, 1024]⟩
abbrev S512x384 : Shape := ⟨2, ![512, 384]⟩
abbrev S1x1024x512 : Shape := ⟨3, ![1, 1024, 512]⟩
abbrev S1024x512 : Shape := ⟨2, ![1024, 512]⟩
abbrev S16x384 : Shape := ⟨2, ![16, 384]⟩
abbrev S1x384 : Shape := ⟨2, ![1, 384]⟩
abbrev S384 : Shape := ⟨1, ![384]⟩
abbrev S1x1024x384 : Shape := ⟨3, ![1, 1024, 384]⟩
abbrev S1024x384 : Shape := ⟨2, ![1024, 384]⟩

abbrev nBuf : Space → Nat
  | .hbm => 21
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x2816, .f32⟩
  | .hbm, ⟨3, _⟩ => ⟨S1x2816, .f32⟩
  | .hbm, ⟨4, _⟩ => ⟨S2816x1024, .f32⟩
  | .hbm, ⟨5, _⟩ => ⟨S4096x1024, .f32⟩
  | .hbm, ⟨6, _⟩ => ⟨S4096x1024, .bf16⟩
  | .hbm, ⟨7, _⟩ => ⟨S1024x5632, .bf16⟩
  | .hbm, ⟨8, _⟩ => ⟨S4096x5632, .f32⟩
  | .hbm, ⟨9, _⟩ => ⟨S4096x2816, .f32⟩
  | .hbm, ⟨10, _⟩ => ⟨S4096x2816, .bf16⟩
  | .hbm, ⟨11, _⟩ => ⟨S4096x2816, .f32⟩
  | .hbm, ⟨12, _⟩ => ⟨S4096x2816, .bf16⟩
  | .hbm, ⟨13, _⟩ => ⟨S4096x1024, .bf16⟩
  | .hbm, ⟨14, _⟩ => ⟨S2816x1024, .bf16⟩
  | .hbm, ⟨15, _⟩ => ⟨S4096x2816, .bf16⟩
  | .hbm, ⟨16, _⟩ => ⟨S3x2816, .f32⟩
  | .hbm, ⟨17, _⟩ => ⟨S1x2816, .f32⟩
  | .hbm, ⟨18, _⟩ => ⟨S2816x1024, .f32⟩
  | .hbm, ⟨19, _⟩ => ⟨S4x1024x1408, .f32⟩
  | .hbm, ⟨20, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S512x1408, .bf16⟩
  | .local _ .vmem, ⟨4, _⟩ => ⟨S512x1408, .bf16⟩
  | .local _ .vmem, ⟨5, _⟩ => ⟨S16x1408, .bf16⟩
  | .local _ .vmem, ⟨6, _⟩ => ⟨S16x1408, .bf16⟩
  | .local _ .vmem, ⟨7, _⟩ => ⟨S512x1408, .bf16⟩
  | .local _ .vmem, ⟨8, _⟩ => ⟨S512x1408, .bf16⟩
  | .local _ .vmem, ⟨9, _⟩ => ⟨S3x1408, .f32⟩
  | .local _ .vmem, ⟨10, _⟩ => ⟨S1x1408, .f32⟩
  | .local _ .vmem, ⟨11, _⟩ => ⟨S512x1024, .bf16⟩
  | .local _ .vmem, ⟨12, _⟩ => ⟨S512x1024, .bf16⟩
  | .local _ .vmem, ⟨13, _⟩ => ⟨S512x1408, .bf16⟩
  | .local _ .vmem, ⟨14, _⟩ => ⟨S512x1408, .bf16⟩
  | .local _ .vmem, ⟨15, _⟩ => ⟨S3x1408, .f32⟩
  | .local _ .vmem, ⟨16, _⟩ => ⟨S1x1408, .f32⟩
  | .local _ .vmem, ⟨17, _⟩ => ⟨S1408x1024, .f32⟩
  | .local _ .vmem, ⟨18, _⟩ => ⟨S1x1024x1408, .f32⟩
  | .local _ .vmem, ⟨19, _⟩ => ⟨S512x1408, .bf16⟩
  | .local _ .vmem, ⟨20, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev main_v9_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![v0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1408x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S3x1408 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S1x1408 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S1408x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S1x1024x1408 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 2 → Memref sig .tc .vmem S512x1408 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "gelu_3c1" => some ((241015141496493 / 2251799813685248 : ℝ) : EReal)
  | "gelu_c0" => some ((6693141 / 8388608 : ℝ) : EReal)
  | "gelu_c1" => some ((80338380498831 / 2251799813685248 : ℝ) : EReal)
  | _ => none
-- ==== ReferenceIdeal.lean ====
abbrev S4096x1024 : Shape := ⟨2, ![4096, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S2x2816 : Shape := ⟨2, ![2, 2816]⟩
abbrev S4098x2816 : Shape := ⟨2, ![4098, 2816]⟩
abbrev S2816 : Shape := ⟨1, ![2816]⟩
abbrev S1024x2816 : Shape := ⟨2, ![1024, 2816]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 151
  | .vmem => 0
  | .smem => 0
  | _ => 0

abbrev hbmTy0_0 (i : Nat) : BufTy := match i % 128 with
  | 0 => ⟨S4096x1024, .f32⟩
  | 1 => ⟨S1024x5632, .f32⟩
  | 2 => ⟨S3x2816, .f32⟩
  | 3 => ⟨S1x2816, .f32⟩
  | 4 => ⟨S2816x1024, .f32⟩
  | 5 => ⟨S4096x1024, .f32⟩
  | 6 => ⟨S4096x5632, .f32⟩
  | 7 => ⟨S4096x2816, .f32⟩
  | 8 => ⟨S4096x2816, .f32⟩
  | 9 => ⟨S_, .f32⟩
  | 10 => ⟨S2x2816, .f32⟩
  | 11 => ⟨S4098x2816, .f32⟩
  | 12 => ⟨S_, .f32⟩
  | 13 => ⟨S2x2816, .f32⟩
  | 14 => ⟨S4096x2816, .f32⟩
  | 15 => ⟨S1x2816, .f32⟩
  | 16 => ⟨S2816, .f32⟩
  | 17 => ⟨S1x2816, .f32⟩
  | 18 => ⟨S4096x2816, .f32⟩
  | 19 => ⟨S4096x2816, .f32⟩
  | 20 => ⟨S4096x2816, .f32⟩
  | 21 => ⟨S1x2816, .f32⟩
  | 22 => ⟨S2816, .f32⟩
  | 23 => ⟨S1x2816, .f32⟩
  | 24 => ⟨S4096x2816, .f32⟩
  | 25 => ⟨S4096x2816, .f32⟩
  | 26 => ⟨S4096x2816, .f32⟩
  | 27 => ⟨S4096x2816, .f32⟩
  | 28 => ⟨S1x2816, .f32⟩
  | 29 => ⟨S2816, .f32⟩
  | 30 => ⟨S1x2816, .f32⟩
  | 31 => ⟨S4096x2816, .f32⟩
  | 32 => ⟨S4096x2816, .f32⟩
  | 33 => ⟨S4096x2816, .f32⟩
  | 34 => ⟨S2816, .f32⟩
  | 35 => ⟨S1x2816, .f32⟩
  | 36 => ⟨S4096x2816, .f32⟩
  | 37 => ⟨S4096x2816, .f32⟩
  | 38 => ⟨S4096x2816, .f32⟩
  | 39 => ⟨S4096x2816, .f32⟩
  | 40 => ⟨S4096x2816, .f32⟩
  | 41 => ⟨S_, .f32⟩
  | 42 => ⟨S4096x2816, .f32⟩
  | 43 => ⟨S4096x2816, .f32⟩
  | 44 => ⟨S_, .f32⟩
  | 45 => ⟨S4096x2816, .f32⟩
  | 46 => ⟨S4096x2816, .f32⟩
  | 47 => ⟨S4096x2816, .f32⟩
  | 48 => ⟨S_, .f32⟩
  | 49 => ⟨S4096x2816, .f32⟩
  | 50 => ⟨S4096x2816, .f32⟩
  | 51 => ⟨S4096x2816, .f32⟩
  | 52 => ⟨S_, .f32⟩
  | 53 => ⟨S4096x2816, .f32⟩
  | 54 => ⟨S4096x2816, .f32⟩
  | 55 => ⟨S_, .f32⟩
  | 56 => ⟨S4096x2816, .f32⟩
  | 57 => ⟨S4096x2816, .f32⟩
  | 58 => ⟨S4096x2816, .f32⟩
  | 59 => ⟨S_, .f32⟩
  | 60 => ⟨S4096x2816, .f32⟩
  | 61 => ⟨S4096x2816, .f32⟩
  | 62 => ⟨S_, .f32⟩
  | 63 => ⟨S4096x2816, .f32⟩
  | 64 => ⟨S4096x2816, .f32⟩
  | 65 => ⟨S4096x2816, .f32⟩
  | 66 => ⟨S4096x2816, .f32⟩
  | 67 => ⟨S4096x1024, .f32⟩
  | 68 => ⟨S1024x2816, .f32⟩
  | 69 => ⟨S2816x1024, .f32⟩
  | 70 => ⟨S4096x2816, .f32⟩
  | 71 => ⟨S4096x2816, .f32⟩
  | 72 => ⟨S4096x2816, .f32⟩
  | 73 => ⟨S4096x2816, .f32⟩
  | 74 => ⟨S4096x2816, .f32⟩
  | 75 => ⟨S_, .f32⟩
  | 76 => ⟨S4096x2816, .f32⟩
  | 77 => ⟨S4096x2816, .f32⟩
  | 78 => ⟨S4096x2816, .f32⟩
  | 79 => ⟨S_, .f32⟩
  | 80 => ⟨S4096x2816, .f32⟩
  | 81 => ⟨S4096x2816, .f32⟩
  | 82 => ⟨S4096x2816, .f32⟩
  | 83 => ⟨S_, .f32⟩
  | 84 => ⟨S4096x2816, .f32⟩
  | 85 => ⟨S4096x2816, .f32⟩
  | 86 => ⟨S4096x2816, .f32⟩
  | 87 => ⟨S4096x2816, .f32⟩
  | 88 => ⟨S_, .f32⟩
  | 89 => ⟨S2816, .f32⟩
  | 90 => ⟨S1x2816, .f32⟩
  | 91 => ⟨S_, .f32⟩
  | 92 => ⟨S2816, .f32⟩
  | 93 => ⟨S1x2816, .f32⟩
  | 94 => ⟨S4096x2816, .f32⟩
  | 95 => ⟨S_, .f32⟩
  | 96 => ⟨S2816, .f32⟩
  | 97 => ⟨S1x2816, .f32⟩
  | 98 => ⟨S4096x2816, .f32⟩
  | 99 => ⟨S4096x2816, .f32⟩
  | 100 => ⟨S_, .f32⟩
  | 101 => ⟨S2816, .f32⟩
  | 102 => ⟨S1x2816, .f32⟩
  | 103 => ⟨S_, .f32⟩
  | 104 => ⟨S3x2816, .f32⟩
  | 105 => ⟨S_, .f32⟩
  | 106 => ⟨S4098x2816, .f32⟩
  | 107 => ⟨S4096x2816, .f32⟩
  | 108 => ⟨S_, .f32⟩
  | 109 => ⟨S2816, .f32⟩
  | 110 => ⟨S1x2816, .f32⟩
  | 111 => ⟨S4096x2816, .f32⟩
  | 112 => ⟨S4096x2816, .f32⟩
  | 113 => ⟨S_, .f32⟩
  | 114 => ⟨S2816, .f32⟩
  | 115 => ⟨S1x2816, .f32⟩
  | 116 => ⟨S_, .f32⟩
  | 117 => ⟨S3x2816, .f32⟩
  | 118 => ⟨S3x2816, .f32⟩
  | 119 => ⟨S_, .f32⟩
  | 120 => ⟨S4098x2816, .f32⟩
  | 121 => ⟨S4098x2816, .f32⟩
  | 122 => ⟨S4096x2816, .f32⟩
  | 123 => ⟨S_, .f32⟩
  | 124 => ⟨S2816, .f32⟩
  | 125 => ⟨S1x2816, .f32⟩
  | 126 => ⟨S4096x2816, .f32⟩
  | 127 => ⟨S4096x2816, .f32⟩
  | _ => ⟨S4096x1024, .f32⟩

abbrev hbmTy0_1 (i : Nat) : BufTy := match i % 128 with
  | 0 => ⟨S_, .f32⟩
  | 1 => ⟨S2816, .f32⟩
  | 2 => ⟨S1x2816, .f32⟩
  | 3 => ⟨S_, .f32⟩
  | 4 => ⟨S3x2816, .f32⟩
  | 5 => ⟨S3x2816, .f32⟩
  | 6 => ⟨S_, .f32⟩
  | 7 => ⟨S4098x2816, .f32⟩
  | 8 => ⟨S4098x2816, .f32⟩
  | 9 => ⟨S2x2816, .f32⟩
  | 10 => ⟨S4096x2816, .f32⟩
  | 11 => ⟨S_, .f32⟩
  | 12 => ⟨S4096x5632, .f32⟩
  | 13 => ⟨S_, .f32⟩
  | 14 => ⟨S4096x5632, .f32⟩
  | 15 => ⟨S4096x5632, .f32⟩
  | 16 => ⟨S5632x1024, .f32⟩
  | 17 => ⟨S1024x5632, .f32⟩
  | 18 => ⟨S4096x1024, .f32⟩
  | 19 => ⟨S1024x4x1408, .f32⟩
  | 20 => ⟨S4x1024x1408, .f32⟩
  | 21 => ⟨S4096x2816, .bf16⟩
  | 22 => ⟨S4096x2816, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_1 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_8 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_10 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_11 : Ref sig .tc := ⟨.hbm, 88, rfl⟩
abbrev main_v70 : Ref sig .tc := ⟨.hbm, 89, rfl⟩
abbrev main_v71 : Ref sig .tc := ⟨.hbm, 90, rfl⟩
abbrev main_cst_12 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_13 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_14 : Ref sig .tc := ⟨.hbm, 100, rfl⟩
abbrev main_v79 : Ref sig .tc := ⟨.hbm, 101, rfl⟩
abbrev main_v80 : Ref sig .tc := ⟨.hbm, 102, rfl⟩
abbrev main_cst_15 : Ref sig .tc := ⟨.hbm, 103, rfl⟩
abbrev main_v81 : Ref sig .tc := ⟨.hbm, 104, rfl⟩
abbrev main_cst_16 : Ref sig .tc := ⟨.hbm, 105, rfl⟩
abbrev main_v82 : Ref sig .tc := ⟨.hbm, 106, rfl⟩
abbrev main_v83 : Ref sig .tc := ⟨.hbm, 107, rfl⟩
abbrev main_cst_17 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_18 : Ref sig .tc := ⟨.hbm, 113, rfl⟩
abbrev main_v88 : Ref sig .tc := ⟨.hbm, 114, rfl⟩
abbrev main_v89 : Ref sig .tc := ⟨.hbm, 115, rfl⟩
abbrev main_cst_19 : Ref sig .tc := ⟨.hbm, 116, rfl⟩
abbrev main_v90 : Ref sig .tc := ⟨.hbm, 117, rfl⟩
abbrev main_v91 : Ref sig .tc := ⟨.hbm, 118, rfl⟩
abbrev main_cst_20 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_21 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_22 : Ref sig .tc := ⟨.hbm, 128, rfl⟩
abbrev main_v99 : Ref sig .tc := ⟨.hbm, 129, rfl⟩
abbrev main_v100 : Ref sig .tc := ⟨.hbm, 130, rfl⟩
abbrev main_cst_23 : Ref sig .tc := ⟨.hbm, 131, rfl⟩
abbrev main_v101 : Ref sig .tc := ⟨.hbm, 132, rfl⟩
abbrev main_v102 : Ref sig .tc := ⟨.hbm, 133, rfl⟩
abbrev main_cst_24 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_25 : Ref sig .tc := ⟨.hbm, 139, rfl⟩
abbrev main_v107 : Ref sig .tc := ⟨.hbm, 140, rfl⟩
abbrev main_cst_26 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩

abbrev nD : Nat := 1
abbrev τ : Topo := Topo.v7x

variable {F : FTy → Type} [FloatOps F]
-- ==== Kernel2.lean ====
abbrev S4096x1024 : Shape := ⟨2, ![4096, 1024]⟩
abbrev S6x1024 : Shape := ⟨2, ![6, 1024]⟩
abbrev S1x1024 : Shape := ⟨2, ![1, 1024]⟩
abbrev S1024x5632 : Shape := ⟨2, ![1024, 5632]⟩
abbrev S3x2816 : Shape := ⟨2, ![3, 2816]⟩
abbrev S4096x2816 : Shape := ⟨2, ![4096, 2816]⟩
abbrev S4x1024x1408 : Shape := ⟨3, ![4, 1024, 1408]⟩
abbrev S_ : Shape := ⟨0, ![]⟩
abbrev S4096 : Shape := ⟨1, ![4096]⟩
abbrev S4096x1 : Shape := ⟨2, ![4096, 1]⟩
abbrev S1024x4x1408 : Shape := ⟨3, ![1024, 4, 1408]⟩
abbrev S256x2816 : Shape := ⟨2, ![256, 2816]⟩
abbrev S16x2816 : Shape := ⟨2, ![16, 2816]⟩
abbrev S256x1024 : Shape := ⟨2, ![256, 1024]⟩
abbrev S2x1024x1408 : Shape := ⟨3, ![2, 1024, 1408]⟩
abbrev S256x1408 : Shape := ⟨2, ![256, 1408]⟩
abbrev S16x1408 : Shape := ⟨2, ![16, 1408]⟩
abbrev S1x1408 : Shape := ⟨2, ![1, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S1024 : Shape := ⟨1, ![1024]⟩

abbrev nBuf : Space → Nat
  | .hbm => 69
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S6x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S3x2816, .f32⟩
  | .hbm, ⟨7, _⟩ => ⟨S4096x2816, .f32⟩
  | .hbm, ⟨8, _⟩ => ⟨S4096x2816, .f32⟩
  | .hbm, ⟨9, _⟩ => ⟨S4096x1024, .f32⟩
  | .hbm, ⟨10, _⟩ => ⟨S4x1024x1408, .f32⟩
  | .hbm, ⟨11, _⟩ => ⟨S1x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S_, .f32⟩
  | .hbm, ⟨47, _⟩ => ⟨S1x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S1024x4x1408, .f32⟩
  | .hbm, ⟨55, _⟩ => ⟨S4x1024x1408, .f32⟩
  | .hbm, ⟨56, _⟩ => ⟨S4x1024x1408, .bf16⟩
  | .hbm, ⟨57, _⟩ => ⟨S4096x2816, .bf16⟩
  | .hbm, ⟨58, _⟩ => ⟨S4096x2816, .bf16⟩
  | .hbm, ⟨59, _⟩ => ⟨S4096x1024, .bf16⟩
  | .hbm, ⟨60, _⟩ => ⟨S4096x1024, .bf16⟩
  | .hbm, ⟨61, _⟩ => ⟨S4096x1024, .f32⟩
  | .hbm, ⟨62, _⟩ => ⟨S4096x1024, .bf16⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S4x1024x1408, .f32⟩
  | .local _ .vmem, ⟨0, _⟩ => ⟨S256x2816, .bf16⟩
  | .local _ .vmem, ⟨1, _⟩ => ⟨S256x2816, .bf16⟩
  | .local _ .vmem, ⟨2, _⟩ => ⟨S16x2816, .bf16⟩
  | .local _ .vmem, ⟨3, _⟩ => ⟨S16x2816, .bf16⟩
  | .local _ .vmem, ⟨4, _⟩ => ⟨S256x2816, .bf16⟩
  | .local _ .vmem, ⟨5, _⟩ => ⟨S256x2816, .bf16⟩
  | .local _ .vmem, ⟨6, _⟩ => ⟨S3x2816, .f32⟩
  | .local _ .vmem, ⟨7, _⟩ => ⟨S4x1024x1408, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | .local _ .vmem, ⟨16, _⟩ => ⟨S6x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S2x1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43_0 : Ref sig .tc := ⟨.hbm, 61, rfl⟩
abbrev main_v43_1 : Ref sig .tc := ⟨.hbm, 62, rfl⟩
abbrev main_v43_2 : Ref sig .tc := ⟨.hbm, 63, rfl⟩
abbrev main_v43_3 : Ref sig .tc := ⟨.hbm, 64, rfl⟩
abbrev main_v43_4 : Ref sig .tc := ⟨.hbm, 65, rfl⟩
abbrev main_v43_5 : Ref sig .tc := ⟨.hbm, 66, rfl⟩
abbrev main_v43_6 : Ref sig .tc := ⟨.hbm, 67, rfl⟩
abbrev main_v43_7 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S6x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2x1024x1408 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference2Ideal.lean ====
abbrev S4096x1024 : Shape := ⟨2, ![4096, 1024]⟩
abbrev S6x1024 : Shape := ⟨2, ![6, 1024]⟩
abbrev S1x1024 : Shape := ⟨2, ![1, 1024]⟩
abbrev S1024x5632 : Shape := ⟨2, ![1024, 5632]⟩
abbrev S3x2816 : Shape := ⟨2, ![3, 2816]⟩
abbrev S4096x2816 : Shape := ⟨2, ![4096, 2816]⟩
abbrev S4x1024x1408 : Shape := ⟨3, ![4, 1024, 1408]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S2x2816 : Shape := ⟨2, ![2, 2816]⟩
abbrev S4098x2816 : Shape := ⟨2, ![4098, 2816]⟩
abbrev S1x2816 : Shape := ⟨2, ![1, 2816]⟩
abbrev S2816 : Shape := ⟨1, ![2816]⟩
abbrev S5632x1024 : Shape := ⟨2, ![5632, 1024]⟩
abbrev S1024 : Shape := ⟨1, ![1024]⟩
abbrev S1024x4x1408 : Shape := ⟨3, ![1024, 4, 1408]⟩
abbrev S2x1024x1408 : Shape := ⟨3, ![2, 1024, 1408]⟩

abbrev nBuf : Space → Nat
  | .hbm => 185
  | .vmem => 0
  | .smem => 0
  | _ => 0

abbrev hbmTy0_0 (i : Nat) : BufTy := match i % 128 with
  | 0 => ⟨S4096x1024, .f32⟩
  | 1 => ⟨S4096x1024, .f32⟩
  | 2 => ⟨S6x1024, .f32⟩
  | 3 => ⟨S1x1024, .f32⟩
  | 4 => ⟨S1x1024, .f32⟩
  | 5 => ⟨S1024x5632, .f32⟩
  | 6 => ⟨S3x2816, .f32⟩
  | 7 => ⟨S4096x2816, .f32⟩
  | 8 => ⟨S4096x2816, .f32⟩
  | 9 => ⟨S4096x1024, .f32⟩
  | 10 => ⟨S4x1024x1408, .f32⟩
  | 11 => ⟨S1x1024, .f32⟩
  | 12 => ⟨S1x1024, .f32⟩
  | 13 => ⟨S1x1024, .f32⟩
  | 14 => ⟨S4096x1024, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1, .f32⟩
  | 25 => ⟨S4096x1, .f32⟩
  | 26 => ⟨S_, .f32⟩
  | 27 => ⟨S4096x1, .f32⟩
  | 28 => ⟨S4096x1, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S_, .f32⟩
  | 38 => ⟨S4096, .f32⟩
  | 39 => ⟨S4096x1, .f32⟩
  | 40 => ⟨S_, .f32⟩
  | 41 => ⟨S4096x1, .f32⟩
  | 42 => ⟨S4096x1, .f32⟩
  | 43 => ⟨S_, .f32⟩
  | 44 => ⟨S4096x1, .f32⟩
  | 45 => ⟨S4096x1, .f32⟩
  | 46 => ⟨S4096x1, .f32⟩
  | 47 => ⟨S4096x1, .f32⟩
  | 48 => ⟨S_, .f32⟩
  | 49 => ⟨S4096x1, .f32⟩
  | 50 => ⟨S4096x1, .f32⟩
  | 51 => ⟨S4096x1024, .f32⟩
  | 52 => ⟨S4096x1024, .f32⟩
  | 53 => ⟨S4096x1024, .f32⟩
  | 54 => ⟨S4096x1024, .f32⟩
  | 55 => ⟨S_, .f32⟩
  | 56 => ⟨S1x1024, .f32⟩
  | 57 => ⟨S1x1024, .f32⟩
  | 58 => ⟨S4096x1024, .f32⟩
  | 59 => ⟨S4096x1024, .f32⟩
  | 60 => ⟨S4096x1024, .f32⟩
  | 61 => ⟨S4096x1024, .f32⟩
  | 62 => ⟨S4096x5632, .f32⟩
  | 63 => ⟨S4096x2816, .f32⟩
  | 64 => ⟨S4096x2816, .f32⟩
  | 65 => ⟨S_, .f32⟩
  | 66 => ⟨S2x2816, .f32⟩
  | 67 => ⟨S4098x2816, .f32⟩
  | 68 => ⟨S_, .f32⟩
  | 69 => ⟨S2x2816, .f32⟩
  | 70 => ⟨S4096x2816, .f32⟩
  | 71 => ⟨S1x2816, .f32⟩
  | 72 => ⟨S2816, .f32⟩
  | 73 => ⟨S1x2816, .f32⟩
  | 74 => ⟨S4096x2816, .f32⟩
  | 75 => ⟨S4096x2816, .f32⟩
  | 76 => ⟨S4096x2816, .f32⟩
  | 77 => ⟨S1x2816, .f32⟩
  | 78 => ⟨S2816, .f32⟩
  | 79 => ⟨S1x2816, .f32⟩
  | 80 => ⟨S4096x2816, .f32⟩
  | 81 => ⟨S4096x2816, .f32⟩
  | 82 => ⟨S4096x2816, .f32⟩
  | 83 => ⟨S4096x2816, .f32⟩
  | 84 => ⟨S1x2816, .f32⟩
  | 85 => ⟨S2816, .f32⟩
  | 86 => ⟨S1x2816, .f32⟩
  | 87 => ⟨S4096x2816, .f32⟩
  | 88 => ⟨S4096x2816, .f32⟩
  | 89 => ⟨S4096x2816, .f32⟩
  | 90 => ⟨S4096x2816, .f32⟩
  | 91 => ⟨S4096x2816, .f32⟩
  | 92 => ⟨S4096x2816, .f32⟩
  | 93 => ⟨S4096x2816, .f32⟩
  | 94 => ⟨S_, .f32⟩
  | 95 => ⟨S4098x2816, .f32⟩
  | 96 => ⟨S4096x2816, .f32⟩
  | 97 => ⟨S4096x2816, .f32⟩
  | 98 => ⟨S_, .f32⟩
  | 99 => ⟨S4098x2816, .f32⟩
  | 100 => ⟨S4098x2816, .f32⟩
  | 101 => ⟨S4096x2816, .f32⟩
  | 102 => ⟨S4096x2816, .f32⟩
  | 103 => ⟨S_, .f32⟩
  | 104 => ⟨S4098x2816, .f32⟩
  | 105 => ⟨S4098x2816, .f32⟩
  | 106 => ⟨S2x2816, .f32⟩
  | 107 => ⟨S4096x2816, .f32⟩
  | 108 => ⟨S_, .f32⟩
  | 109 => ⟨S4096x5632, .f32⟩
  | 110 => ⟨S_, .f32⟩
  | 111 => ⟨S4096x5632, .f32⟩
  | 112 => ⟨S4096x5632, .f32⟩
  | 113 => ⟨S5632x1024, .f32⟩
  | 114 => ⟨S1024x5632, .f32⟩
  | 115 => ⟨S4096x1024, .f32⟩
  | 116 => ⟨S_, .f32⟩
  | 117 => ⟨S1024, .f32⟩
  | 118 => ⟨S1x1024, .f32⟩
  | 119 => ⟨S4096x1024, .f32⟩
  | 120 => ⟨S_, .f32⟩
  | 121 => ⟨S1024, .f32⟩
  | 122 => ⟨S1x1024, .f32⟩
  | 123 => ⟨S4096x1024, .f32⟩
  | 124 => ⟨S4096x1024, .f32⟩
  | 125 => ⟨S4096x1024, .f32⟩
  | 126 => ⟨S_, .f32⟩
  | 127 => ⟨S1024, .f32⟩
  | _ => ⟨S4096x1024, .f32⟩

abbrev hbmTy0_1 (i : Nat) : BufTy := match i % 128 with
  | 0 => ⟨S1x1024, .f32⟩
  | 1 => ⟨S4096x1024, .f32⟩
  | 2 => ⟨S4096x1024, .f32⟩
  | 3 => ⟨S4096x1024, .f32⟩
  | 4 => ⟨S_, .f32⟩
  | 5 => ⟨S4096, .f32⟩
  | 6 => ⟨S4096x1, .f32⟩
  | 7 => ⟨S4096x1024, .f32⟩
  | 8 => ⟨S4096x1024, .f32⟩
  | 9 => ⟨S4096x1024, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S4096x1024, .f32⟩
  | 25 => ⟨S_, .f32⟩
  | 26 => ⟨S1024, .f32⟩
  | 27 => ⟨S1x1024, .f32⟩
  | 28 => ⟨S4096x1024, .f32⟩
  | 29 => ⟨S_, .f32⟩
  | 30 => ⟨S1024, .f32⟩
  | 31 => ⟨S1x1024, .f32⟩
  | 32 => ⟨S4096x1024, .f32⟩
  | 33 => ⟨S4096x1024, .f32⟩
  | 34 => ⟨S4096x1024, .f32⟩
  | 35 => ⟨S_, .f32⟩
  | 36 => ⟨S4096, .f32⟩
  | 37 => ⟨S4096x1, .f32⟩
  | 38 => ⟨S4096x1024, .f32⟩
  | 39 => ⟨S4096x1024, .f32⟩
  | 40 => ⟨S4096x1, .f32⟩
  | 41 => ⟨S_, .f32⟩
  | 42 => ⟨S4096x1, .f32⟩
  | 43 => ⟨S4096x1, .f32⟩
  | 44 => ⟨S_, .f32⟩
  | 45 => ⟨S4096, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S1024x4x1408, .f32⟩
  | 52 => ⟨S4x1024x1408, .f32⟩
  | 53 => ⟨S4096x1024, .bf16⟩
  | 54 => ⟨S2x1024x1408, .f32⟩
  | 55 => ⟨S2x1024x1408, .f32⟩
  | 56 => ⟨S4x1024x1408, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_10 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_11 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_12 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_13 : Ref sig .tc := ⟨.hbm, 108, rfl⟩
abbrev main_v83 : Ref sig .tc := ⟨.hbm, 109, rfl⟩
abbrev main_cst_14 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_15 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_16 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_17 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_18 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_19 : Ref sig .tc := ⟨.hbm, 139, rfl⟩
abbrev main_v108 : Ref sig .tc := ⟨.hbm, 140, rfl⟩
abbrev main_v109 : Ref sig .tc := ⟨.hbm, 141, rfl⟩
abbrev main_cst_20 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_21 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_22 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_23 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_24 : Ref sig .tc := ⟨.hbm, 169, rfl⟩
abbrev main_v133 : Ref sig .tc := ⟨.hbm, 170, rfl⟩
abbrev main_v134 : Ref sig .tc := ⟨.hbm, 171, rfl⟩
abbrev main_cst_25 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩

abbrev nD : Nat := 1
abbrev τ : Topo := Topo.v7x

variable {F : FTy → Type} [FloatOps F]
-- ==== Kernel3.lean ====
abbrev S4096x1024 : Shape := ⟨2, ![4096, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S1x1024 : Shape := ⟨2, ![1, 1024]⟩
abbrev S6x1024 : Shape := ⟨2, ![6, 1024]⟩
abbrev S1024x4x1408 : Shape := ⟨3, ![1024, 4, 1408]⟩
abbrev S4x1024x1408 : Shape := ⟨3, ![4, 1024, 1408]⟩
abbrev S4096x2816 : Shape := ⟨2, ![4096, 2816]⟩
abbrev S1x128 : Shape := ⟨2, ![1, 128]⟩
abbrev S512x1024 : Shape := ⟨2, ![512, 1024]⟩
abbrev S512x2816 : Shape := ⟨2, ![512, 2816]⟩
abbrev S8x2816 : Shape := ⟨2, ![8, 2816]⟩
abbrev S1x1024x1408 : Shape := ⟨3, ![1, 1024, 1408]⟩
abbrev S1024x1408 : Shape := ⟨2, ![1024, 1408]⟩
abbrev S512x1408 : Shape := ⟨2, ![512, 1408]⟩
abbrev S8x1408 : Shape := ⟨2, ![8, 1408]⟩
abbrev S1x1408 : Shape := ⟨2, ![1, 1408]⟩
abbrev S1408x1024 : Shape := ⟨2, ![1408, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 21
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x2816, .f32⟩
  | .hbm, ⟨3, _⟩ => ⟨S1x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S6x1024, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | .hbm, ⟨12, _⟩ => ⟨S4096x1024, .bf16⟩
  | .hbm, ⟨13, _⟩ => ⟨S2816x1024, .bf16⟩
  | .hbm, ⟨14, _⟩ => ⟨S4096x2816, .bf16⟩
  | .hbm, ⟨15, _⟩ => ⟨S4096x2816, .bf16⟩
  | .hbm, ⟨16, _⟩ => ⟨S4096x1024, .bf16⟩
  | .hbm, ⟨17, _⟩ => ⟨S4096x1024, .f32⟩
  | .hbm, ⟨18, _⟩ => ⟨S1x128, .f32⟩
  | .hbm, ⟨19, _⟩ => ⟨S1x1024, .f32⟩
  | .hbm, ⟨20, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S4x1024x1408, .bf16⟩
  | .local _ .vmem, ⟨3, _⟩ => ⟨S3x2816, .f32⟩
  | .local _ .vmem, ⟨4, _⟩ => ⟨S1x2816, .f32⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S6x1024, .f32⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S1x128, .f32⟩
  | .local _ .vmem, ⟨21, _⟩ => ⟨S1x1024, .f32⟩
  | .local _ .vmem, ⟨22, _⟩ => ⟨S1x1024, .f32⟩
  | .local _ .vmem, ⟨23, _⟩ => ⟨S8x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev main_v5_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Kernel3Ideal.lean ====
variable {F : FTy → Type} [FloatOps F] [Named F]
def κ : String → Option EReal := fun
  | "gelu_c0" => some ((6693141 / 8388608 : ℝ) : EReal)
  | "gelu_c1" => some ((80338380498831 / 2251799813685248 : ℝ) : EReal)
  | _ => none
-- ==== Reference3Ideal.lean ====
abbrev S4096x1024 : Shape := ⟨2, ![4096, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S1x1024 : Shape := ⟨2, ![1, 1024]⟩
abbrev S6x1024 : Shape := ⟨2, ![6, 1024]⟩
abbrev S4096x5632 : Shape := ⟨2, ![4096, 5632]⟩
abbrev S4096x2816 : Shape := ⟨2, ![4096, 2816]⟩
abbrev S_ : Shape := ⟨0, ![]⟩
abbrev S2x2816 : Shape := ⟨2, ![2, 2816]⟩
abbrev S4098x2816 : Shape := ⟨2, ![4098, 2816]⟩
abbrev S2816 : Shape := ⟨1, ![2816]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 135
  | .vmem => 0
  | .smem => 0
  | _ => 0

abbrev hbmTy0_0 (i : Nat) : BufTy := match i % 128 with
  | 0 => ⟨S4096x1024, .f32⟩
  | 1 => ⟨S1024x5632, .f32⟩
  | 2 => ⟨S3x2816, .f32⟩
  | 3 => ⟨S1x2816, .f32⟩
  | 4 => ⟨S2816x1024, .f32⟩
  | 5 => ⟨S4096x1024, .f32⟩
  | 6 => ⟨S4096x1024, .f32⟩
  | 7 => ⟨S1x1024, .f32⟩
  | 8 => ⟨S6x1024, .f32⟩
  | 9 => ⟨S4096x5632, .f32⟩
  | 10 => ⟨S4096x2816, .f32⟩
  | 11 => ⟨S4096x2816, .f32⟩
  | 12 => ⟨S_, .f32⟩
  | 13 => ⟨S2x2816, .f32⟩
  | 14 => ⟨S4098x2816, .f32⟩
  | 15 => ⟨S4096x2816, .f32⟩
  | 16 => ⟨S1x2816, .f32⟩
  | 17 => ⟨S2816, .f32⟩
  | 18 => ⟨S1x2816, .f32⟩
  | 19 => ⟨S4096x2816, .f32⟩
  | 20 => ⟨S4096x2816, .f32⟩
  | 21 => ⟨S4096x2816, .f32⟩
  | 22 => ⟨S1x2816, .f32⟩
  | 23 => ⟨S2816, .f32⟩
  | 24 => ⟨S1x2816, .f32⟩
  | 25 => ⟨S4096x2816, .f32⟩
  | 26 => ⟨S4096x2816, .f32⟩
  | 27 => ⟨S4096x2816, .f32⟩
  | 28 => ⟨S4096x2816, .f32⟩
  | 29 => ⟨S1x2816, .f32⟩
  | 30 => ⟨S2816, .f32⟩
  | 31 => ⟨S1x2816, .f32⟩
  | 32 => ⟨S4096x2816, .f32⟩
  | 33 => ⟨S4096x2816, .f32⟩
  | 34 => ⟨S4096x2816, .f32⟩
  | 35 => ⟨S4096x2816, .f32⟩
  | 36 => ⟨S4096x2816, .f32⟩
  | 37 => ⟨S4096x2816, .f32⟩
  | 38 => ⟨S4096x2816, .f32⟩
  | 39 => ⟨S_, .f32⟩
  | 40 => ⟨S4096x2816, .f32⟩
  | 41 => ⟨S4096x2816, .f32⟩
  | 42 => ⟨S4096x2816, .f32⟩
  | 43 => ⟨S_, .f32⟩
  | 44 => ⟨S4096x2816, .f32⟩
  | 45 => ⟨S4096x2816, .f32⟩
  | 46 => ⟨S4096x2816, .f32⟩
  | 47 => ⟨S_, .f32⟩
  | 48 => ⟨S4096x2816, .f32⟩
  | 49 => ⟨S4096x2816, .f32⟩
  | 50 => ⟨S_, .f32⟩
  | 51 => ⟨S4096x2816, .f32⟩
  | 52 => ⟨S4096x2816, .f32⟩
  | 53 => ⟨S4096x2816, .f32⟩
  | 54 => ⟨S4096x2816, .f32⟩
  | 55 => ⟨S4096x1024, .f32⟩
  | 56 => ⟨S1x1024, .f32⟩
  | 57 => ⟨S4096x1024, .f32⟩
  | 58 => ⟨S_, .f32⟩
  | 59 => ⟨S4096, .f32⟩
  | 60 => ⟨S4096x1, .f32⟩
  | 61 => ⟨S_, .f32⟩
  | 62 => ⟨S4096x1, .f32⟩
  | 63 => ⟨S4096x1, .f32⟩
  | 64 => ⟨S_, .f32⟩
  | 65 => ⟨S4096x1, .f32⟩
  | 66 => ⟨S4096x1, .f32⟩
  | 67 => ⟨S4096x1, .f32⟩
  | 68 => ⟨S4096x1, .f32⟩
  | 69 => ⟨S_, .f32⟩
  | 70 => ⟨S4096x1, .f32⟩
  | 71 => ⟨S4096x1, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S_, .f32⟩
  | 82 => ⟨S4096x1024, .f32⟩
  | 83 => ⟨S4096x1024, .f32⟩
  | 84 => ⟨S_, .f32⟩
  | 85 => ⟨S4096, .f32⟩
  | 86 => ⟨S_, .f32⟩
  | 87 => ⟨S4096, .f32⟩
  | 88 => ⟨S4096, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S4096, .f32⟩
  | 97 => ⟨S_, .f32⟩
  | 98 => ⟨S4096, .f32⟩
  | 99 => ⟨S4096, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S_, .f32⟩
  | 106 => ⟨S1024, .f32⟩
  | 107 => ⟨S1x1024, .f32⟩
  | 108 => ⟨S4096x1024, .f32⟩
  | 109 => ⟨S_, .f32⟩
  | 110 => ⟨S1024, .f32⟩
  | 111 => ⟨S1x1024, .f32⟩
  | 112 => ⟨S4096x1024, .f32⟩
  | 113 => ⟨S4096x1024, .f32⟩
  | 114 => ⟨S4096x1024, .f32⟩
  | 115 => ⟨S_, .f32⟩
  | 116 => ⟨S4096, .f32⟩
  | 117 => ⟨S4096x1, .f32⟩
  | 118 => ⟨S4096x1024, .f32⟩
  | 119 => ⟨S4096x1024, .f32⟩
  | 120 => ⟨S4096x1, .f32⟩
  | 121 => ⟨S_, .f32⟩
  | 122 => ⟨S4096x1, .f32⟩
  | 123 => ⟨S4096x1, .f32⟩
  | 124 => ⟨S_, .f32⟩
  | 125 => ⟨S4096, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x2816, .bf16⟩
  | 4 => ⟨S4096x2816, .bf16⟩
  | 5 => ⟨S4096x1024, .bf16⟩
  | 6 => ⟨S1x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_8 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_v65 : Ref sig .tc := ⟨.hbm, 85, rfl⟩
abbrev main_cst_10 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_cst_12 : Ref sig .tc := ⟨.hbm, 91, rfl⟩
abbrev main_v69 : Ref sig .tc := ⟨.hbm, 92, rfl⟩
abbrev main_cst_13 : Ref sig .tc := ⟨.hbm, 93, rfl⟩
abbrev main_cst_14 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_16 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_18 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_19 : Ref sig .tc := ⟨.hbm, 121, rfl⟩
abbrev main_v92 : Ref sig .tc := ⟨.hbm, 122, rfl⟩
abbrev main_v93 : Ref sig .tc := ⟨.hbm, 123, rfl⟩
abbrev main_cst_20 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩

abbrev nD : Nat := 1
abbrev τ : Topo := Topo.v7x

variable {F : FTy → Type} [FloatOps F]
-- ==== Kernel4.lean ====
abbrev S1024x1408 : Shape := ⟨2, ![1024, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel5.lean ====
abbrev S704x1024 : Shape := ⟨2, ![704, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel6.lean ====
abbrev S1024x640 : Shape := ⟨2, ![1024, 640]⟩
abbrev S256x640 : Shape := ⟨2, ![256, 640]⟩

abbrev nBuf : Space → Nat
  | .hbm => 8
  | .vmem => 16
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S1024x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S1024x640 : Shape := ⟨2, ![1024, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S_, .f32⟩
  | .hbm, ⟨5, _⟩ => ⟨S1024x640, .f32⟩
  | .hbm, ⟨6, _⟩ => ⟨S1024x640, .f32⟩
  | .hbm, ⟨7, _⟩ => ⟨S_, .f32⟩
  | .hbm, ⟨8, _⟩ => ⟨S1024x640, .f32⟩
  | .hbm, ⟨9, _⟩ => ⟨S1024x640, .f32⟩
  | .hbm, ⟨10, _⟩ => ⟨S1024x640, .f32⟩
  | .hbm, ⟨11, _⟩ => ⟨S_, .f32⟩
  | .hbm, ⟨12, _⟩ => ⟨S1024x640, .f32⟩
  | .hbm, ⟨13, _⟩ => ⟨S1024x640, .f32⟩
  | .hbm, ⟨14, _⟩ => ⟨S1024x640, .f32⟩
  | .hbm, ⟨15, _⟩ => ⟨S_, .f32⟩
  | .hbm, ⟨16, _⟩ => ⟨S1024x640, .f32⟩
  | .hbm, ⟨17, _⟩ => ⟨S1024x640, .f32⟩
  | .hbm, ⟨18, _⟩ => ⟨S1024x640, .f32⟩
  | .hbm, ⟨19, _⟩ => ⟨S_, .f32⟩
  | .hbm, ⟨20, _⟩ => ⟨S1024x640, .f32⟩
  | .hbm, ⟨21, _⟩ => ⟨S1024x640, .f32⟩
  | .hbm, ⟨22, _⟩ => ⟨S_, .f32⟩
  | .hbm, ⟨23, _⟩ => ⟨S1024x640, .f32⟩
  | .hbm, ⟨24, _⟩ => ⟨S1024x640, .f32⟩
  | .hbm, ⟨25, _⟩ => ⟨S1024x640, .f32⟩
  | .hbm, ⟨26, _⟩ => ⟨S_, .f32⟩
  | .hbm, ⟨27, _⟩ => ⟨S1024x640, .f32⟩
  | .hbm, ⟨28, _⟩ => ⟨S1024x640, .f32⟩
  | .hbm, ⟨29, _⟩ => ⟨S1024x640, .f32⟩
  | .hbm, ⟨30, _⟩ => ⟨S_, .f32⟩
  | .hbm, ⟨31, _⟩ => ⟨S1024x640, .f32⟩
  | .hbm, ⟨32, _⟩ => ⟨S1024x640, .f32⟩
  | .hbm, ⟨33, _⟩ => ⟨S1024x640, .f32⟩
  | .hbm, ⟨34, _⟩ => ⟨S_, .f32⟩
  | .hbm, ⟨35, _⟩ => ⟨S1024x640, .f32⟩
  | .hbm, ⟨36, _⟩ => ⟨S1024x640, .f32⟩
  | _, _ => ⟨S1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S512x256 : Shape := ⟨2, ![512, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S8x1024 : Shape := ⟨2, ![8, 1024]⟩
abbrev S8x1536 : Shape := ⟨2, ![8, 1536]⟩
abbrev S1024x1536 : Shape := ⟨2, ![1024, 1536]⟩
abbrev S1024x8 : Shape := ⟨2, ![1024, 8]⟩
abbrev S256x8 : Shape := ⟨2, ![256, 8]⟩
abbrev S256x1536 : Shape := ⟨2, ![256, 1536]⟩

abbrev nBuf : Space → Nat
  | .hbm => 10
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x8, .f32⟩
  | .hbm, ⟨6, _⟩ => ⟨S1024x1536, .f32⟩
  | .hbm, ⟨7, _⟩ => ⟨S1024x1536, .f32⟩
  | .hbm, ⟨8, _⟩ => ⟨S1024x1536, .f32⟩
  | .hbm, ⟨9, _⟩ => ⟨S1024x1536, .f32⟩
  | .local _ .vmem, ⟨0, _⟩ => ⟨S256x8, .f32⟩
  | .local _ .vmem, ⟨1, _⟩ => ⟨S256x8, .f32⟩
  | .local _ .vmem, ⟨2, _⟩ => ⟨S8x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S8x1024 : Shape := ⟨2, ![8, 1024]⟩
abbrev S8x1536 : Shape := ⟨2, ![8, 1536]⟩
abbrev S1024x1536 : Shape := ⟨2, ![1024, 1536]⟩
abbrev S_ : Shape := ⟨0, ![]⟩
abbrev S1536x1024 : Shape := ⟨2, ![1536, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1536, .f32⟩
  | .hbm, ⟨15, _⟩ => ⟨S1536x1024, .f32⟩
  | .hbm, ⟨16, _⟩ => ⟨S1024x1536, .f32⟩
  | .hbm, ⟨17, _⟩ => ⟨S_, .f32⟩
  | .hbm, ⟨18, _⟩ => ⟨S1024x1536, .f32⟩
  | .hbm, ⟨19, _⟩ => ⟨S1024x1536, .f32⟩
  | .hbm, ⟨20, _⟩ => ⟨S_, .f32⟩
  | .hbm, ⟨21, _⟩ => ⟨S1024x1536, .f32⟩
  | .hbm, ⟨22, _⟩ => ⟨S1024x1536, .f32⟩
  | .hbm, ⟨23, _⟩ => ⟨S1024x1536, .f32⟩
  | .hbm, ⟨24, _⟩ => ⟨S_, .f32⟩
  | .hbm, ⟨25, _⟩ => ⟨S1024x1536, .f32⟩
  | .hbm, ⟨26, _⟩ => ⟨S1024x1536, .f32⟩
  | .hbm, ⟨27, _⟩ => ⟨S1024x1536, .f32⟩
  | .hbm, ⟨28, _⟩ => ⟨S_, .f32⟩
  | .hbm, ⟨29, _⟩ => ⟨S1024x1536, .f32⟩
  | .hbm, ⟨30, _⟩ => ⟨S1024x1536, .f32⟩
  | .hbm, ⟨31, _⟩ => ⟨S1024x1536, .f32⟩
  | .hbm, ⟨32, _⟩ => ⟨S_, .f32⟩
  | .hbm, ⟨33, _⟩ => ⟨S1024x1536, .f32⟩
  | .hbm, ⟨34, _⟩ => ⟨S1024x1536, .f32⟩
  | .hbm, ⟨35, _⟩ => ⟨S_, .f32⟩
  | .hbm, ⟨36, _⟩ => ⟨S1024x1536, .f32⟩
  | .hbm, ⟨37, _⟩ => ⟨S1024x1536, .f32⟩
  | .hbm, ⟨38, _⟩ => ⟨S1024x1536, .f32⟩
  | .hbm, ⟨39, _⟩ => ⟨S_, .f32⟩
  | .hbm, ⟨40, _⟩ => ⟨S1024x1536, .f32⟩
  | .hbm, ⟨41, _⟩ => ⟨S1024x1536, .f32⟩
  | .hbm, ⟨42, _⟩ => ⟨S1024x1536, .f32⟩
  | .hbm, ⟨43, _⟩ => ⟨S_, .f32⟩
  | .hbm, ⟨44, _⟩ => ⟨S1024x1536, .f32⟩
  | .hbm, ⟨45, _⟩ => ⟨S1024x1536, .f32⟩
  | .hbm, ⟨46, _⟩ => ⟨S1024x1536, .f32⟩
  | .hbm, ⟨47, _⟩ => ⟨S_, .f32⟩
  | .hbm, ⟨48, _⟩ => ⟨S1024x1536, .f32⟩
  | .hbm, ⟨49, _⟩ => ⟨S1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Proof.Spec.lean ====
/-
  The mathematics of the gradient of the gated feed-forward layer, element by element, on the extended reals: the
  tanh form of gelu as the kernel computes it and as the reference's derivative writes it, and that both are one
  function of the convolved gate `z`, at both infinities too.
-/
module

public import Idealize.ShloMosaic.PureOps.Ideal.Laws

@[expose] public section

noncomputable section

namespace Cert.Spec

open Idealize.ShloMosaic

/-- The root of two over pi, as the single-precision constant of the reference. -/
def c0 : ℝ := 6693141 / 8388608

/-- The coefficient of the cube in gelu's tanh, as the single-precision constant of the reference. -/
def c1 : ℝ := 12003091 / 268435456

theorem c0_pos : 0 < c0 := by norm_num [c0]

/-- One half. -/
def half : EReal := ((1 / 2 : ℝ) : EReal)

/-- The tanh inside gelu, in the kernel's grouping. -/
def th (z : EReal) : EReal := Ideal.tanh (z * ((c0 : EReal) + ((c0 * c1 : ℝ) : EReal) * (z * z)))

/-- Half of one plus the tanh: what gelu multiplies its argument by. -/
def wgt (z : EReal) : EReal := half * th z + half

/-- Gelu. -/
def gel (z : EReal) : EReal := z * wgt z

/-- Gelu's derivative, in the kernel's grouping. -/
def slope (z : EReal) : EReal :=
  wgt z + z * ((c0 : EReal) + ((3 * (c0 * c1) : ℝ) : EReal) * (z * z)) * (half - half * (th z * th z))

/-- The tanh inside gelu, in the reference's grouping. -/
def refT (z : EReal) : EReal := Ideal.tanh ((c0 : EReal) * (z + (c1 : EReal) * (z * z * z)))

/-- What the reference's gelu multiplies its argument by. -/
def refW (z : EReal) : EReal := half * (1 + refT z)

/-- The part of the reference's derivative that goes through the tanh, of a cotangent `p`. -/
def refD (z p : EReal) : EReal :=
  (c0 : EReal) * (half * (z * p) * ((1 + refT z) * (1 - refT z)))

/-- The reference's derivative of gelu applied to a cotangent `p`. -/
def refG (z p : EReal) : EReal :=
  p * refW z + refD z p + (c1 : EReal) * refD z p * (((3 : ℝ) : EReal) * (z * z))

theorem pos_c01 : (0 : ℝ) < c0 * c1 := mul_pos c0_pos (by norm_num [c1])

theorem refT_eq (z : EReal) : refT z = th z := by
  unfold refT th
  congr 1
  have hc0 := c0_pos
  have hc1 : (0 : ℝ) < c1 := by norm_num [c1]
  have hp := pos_c01
  induction z with
  | bot =>
    simp only [EReal.bot_mul_bot, EReal.top_mul_bot, EReal.coe_mul_bot_of_pos hc1, EReal.coe_mul_top_of_pos hp,
      EReal.bot_add, EReal.coe_mul_bot_of_pos hc0, EReal.coe_add_top, EReal.bot_mul_top]
  | top =>
    simp only [EReal.top_mul_top, EReal.coe_mul_top_of_pos hc1, EReal.coe_mul_top_of_pos hp,
      EReal.top_add_top, EReal.coe_mul_top_of_pos hc0, EReal.coe_add_top]
  | coe z =>
    norm_cast
    ring

theorem th_top : th ⊤ = 1 := by
  unfold th
  simp only [EReal.top_mul_top, EReal.coe_mul_top_of_pos pos_c01, EReal.coe_add_top, Ideal.tanh_top]

theorem th_bot : th ⊥ = -1 := by
  unfold th
  simp only [EReal.bot_mul_bot, EReal.coe_mul_top_of_pos pos_c01, EReal.coe_add_top, EReal.bot_mul_top, Ideal.tanh_bot]

/-- The tanh is a real everywhere. -/
theorem th_real (z : EReal) : ∃ t : ℝ, th z = (t : EReal) := by
  induction z with
  | bot => exact ⟨-1, by rw [th_bot, EReal.coe_neg, EReal.coe_one]⟩
  | top => exact ⟨1, by rw [th_top]; norm_cast⟩
  | coe z =>
    refine ⟨Real.tanh (z * (c0 + c0 * c1 * (z * z))), ?_⟩
    unfold th
    rw [show (z : EReal) * ((c0 : EReal) + ((c0 * c1 : ℝ) : EReal) * ((z : EReal) * (z : EReal)))
      = ((z * (c0 + c0 * c1 * (z * z)) : ℝ) : EReal) by norm_cast, Ideal.tanh_coe]

theorem refW_eq (z : EReal) : refW z = wgt z := by
  unfold refW wgt
  rw [refT_eq]
  obtain ⟨t, ht⟩ := th_real z
  rw [ht, half]
  norm_cast
  ring

/-- For a real cotangent the two derivatives agree, at the infinities as well: there the tanh is one or minus one
    and everything that goes through it vanishes. -/
theorem refG_eq (z : EReal) (p : ℝ) : refG z p = p * slope z := by
  unfold refG slope refD
  rw [refW_eq, refT_eq]
  have h0 : (c1 : EReal) * 0 = 0 := mul_zero _
  induction z with
  | bot =>
    have e1 : ((1 : EReal) + -1) = 0 := by
      rw [← EReal.coe_one, ← EReal.coe_neg, ← EReal.coe_add]; norm_num
    have e2 : half - half * (-1 * -1) = 0 := by unfold half; norm_cast; norm_num
    rw [th_bot, e1, e2]
    simp only [zero_mul, mul_zero, add_zero]
  | top =>
    have e1 : ((1 : EReal) - 1) = 0 := by
      rw [← EReal.coe_one, ← EReal.coe_sub]; norm_num
    have e2 : half - half * (1 * 1) = 0 := by unfold half; norm_cast; norm_num
    rw [th_top, e1, e2]
    simp only [zero_mul, mul_zero, add_zero]
  | coe z =>
    obtain ⟨t, ht⟩ := th_real z
    unfold wgt
    rw [ht, half]
    norm_cast
    ring

/-! ## The layer's arrays -/

/-- The operands of the layer's gradient: the normed hidden state, the up projection (gate columns, then value columns),
    the causal convolution's three taps and its bias, the down projection, the cotangent of the layer's output. -/
structure Args where
  /-- the hidden state -/
  H : Fin 4096 → Fin 1024 → EReal
  /-- the up projection -/
  WU : Fin 1024 → Fin 5632 → EReal
  /-- the taps -/
  CW : Fin 3 → Fin 2816 → EReal
  /-- the bias -/
  CB : Fin 2816 → EReal
  /-- the down projection -/
  WD : Fin 2816 → Fin 1024 → EReal
  /-- the cotangent -/
  CT : Fin 4096 → Fin 1024 → EReal

namespace Args

variable (A : Args)

/-- The gate before the convolution. -/
def gate (r : Fin 4096) (j : Fin 2816) : EReal := ∑ q, A.H r q * A.WU q ⟨j.val, by omega⟩

/-- The value half of the up projection. -/
def value (r : Fin 4096) (j : Fin 2816) : EReal := ∑ q, A.H r q * A.WU q ⟨2816 + j.val, by omega⟩

/-- The gate `s` tokens back, zero before the first token. -/
def back (s : ℕ) (r : Fin 4096) (j : Fin 2816) : EReal :=
  if s ≤ r.val then A.gate ⟨r.val - s, by omega⟩ j else 0

/-- The convolved gate. -/
def z (r : Fin 4096) (j : Fin 2816) : EReal :=
  A.back 2 r j * A.CW 0 j + A.back 1 r j * A.CW 1 j + A.gate r j * A.CW 2 j + A.CB j

/-- The cotangent of the gated product. -/
def da (r : Fin 4096) (j : Fin 2816) : EReal := ∑ q, A.CT r q * A.WD j q

/-- The cotangent of the convolved gate. -/
def dg (r : Fin 4096) (j : Fin 2816) : EReal := A.da r j * A.value r j * slope (A.z r j)

/-- The cotangent of the value half. -/
def dv (r : Fin 4096) (j : Fin 2816) : EReal := A.da r j * gel (A.z r j)

/-- The gated product. -/
def act (r : Fin 4096) (j : Fin 2816) : EReal := gel (A.z r j) * A.value r j

/-- The gradient of tap `k`. -/
def dcw (k : Fin 3) (j : Fin 2816) : EReal := ∑ r, A.dg r j * A.back (2 - k.val) r j

/-- The gradient of the bias. -/
def dcb (j : Fin 2816) : EReal := ∑ r, A.dg r j

/-- The gradient of the down projection. -/
def dwd (j : Fin 2816) (q : Fin 1024) : EReal := ∑ r, A.act r j * A.CT r q

/-- The gradient of the up projection's value columns. -/
def dwu (q : Fin 1024) (j : Fin 2816) : EReal := ∑ r, A.H r q * A.dv r j

/-- The matrices are real: no entry is infinite. Nothing is asked of the taps and the bias. -/
def Finite : Prop :=
  (∀ r q, ∃ x : ℝ, A.H r q = x) ∧ (∀ q j, ∃ x : ℝ, A.WU q j = x) ∧ (∀ j q, ∃ x : ℝ, A.WD j q = x)
    ∧ (∀ r q, ∃ x : ℝ, A.CT r q = x)

/-- A finite sum of products of reals is a real. -/
theorem sum_real {n : ℕ} (f g : Fin n → EReal) (hf : ∀ q, ∃ x : ℝ, f q = x) (hg : ∀ q, ∃ x : ℝ, g q = x) :
    ∃ x : ℝ, ∑ q, f q * g q = x := by
  choose a ha using hf
  choose b hb using hg
  refine ⟨∑ q, a q * b q, ?_⟩
  simp only [ha, hb, ← EReal.coe_mul]
  exact (map_sum (⟨⟨Real.toEReal, EReal.coe_zero⟩, EReal.coe_add⟩ : ℝ →+ EReal) _ _).symm

theorem dav_real (h : A.Finite) (r : Fin 4096) (j : Fin 2816) : ∃ p : ℝ, A.da r j * A.value r j = p := by
  obtain ⟨x, hx⟩ := sum_real (A.CT r) (A.WD j) (h.2.2.2 r) (h.2.2.1 j)
  obtain ⟨y, hy⟩ := sum_real (A.H r) (fun q => A.WU q ⟨2816 + j.val, by omega⟩) (h.1 r) (fun q => h.2.1 q _)
  exact ⟨x * y, by rw [EReal.coe_mul, ← hx, ← hy]; rfl⟩

/-- The reference's derivative at an element is the kernel's. -/
theorem refG_dg (h : A.Finite) (r : Fin 4096) (j : Fin 2816) :
    refG (A.z r j) (A.da r j * A.value r j) = A.dg r j := by
  obtain ⟨p, hp⟩ := A.dav_real h r j
  rw [dg, hp, refG_eq]

end Args

end Cert.Spec

end
-- ==== Proof.Consts.lean ====
/-
  The float constants of the two programs as the extended reals they denote.
-/
module

public import proofs.«01_k».proof.Proof.Spec
public import proofs.«01_k».proof.Proof.Gen.KernelIdeal

@[expose] public section

noncomputable section

namespace Cert.Consts

open Idealize.ShloMosaic Cert.Spec

theorem f32_c0 : Ideal.ofBits .f32 0x3F4C422A#32 = ((c0 : ℝ) : EReal) := by
  simp [Ideal.ofBits, Ideal.ieee, -EReal.coe_mul, c0]; norm_num

theorem f32_c1 : Ideal.ofBits .f32 0x3D372713#32 = ((c1 : ℝ) : EReal) := by
  simp [Ideal.ofBits, Ideal.ieee, -EReal.coe_mul, c1]; norm_num

theorem f32_one : Ideal.ofBits .f32 0x3F800000#32 = 1 := by
  simp [Ideal.ofBits, Ideal.ieee, -EReal.coe_mul]; norm_num

theorem f32_three : Ideal.ofBits .f32 0x40400000#32 = ((3 : ℝ) : EReal) := by
  simp [Ideal.ofBits, Ideal.ieee, -EReal.coe_mul]; norm_num

theorem f32_half : Ideal.ofBits .f32 0x3F000000#32 = half := by
  simp [Ideal.ofBits, Ideal.ieee, -EReal.coe_mul, half]; norm_num

theorem f32_top : Ideal.ofBits .f32 0x7F800000#32 = ⊤ := by
  simp [Ideal.ofBits, Ideal.ieee, -EReal.coe_mul]

theorem bf16_half : Ideal.ofBits .bf16 0x3F00#16 = half := by
  simp [Ideal.ofBits, Ideal.ieee, -EReal.coe_mul, half]; norm_num

theorem named_c0 : Named.named (F := Ideal) Cert.KernelIdeal.κ "gelu_c0" (φ := .bf16) 0x3F4C#16 = ((c0 : ℝ) : EReal) :=
  IdealRules.named_const.ideal_named_scalar _ _ _ _ rfl

theorem named_c1 : Named.named (F := Ideal) Cert.KernelIdeal.κ "gelu_c1" (φ := .bf16) 0x3D12#16
    = ((c0 * c1 : ℝ) : EReal) :=
  (IdealRules.named_const.ideal_named_scalar _ _ _ _ rfl).trans (by norm_num [c0, c1])

theorem named_3c1 : Named.named (F := Ideal) Cert.KernelIdeal.κ "gelu_3c1" (φ := .bf16) 0x3DDB#16
    = ((3 * (c0 * c1) : ℝ) : EReal) :=
  (IdealRules.named_const.ideal_named_scalar _ _ _ _ rfl).trans (by norm_num [c0, c1])

end Cert.Consts

end
-- ==== Proof.RefSpec.lean ====
/-
  The reference's arrays read at an index: what its host program computes, as the layer's mathematics (Spec.lean).
-/
module

public import proofs.«01_k».proof.Proof.Spec
public import proofs.«01_k».proof.Proof.Consts
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.RefSpec

open Idealize.ShloMosaic Idealize.ShloMosaic.TcCoe Idealize.SL.Sem
open Cert.ReferenceIdeal Cert.ReferenceIdeal.Gen Cert.ReferenceIdeal.Read

/-- The operands as the mathematics' bundle. -/
def args (x0 : FVec Ideal S4096x1024 .f32) (x1 : FVec Ideal S1024x5632 .f32) (x2 : FVec Ideal S3x2816 .f32)
    (x3 : FVec Ideal S1x2816 .f32) (x4 : FVec Ideal S2816x1024 .f32) (x5 : FVec Ideal S4096x1024 .f32) : Spec.Args where
  H r q := x0 (ix2 r q)
  WU q j := x1 (ix2 q j)
  CW k j := x2 (ix2 k j)
  CB j := x3 (ix2 0 j)
  WD j q := x4 (ix2 j q)
  CT r q := x5 (ix2 r q)

variable (x0 : FVec Ideal S4096x1024 .f32) (x1 : FVec Ideal S1024x5632 .f32) (x2 : FVec Ideal S3x2816 .f32)
  (x3 : FVec Ideal S1x2816 .f32) (x4 : FVec Ideal S2816x1024 .f32) (x5 : FVec Ideal S4096x1024 .f32)

theorem gate_at (r : Fin 4096) (j : Fin 2816) :
    val_main_v1 (F := Ideal) x0 x1 (ix2 r j) = (args x0 x1 x2 x3 x4 x5).gate r j := by
  pointwise [val_main_v1, val_main_v0, Spec.Args.gate, args]

theorem value_at (r : Fin 4096) (j : Fin 2816) :
    val_main_v2 (F := Ideal) x0 x1 (ix2 r j) = (args x0 x1 x2 x3 x4 x5).value r j := by
  pointwise [val_main_v2, val_main_v0, Spec.Args.value, args]

theorem da_at (r : Fin 4096) (j : Fin 2816) :
    val_main_v55 (F := Ideal) x4 x5 (ix2 r j) = (args x0 x1 x2 x3 x4 x5).da r j := by
  pointwise [val_main_v55, Spec.Args.da, args]

theorem pad_at (r : Fin 4098) (j : Fin 2816) :
    val_main_v4 (F := Ideal) x0 x1 (ix2 r j) = if h : r.val < 2 then 0 else
      (args x0 x1 x2 x3 x4 x5).gate ⟨r.val - 2, by omega⟩ j := by
  unfold val_main_v4
  pointwise [val_main_v3, val_main_cst]
  simp only [gate_at x0 x1 x2 x3 x4 x5]

/-- The gate two tokens back. -/
theorem back2_at (r : Fin 4096) (j : Fin 2816) :
    val_main_v6 (F := Ideal) x0 x1 (ix2 r j) = (args x0 x1 x2 x3 x4 x5).back 2 r j := by
  pointwise [val_main_v6]
  rw [pad_at x0 x1 x2 x3 x4 x5]
  unfold Spec.Args.back
  by_cases h : r.val < 2
  · simp [h, show ¬ 2 ≤ r.val by omega]
  · simp [h, show 2 ≤ r.val by omega]

/-- The gate one token back. -/
theorem back1_at (r : Fin 4096) (j : Fin 2816) :
    val_main_v12 (F := Ideal) x0 x1 (ix2 r j) = (args x0 x1 x2 x3 x4 x5).back 1 r j := by
  pointwise [val_main_v12]
  rw [pad_at x0 x1 x2 x3 x4 x5]
  unfold Spec.Args.back
  by_cases h : 1 + r.val < 2
  · simp [h, show ¬ 1 ≤ r.val by omega]
  · simp [h, show 1 ≤ r.val by omega, show 1 + r.val - 2 = r.val - 1 by omega]

/-- The gate itself, read out of the padded array. -/
theorem back0_at (r : Fin 4096) (j : Fin 2816) :
    val_main_v19 (F := Ideal) x0 x1 (ix2 r j) = (args x0 x1 x2 x3 x4 x5).gate r j := by
  pointwise [val_main_v19]
  rw [pad_at x0 x1 x2 x3 x4 x5]
  simp [show ¬ 2 + r.val < 2 by omega]

theorem z_at (r : Fin 4096) (j : Fin 2816) :
    val_main_v29 (F := Ideal) x0 x1 x2 x3 (ix2 r j) = (args x0 x1 x2 x3 x4 x5).z r j := by
  unfold val_main_v29 val_main_v25 val_main_v18 val_main_v11 val_main_v17 val_main_v24
  pointwise [val_main_v28, val_main_v27, val_main_v26, val_main_v10, val_main_v9, val_main_v8, val_main_v7, val_main_v16,
    val_main_v15, val_main_v14, val_main_v13, val_main_v23, val_main_v22, val_main_v21, val_main_v20]
  rw [back0_at x0 x1 x2 x3 x4 x5, back1_at x0 x1 x2 x3 x4 x5, back2_at x0 x1 x2 x3 x4 x5]
  unfold Spec.Args.z args
  rfl

theorem tanh_at (r : Fin 4096) (j : Fin 2816) :
    val_main_v40 (F := Ideal) x0 x1 x2 x3 (ix2 r j) = Spec.refT ((args x0 x1 x2 x3 x4 x5).z r j) := by
  pointwise [val_main_v40, val_main_v39, val_main_v37, val_main_v36, val_main_v31, val_main_v30, val_main_v38, val_main_cst_3,
    val_main_v35, val_main_cst_2]
  simp only [z_at x0 x1 x2 x3 x4 x5, Consts.f32_c0, Consts.f32_c1]
  unfold Spec.refT
  rfl

theorem wgt_at (r : Fin 4096) (j : Fin 2816) :
    val_main_v49 (F := Ideal) x0 x1 x2 x3 (ix2 r j) = Spec.wgt ((args x0 x1 x2 x3 x4 x5).z r j) := by
  pointwise [val_main_v49, val_main_v48, val_main_v47, val_main_v46, val_main_cst_6, val_main_cst_7]
  rw [tanh_at x0 x1 x2 x3 x4 x5, Consts.f32_half, ← Spec.refW_eq]
  rfl

theorem gel_at (r : Fin 4096) (j : Fin 2816) :
    val_main_v50 (F := Ideal) x0 x1 x2 x3 (ix2 r j) = Spec.gel ((args x0 x1 x2 x3 x4 x5).z r j) := by
  pointwise [val_main_v50]
  rw [wgt_at x0 x1 x2 x3 x4 x5, z_at x0 x1 x2 x3 x4 x5]
  rfl

theorem act_at (r : Fin 4096) (j : Fin 2816) :
    val_main_v51 (F := Ideal) x0 x1 x2 x3 (ix2 r j) = (args x0 x1 x2 x3 x4 x5).act r j := by
  pointwise [val_main_v51]
  rw [gel_at x0 x1 x2 x3 x4 x5, value_at x0 x1 x2 x3 x4 x5]
  rfl

theorem dv_at (r : Fin 4096) (j : Fin 2816) :
    val_main_v56 (F := Ideal) x0 x1 x2 x3 x4 x5 (ix2 r j) = (args x0 x1 x2 x3 x4 x5).dv r j := by
  pointwise [val_main_v56]
  rw [gel_at x0 x1 x2 x3 x4 x5, da_at x0 x1 x2 x3 x4 x5]
  exact mul_comm _ _

theorem dg_at (h : (args x0 x1 x2 x3 x4 x5).Finite) (r : Fin 4096) (j : Fin 2816) :
    val_main_v69 (F := Ideal) x0 x1 x2 x3 x4 x5 (ix2 r j) = (args x0 x1 x2 x3 x4 x5).dg r j := by
  have e64 : val_main_v64 (F := Ideal) x0 x1 x2 x3 x4 x5 (ix2 r j) = Spec.refD ((args x0 x1 x2 x3 x4 x5).z r j)
      ((args x0 x1 x2 x3 x4 x5).da r j * (args x0 x1 x2 x3 x4 x5).value r j) := by
    pointwise [val_main_v64, val_main_v63, val_main_v62, val_main_v61, val_main_v60, val_main_v58, val_main_v57, val_main_v45,
      val_main_v44, val_main_v43, val_main_v42, val_main_v41, val_main_cst_4, val_main_cst_5, val_main_cst_8, val_main_cst_9]
    rw [tanh_at x0 x1 x2 x3 x4 x5, z_at x0 x1 x2 x3 x4 x5, da_at x0 x1 x2 x3 x4 x5, value_at x0 x1 x2 x3 x4 x5,
      Consts.f32_half, Consts.f32_c0]
    rfl
  pointwise [val_main_v69, val_main_v68, val_main_v67, val_main_v66, val_main_v65, val_main_v59, val_main_v57, val_main_v34,
    val_main_v33, val_main_v32, val_main_cst_10, val_main_cst_1]
  rw [e64, z_at x0 x1 x2 x3 x4 x5, da_at x0 x1 x2 x3 x4 x5, value_at x0 x1 x2 x3 x4 x5, wgt_at x0 x1 x2 x3 x4 x5,
    Consts.f32_three, Consts.f32_c1, ← (args x0 x1 x2 x3 x4 x5).refG_dg h, ← Spec.refW_eq]
  rfl

theorem dwd_at (j : Fin 2816) (q : Fin 1024) :
    val_main_v54 (F := Ideal) x0 x1 x2 x3 x5 (ix2 j q) = (args x0 x1 x2 x3 x4 x5).dwd j q := by
  pointwise [val_main_v54, val_main_v53]
  simp only [act_at x0 x1 x2 x3 x4 x5]
  unfold Spec.Args.dwd
  exact Finset.sum_congr rfl fun r _ => mul_comm _ _

theorem dcb_at (h : (args x0 x1 x2 x3 x4 x5).Finite) (j : Fin 2816) :
    val_main_v73 (F := Ideal) x0 x1 x2 x3 x4 x5 (ix2 0 j) = (args x0 x1 x2 x3 x4 x5).dcb j := by
  pointwise [val_main_v73, val_main_v72, val_main_v71, val_main_v70, val_main_cst_11, val_main_cst_12]
  simp only [dg_at x0 x1 x2 x3 x4 x5 h, Finset.univ_unique, Finset.sum_singleton]
  rfl

theorem dcw_at (h : (args x0 x1 x2 x3 x4 x5).Finite) (k : Fin 3) (j : Fin 2816) :
    val_main_v102 (F := Ideal) x0 x1 x2 x3 x4 x5 (ix2 k j) = (args x0 x1 x2 x3 x4 x5).dcw k j := by
  pointwise [val_main_v102, val_main_v91, val_main_v101, val_main_v81, val_main_v90, val_main_v80, val_main_v89, val_main_v100,
    val_main_v79, val_main_v76, val_main_v75, val_main_v74, val_main_v88, val_main_v85, val_main_v84, val_main_v83,
    val_main_v99, val_main_v96, val_main_v95, val_main_v94, val_main_cst_13, val_main_cst_14, val_main_cst_15, val_main_cst_17,
    val_main_cst_18, val_main_cst_19, val_main_cst_21, val_main_cst_22, val_main_cst_23]
  simp only [dg_at x0 x1 x2 x3 x4 x5 h, Finset.univ_unique, Finset.sum_singleton, back0_at x0 x1 x2 x3 x4 x5,
    back1_at x0 x1 x2 x3 x4 x5, back2_at x0 x1 x2 x3 x4 x5]
  unfold Spec.Args.dcw
  have hz : ∀ r, (args x0 x1 x2 x3 x4 x5).back 0 r j = (args x0 x1 x2 x3 x4 x5).gate r j := fun r => by
    simp [Spec.Args.back]
  match k with
  | 0 => simp [mul_comm]
  | 1 => simp [mul_comm]
  | 2 => simp [hz, mul_comm]

theorem dwu_at (b : Fin 4) (hb : 2 ≤ b.val) (q : Fin 1024) (k : Fin 1408) :
    val_main_v114 (F := Ideal) x0 x1 x2 x3 x4 x5 (ix3 b q k)
      = (args x0 x1 x2 x3 x4 x5).dwu q ⟨(b.val - 2) * 1408 + k.val, by omega⟩ := by
  pointwise [val_main_v114, val_main_v113, val_main_v112, val_main_v111, val_main_v110, val_main_v109, val_main_v108, val_main_v107,
    val_main_cst_25, val_main_cst_26]
  have h1 : 2816 ≤ b.val * 1408 + k.val ∧ b.val * 1408 + k.val - 2816 < 2816 := by omega
  have h2 : ¬ b.val * 1408 + k.val < 2816 := by omega
  simp only [h1, h2, and_self, ↓reduceDIte, add_zero, dv_at x0 x1 x2 x3 x4 x5]
  unfold Spec.Args.dwu
  refine Finset.sum_congr rfl fun r _ => ?_
  rw [mul_comm]
  congr 2
  exact Fin.ext (by simp only; omega)

end Cert.RefSpec

end
-- ==== Proof.Blocks.lean ====
/-
  The kernel's input blocks: what each grid point finds in its windows, as the layer's operands. Grid point `t` is half
  `t / 8` of the feed-forward columns and block `t % 8` of the tokens.
-/
module

public import proofs.«01_k».proof.Proof.RefSpec
public import proofs.«01_k».proof.Proof.Gen.KernelIdeal.Frame.Runs

@[expose] public section

set_option maxRecDepth 16384

noncomputable section

namespace Cert.KerSpec

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The operands in the launch memory. -/
def args : Spec.Args :=
  RefSpec.args (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

theorem idx : ∀ t : Fin cfg0.N, win0_0.index t = ![t.val % 8, 0] ∧ win0_1.index t = ![t.val / 8, 0]
    ∧ win0_2.index t = ![t.val % 8, t.val / 8] ∧ win0_3.index t = ![t.val % 8 * 32 - 1, t.val / 8]
    ∧ win0_4.index t = ![t.val % 8, t.val / 8] ∧ win0_5.index t = ![0, t.val / 8] ∧ win0_6.index t = ![0, t.val / 8]
    ∧ win0_7.index t = ![t.val % 8, 0] ∧ win0_8.index t = ![t.val % 8, t.val / 8] ∧ win0_9.index t = ![0, t.val / 8]
    ∧ win0_10.index t = ![0, t.val / 8] ∧ win0_11.index t = ![t.val / 8, 0] ∧ win0_12.index t = ![2 + t.val / 8, 0, 0]
    ∧ win0_13.index t = ![t.val % 8, t.val / 8] :=
  (by decide +kernel : ∀ t : Fin grid0.N, _)

/-- The token of row `r` of point `t`'s block. -/
abbrev row (t : Fin cfg0.N) (r : Fin 512) : Fin 4096 := ⟨t.val % 8 * 512 + r.val, by omega⟩

/-- The feed-forward column of column `k` of point `t`'s block. -/
abbrev col (t : Fin cfg0.N) (k : Fin 1408) : Fin 2816 :=
  ⟨t.val / 8 * 1408 + k.val, by have h : t.val < 16 := t.isLt; omega⟩

theorem blk0 (t : Fin cfg0.N) (r : Fin 512) (q : Fin 1024) : iblk m c 0 t (ix2 r q) = (args m c).CT (row t r) q := by
  unfold args RefSpec.args
  blk_point [iblk, V, idx t]

theorem blk1 (t : Fin cfg0.N) (k : Fin 1408) (q : Fin 1024) : iblk m c 1 t (ix2 k q) = (args m c).WD (col t k) q := by
  unfold args RefSpec.args
  blk_point [iblk, V, idx t]

theorem blk2 (t : Fin cfg0.N) (r : Fin 512) (k : Fin 1408) :
    iblk m c 2 t (ix2 r k) = (args m c).gate (row t r) (col t k) := by
  unfold Spec.Args.gate args RefSpec.args
  blk_simp [iblk]
  entry_read
  pointwise
  blk_point [idx t]

theorem blk3 (t : Fin cfg0.N) (r : Fin 16) (k : Fin 1408) :
    iblk m c 3 t (ix2 r k) = (args m c).gate ⟨(t.val % 8 * 32 - 1) * 16 + r.val, by omega⟩ (col t k) := by
  unfold Spec.Args.gate args RefSpec.args
  blk_simp [iblk]
  entry_read
  pointwise
  blk_point [idx t]

theorem blk4 (t : Fin cfg0.N) (r : Fin 512) (k : Fin 1408) :
    iblk m c 4 t (ix2 r k) = (args m c).value (row t r) (col t k) := by
  unfold Spec.Args.value args RefSpec.args
  blk_simp [iblk]
  entry_read
  pointwise
  blk_point [idx t]

theorem blk5 (t : Fin cfg0.N) (r : Fin 3) (k : Fin 1408) : iblk m c 5 t (ix2 r k) = (args m c).CW r (col t k) := by
  unfold args RefSpec.args
  blk_point [iblk, V, idx t]

theorem blk6 (t : Fin cfg0.N) (k : Fin 1408) : iblk m c 6 t (ix2 0 k) = (args m c).CB (col t k) := by
  unfold args RefSpec.args
  blk_point [iblk, V, idx t]

theorem blk7 (t : Fin cfg0.N) (r : Fin 512) (q : Fin 1024) : iblk m c 7 t (ix2 r q) = (args m c).H (row t r) q := by
  unfold args RefSpec.args
  blk_point [iblk, V, idx t]

end Cert.KerSpec

end
-- ==== Proof.Taps.lean ====
/-
  The kernel's shifted gates: a block's rows rotated by one and by two, with the rows that the rotation brings from the
  end of the block replaced by the last rows of the block before (by zero at the first block), are the gate one and two
  tokens back.
-/
module

public import proofs.«01_k».proof.Proof.Blocks
public import proofs.«01_k».proof.Proof.Consts

@[expose] public section

set_option maxRecDepth 16384

noncomputable section

namespace Cert.KerSpec

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- A choice by the equality of two small words is a choice by the equality of the numbers. -/
theorem select_word {α : Type} (a b : ℕ) (ha : a < 4294967296) (hb : b < 4294967296) (x y : α) :
    Scalar.select (IntOp.cmpi .eq (BitVec.ofNat 32 a) (BitVec.ofNat 32 b)) x y = if a = b then x else y := by
  have e : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases h : a = b
  · subst h; simp [Scalar.select, IntOp.cmpi]
  · have h' := mt e.mp h
    have h2 : (BitVec.ofNat 32 a == BitVec.ofNat 32 b) = false := beq_eq_false_iff_ne.mpr h'
    simp [Scalar.select, IntOp.cmpi, h, h2]

theorem coord : ∀ t : Fin cfg0.N, (grid0.coords t 1 : ℕ) = t.val % 8 :=
  (by decide +kernel : ∀ t : Fin grid0.N, _)

/-- Row `r` of the block before, zero at the first block. -/
theorem halo (t : Fin cfg0.N) (r : Fin 16) (k : Fin 1408) (hr : 14 ≤ r.val) :
    Scalar.select (Scalar.cmpi CmpIPredicate.eq (BitVec.ofNat 32 (grid0.coords t 1 : ℕ)) 0#32) (0 : EReal)
      (iblk m c 3 t (ix2 r k)) =
    if h : 16 ≤ t.val % 8 * 512 + r.val then (args m c).gate ⟨t.val % 8 * 512 + r.val - 16, by omega⟩ (col t k)
      else 0 := by
  rw [coord, Scalar.cmpi, select_word _ 0 (by omega) (by omega), blk3]
  by_cases h : t.val % 8 = 0
  · rw [if_pos h, dif_neg (by omega)]
  · rw [if_neg h, dif_pos (by omega)]
    congr 1
    apply Fin.ext
    show (t.val % 8 * 32 - 1) * 16 + r.val = t.val % 8 * 512 + r.val - 16
    omega

theorem tap1 (t : Fin cfg0.N) (r : Fin 512) (k : Fin 1408) (p : (r.val + 512 - 1) % 512 < 512) :
    Scalar.select (IntOp.cmpi CmpIPredicate.eq (BitVec.ofNat 32 r.val) 0#32)
      (Scalar.select (Scalar.cmpi CmpIPredicate.eq (BitVec.ofNat 32 (grid0.coords t 1 : ℕ)) 0#32) (0 : EReal)
        (iblk m c 3 t (ix2 15 k)))
      (iblk m c 2 t (ix2 ⟨(r.val + 512 - 1) % 512, p⟩ k)) = (args m c).back 1 (row t r) (col t k) := by
  rw [halo m c t 15 k (by decide), select_word _ 0 (by omega) (by omega), blk2]
  unfold Spec.Args.back
  have e15 : ((15 : Fin 16) : ℕ) = 15 := rfl
  simp only [e15]
  by_cases h : r.val = 0
  · rw [if_pos h]
    by_cases h' : t.val % 8 = 0
    · rw [dif_neg (by omega), if_neg (by show ¬ 1 ≤ t.val % 8 * 512 + r.val; omega)]
    · rw [dif_pos (by omega), if_pos (by show 1 ≤ t.val % 8 * 512 + r.val; omega)]
      congr 1; apply Fin.ext; show t.val % 8 * 512 + 15 - 16 = t.val % 8 * 512 + r.val - 1; omega
  · rw [if_neg h, if_pos (by show 1 ≤ t.val % 8 * 512 + r.val; omega)]
    congr 1; apply Fin.ext
    show t.val % 8 * 512 + (r.val + 512 - 1) % 512 = t.val % 8 * 512 + r.val - 1; omega

theorem tap2 (t : Fin cfg0.N) (r : Fin 512) (k : Fin 1408) (p : (r.val + 512 - 2) % 512 < 512) :
    Scalar.select (IntOp.cmpi CmpIPredicate.eq (BitVec.ofNat 32 r.val) 0#32)
      (Scalar.select (Scalar.cmpi CmpIPredicate.eq (BitVec.ofNat 32 (grid0.coords t 1 : ℕ)) 0#32) (0 : EReal)
        (iblk m c 3 t (ix2 14 k)))
      (Scalar.select (IntOp.cmpi CmpIPredicate.eq (BitVec.ofNat 32 r.val) 1#32)
        (Scalar.select (Scalar.cmpi CmpIPredicate.eq (BitVec.ofNat 32 (grid0.coords t 1 : ℕ)) 0#32) (0 : EReal)
          (iblk m c 3 t (ix2 15 k)))
        (iblk m c 2 t (ix2 ⟨(r.val + 512 - 2) % 512, p⟩ k))) = (args m c).back 2 (row t r) (col t k) := by
  rw [halo m c t 15 k (by decide), halo m c t 14 k (by decide), select_word _ 0 (by omega) (by omega),
    select_word _ 1 (by omega) (by omega), blk2]
  unfold Spec.Args.back
  have e15 : ((15 : Fin 16) : ℕ) = 15 := rfl
  have e14 : ((14 : Fin 16) : ℕ) = 14 := rfl
  simp only [e14, e15]
  by_cases h : r.val = 0
  · rw [if_pos h]
    by_cases h' : t.val % 8 = 0
    · rw [dif_neg (by omega), if_neg (by show ¬ 2 ≤ t.val % 8 * 512 + r.val; omega)]
    · rw [dif_pos (by omega), if_pos (by show 2 ≤ t.val % 8 * 512 + r.val; omega)]
      congr 1; apply Fin.ext; show t.val % 8 * 512 + 14 - 16 = t.val % 8 * 512 + r.val - 2; omega
  · rw [if_neg h]
    by_cases h1 : r.val = 1
    · rw [if_pos h1]
      by_cases h' : t.val % 8 = 0
      · rw [dif_neg (by omega), if_neg (by show ¬ 2 ≤ t.val % 8 * 512 + r.val; omega)]
      · rw [dif_pos (by omega), if_pos (by show 2 ≤ t.val % 8 * 512 + r.val; omega)]
        congr 1; apply Fin.ext; show t.val % 8 * 512 + 15 - 16 = t.val % 8 * 512 + r.val - 2; omega
    · rw [if_neg h1, if_pos (by show 2 ≤ t.val % 8 * 512 + r.val; omega)]
      congr 1; apply Fin.ext
      show t.val % 8 * 512 + (r.val + 512 - 2) % 512 = t.val % 8 * 512 + r.val - 2; omega

end Cert.KerSpec

end
-- ==== Proof.Canon.lean ====
/-
  A list of stores read at an index without the first store.
-/
module

public import proofs.«01_k».proof.Proof.Taps
public import proofs.«01_k».proof.Proof.Gen.KernelIdeal.Value
public import Idealize.ShloMosaic.Lib.Pipeline.ReadBack

@[expose] public section

set_option maxRecDepth 16384

noncomputable section

namespace Cert.KerSpec

open Idealize.ShloMosaic Idealize.ShloMosaic.TcCoe Idealize.SL.Sem
open Idealize.ShloMosaic.Pipeline (Dat)
open Cert.KernelIdeal Cert.KernelIdeal.Gen

/-- An index that one of the later stores covers reads the same without the first store. -/
theorem canon_init {S : Shape} {e : EltTy} {Val : EltTy → Type} [∀ e, Nonempty (Val e)] :
    ∀ (L : List (View.Piece Val S e)) (y : S.Idx), (∃ p ∈ L.dropLast, y ∈ p.1.set) →
      View.canon L y = View.canon L.dropLast y
  | [], y, h => rfl
  | [p], y, h => by obtain ⟨q, hq, _⟩ := h; simp at hq
  | p :: q :: L, y, h => by
    rw [List.dropLast_cons_cons] at h ⊢
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine canon_init (q :: L) y ?_
      obtain ⟨a, ha, hy⟩ := h
      rcases List.mem_cons.mp ha with rfl | ha
      · exact absurd hy hm
      · exact ⟨a, ha, hy⟩

end Cert.KerSpec

end
-- ==== Proof.AccTaps.lean ====
/-
  The gradient of the taps, as the kernel accumulates it point by point.
-/
module

public import proofs.«01_k».proof.Proof.Taps
public import proofs.«01_k».proof.Proof.Gen.KernelIdeal.Value
public import proofs.«01_k».proof.Proof.Canon

@[expose] public section

set_option maxRecDepth 16384

noncomputable section

namespace Cert.KerSpec

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- What a point adds to the gradient of the taps: the sum over its tokens. -/
def part9 (t : Fin cfg0.N) (i : S3x1408.Idx) : EReal :=
  ∑ r : Fin 512, (args m c).dg (row t r) (col t (i 1)) * (args m c).back (2 - (i 0).val) (row t r) (col t (i 1))

theorem part9_0 (t : Fin cfg0.N) (k : Fin 1408) : part9 m c t (ix2 0 k)
    = ∑ r : Fin 512, (args m c).dg (row t r) (col t k) * (args m c).back 2 (row t r) (col t k) := rfl

theorem part9_1 (t : Fin cfg0.N) (k : Fin 1408) : part9 m c t (ix2 1 k)
    = ∑ r : Fin 512, (args m c).dg (row t r) (col t k) * (args m c).back 1 (row t r) (col t k) := rfl

theorem part9_2 (t : Fin cfg0.N) (k : Fin 1408) : part9 m c t (ix2 2 k)
    = ∑ r : Fin 512, (args m c).dg (row t r) (col t k) * (args m c).gate (row t r) (col t k) := rfl

set_option maxHeartbeats 1600000 in
theorem first9 (t : Fin cfg0.N) (h : t.val % 8 = 0) (y : S3x1408.Idx) :
    (outsAt0 m c t.val t.isLt).2.1 y = 0 + part9 m c t y := by
  obtain ⟨b, j, rfl⟩ : ∃ (b : Fin 3) (j : Fin 1408), y = ix2 b j := ⟨y 0, y 1, ValueIdx.eq_ix2 y⟩
  rw [outsAt0_A m c t h]
  frame_open
  simp (disch := decide) only [↓ View.readCov_skip, ↓ View.readCov_cons_toLoadRect, ↓ View.readCov_fill]
  frame_out
  clear h
  refine (canon_init _ _ (View.cover_of_tiledBy _ ![1, 128] (by sl_kernel_rfl) _)).trans ?_
  simp only [List.dropLast]
  canon_tiles x h using View.cover_of_tiledBy _ ![1, 128] (by sl_kernel_rfl) _
  · obtain ⟨r, k, rfl⟩ : ∃ (r : Fin 1) (k : Fin 384), x = ix2 r k := ⟨x 0, x 1, ValueIdx.eq_ix2 x⟩
    obtain rfl : r = 0 := Subsingleton.elim _ _
    obtain rfl : b = 2 := Fin.ext h0
    obtain ⟨j, hj⟩ := j
    obtain rfl : j = 1024 + k.val := h1
    rw [part9_2]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, k, rfl⟩ : ∃ (r : Fin 1) (k : Fin 384), x = ix2 r k := ⟨x 0, x 1, ValueIdx.eq_ix2 x⟩
    obtain rfl : r = 0 := Subsingleton.elim _ _
    obtain rfl : b = 1 := Fin.ext h0
    obtain ⟨j, hj⟩ := j
    obtain rfl : j = 1024 + k.val := h1
    rw [part9_1]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, k, rfl⟩ : ∃ (r : Fin 1) (k : Fin 384), x = ix2 r k := ⟨x 0, x 1, ValueIdx.eq_ix2 x⟩
    obtain rfl : r = 0 := Subsingleton.elim _ _
    obtain rfl : b = 0 := Fin.ext h0
    obtain ⟨j, hj⟩ := j
    obtain rfl : j = 1024 + k.val := h1
    rw [part9_0]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, k, rfl⟩ : ∃ (r : Fin 1) (k : Fin 512), x = ix2 r k := ⟨x 0, x 1, ValueIdx.eq_ix2 x⟩
    obtain rfl : r = 0 := Subsingleton.elim _ _
    obtain rfl : b = 2 := Fin.ext h0
    obtain ⟨j, hj⟩ := j
    obtain rfl : j = 512 + k.val := h1
    rw [part9_2]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, k, rfl⟩ : ∃ (r : Fin 1) (k : Fin 512), x = ix2 r k := ⟨x 0, x 1, ValueIdx.eq_ix2 x⟩
    obtain rfl : r = 0 := Subsingleton.elim _ _
    obtain rfl : b = 1 := Fin.ext h0
    obtain ⟨j, hj⟩ := j
    obtain rfl : j = 512 + k.val := h1
    rw [part9_1]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, k, rfl⟩ : ∃ (r : Fin 1) (k : Fin 512), x = ix2 r k := ⟨x 0, x 1, ValueIdx.eq_ix2 x⟩
    obtain rfl : r = 0 := Subsingleton.elim _ _
    obtain rfl : b = 0 := Fin.ext h0
    obtain ⟨j, hj⟩ := j
    obtain rfl : j = 512 + k.val := h1
    rw [part9_0]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, k, rfl⟩ : ∃ (r : Fin 1) (k : Fin 512), x = ix2 r k := ⟨x 0, x 1, ValueIdx.eq_ix2 x⟩
    obtain rfl : r = 0 := Subsingleton.elim _ _
    obtain rfl : b = 2 := Fin.ext h0
    obtain ⟨j, hj⟩ := j
    obtain rfl : j = k.val := h1
    rw [part9_2]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, k, rfl⟩ : ∃ (r : Fin 1) (k : Fin 512), x = ix2 r k := ⟨x 0, x 1, ValueIdx.eq_ix2 x⟩
    obtain rfl : r = 0 := Subsingleton.elim _ _
    obtain rfl : b = 1 := Fin.ext h0
    obtain ⟨j, hj⟩ := j
    obtain rfl : j = k.val := h1
    rw [part9_1]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, k, rfl⟩ : ∃ (r : Fin 1) (k : Fin 512), x = ix2 r k := ⟨x 0, x 1, ValueIdx.eq_ix2 x⟩
    obtain rfl : r = 0 := Subsingleton.elim _ _
    obtain rfl : b = 0 := Fin.ext h0
    obtain ⟨j, hj⟩ := j
    obtain rfl : j = k.val := h1
    rw [part9_0]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]

set_option maxHeartbeats 1600000 in
theorem next9 (t : Fin cfg0.N) (h : ¬ t.val % 8 = 0) (y : S3x1408.Idx) :
    (outsAt0 m c t.val t.isLt).2.1 y
      = (outsAt0 m c (t.val - 1) (Nat.lt_of_le_of_lt (Nat.sub_le _ _) t.isLt)).2.1 y + part9 m c t y := by
  obtain ⟨b, j, rfl⟩ : ∃ (b : Fin 3) (j : Fin 1408), y = ix2 b j := ⟨y 0, y 1, ValueIdx.eq_ix2 y⟩
  rw [outsAt0_B m c t h]
  frame_out
  clear h
  canon_tiles x h using View.cover_of_tiledBy _ ![1, 128] (by sl_kernel_rfl) _
  · obtain ⟨r, k, rfl⟩ : ∃ (r : Fin 1) (k : Fin 384), x = ix2 r k := ⟨x 0, x 1, ValueIdx.eq_ix2 x⟩
    obtain rfl : r = 0 := Subsingleton.elim _ _
    obtain rfl : b = 2 := Fin.ext h0
    obtain ⟨j, hj⟩ := j
    obtain rfl : j = 1024 + k.val := h1
    rw [part9_2]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, k, rfl⟩ : ∃ (r : Fin 1) (k : Fin 384), x = ix2 r k := ⟨x 0, x 1, ValueIdx.eq_ix2 x⟩
    obtain rfl : r = 0 := Subsingleton.elim _ _
    obtain rfl : b = 1 := Fin.ext h0
    obtain ⟨j, hj⟩ := j
    obtain rfl : j = 1024 + k.val := h1
    rw [part9_1]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, k, rfl⟩ : ∃ (r : Fin 1) (k : Fin 384), x = ix2 r k := ⟨x 0, x 1, ValueIdx.eq_ix2 x⟩
    obtain rfl : r = 0 := Subsingleton.elim _ _
    obtain rfl : b = 0 := Fin.ext h0
    obtain ⟨j, hj⟩ := j
    obtain rfl : j = 1024 + k.val := h1
    rw [part9_0]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, k, rfl⟩ : ∃ (r : Fin 1) (k : Fin 512), x = ix2 r k := ⟨x 0, x 1, ValueIdx.eq_ix2 x⟩
    obtain rfl : r = 0 := Subsingleton.elim _ _
    obtain rfl : b = 2 := Fin.ext h0
    obtain ⟨j, hj⟩ := j
    obtain rfl : j = 512 + k.val := h1
    rw [part9_2]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, k, rfl⟩ : ∃ (r : Fin 1) (k : Fin 512), x = ix2 r k := ⟨x 0, x 1, ValueIdx.eq_ix2 x⟩
    obtain rfl : r = 0 := Subsingleton.elim _ _
    obtain rfl : b = 1 := Fin.ext h0
    obtain ⟨j, hj⟩ := j
    obtain rfl : j = 512 + k.val := h1
    rw [part9_1]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, k, rfl⟩ : ∃ (r : Fin 1) (k : Fin 512), x = ix2 r k := ⟨x 0, x 1, ValueIdx.eq_ix2 x⟩
    obtain rfl : r = 0 := Subsingleton.elim _ _
    obtain rfl : b = 0 := Fin.ext h0
    obtain ⟨j, hj⟩ := j
    obtain rfl : j = 512 + k.val := h1
    rw [part9_0]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, k, rfl⟩ : ∃ (r : Fin 1) (k : Fin 512), x = ix2 r k := ⟨x 0, x 1, ValueIdx.eq_ix2 x⟩
    obtain rfl : r = 0 := Subsingleton.elim _ _
    obtain rfl : b = 2 := Fin.ext h0
    obtain ⟨j, hj⟩ := j
    obtain rfl : j = k.val := h1
    rw [part9_2]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, k, rfl⟩ : ∃ (r : Fin 1) (k : Fin 512), x = ix2 r k := ⟨x 0, x 1, ValueIdx.eq_ix2 x⟩
    obtain rfl : r = 0 := Subsingleton.elim _ _
    obtain rfl : b = 1 := Fin.ext h0
    obtain ⟨j, hj⟩ := j
    obtain rfl : j = k.val := h1
    rw [part9_1]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, k, rfl⟩ : ∃ (r : Fin 1) (k : Fin 512), x = ix2 r k := ⟨x 0, x 1, ValueIdx.eq_ix2 x⟩
    obtain rfl : r = 0 := Subsingleton.elim _ _
    obtain rfl : b = 0 := Fin.ext h0
    obtain ⟨j, hj⟩ := j
    obtain rfl : j = k.val := h1
    rw [part9_0]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]

end Cert.KerSpec

end
-- ==== Proof.AccBias.lean ====
/-
  The gradient of the bias, as the kernel accumulates it point by point.
-/
module

public import proofs.«01_k».proof.Proof.Taps
public import proofs.«01_k».proof.Proof.Gen.KernelIdeal.Value
public import proofs.«01_k».proof.Proof.Canon

@[expose] public section

set_option maxRecDepth 16384

noncomputable section

namespace Cert.KerSpec

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- What a point adds to the gradient of the bias: the sum over its tokens. -/
def part10 (t : Fin cfg0.N) (i : S1x1408.Idx) : EReal := ∑ r : Fin 512, (args m c).dg (row t r) (col t (i 1))

theorem part10_at (t : Fin cfg0.N) (k : Fin 1408) :
    part10 m c t (ix2 0 k) = ∑ r : Fin 512, (args m c).dg (row t r) (col t k) := rfl

set_option maxHeartbeats 1600000 in
theorem first10 (t : Fin cfg0.N) (h : t.val % 8 = 0) (y : S1x1408.Idx) :
    (outsAt0 m c t.val t.isLt).2.2.1 y = 0 + part10 m c t y := by
  obtain ⟨b, j, rfl⟩ : ∃ (b : Fin 1) (j : Fin 1408), y = ix2 b j := ⟨y 0, y 1, ValueIdx.eq_ix2 y⟩
  obtain rfl : b = 0 := Subsingleton.elim _ _
  rw [outsAt0_A m c t h]
  frame_open
  simp (disch := decide) only [↓ View.readCov_skip, ↓ View.readCov_cons_toLoadRect, ↓ View.readCov_fill]
  frame_out
  clear h
  refine (canon_init _ _ (View.cover_of_tiledBy _ ![1, 128] (by sl_kernel_rfl) _)).trans ?_
  simp only [List.dropLast]
  canon_tiles x h using View.cover_of_tiledBy _ ![1, 128] (by sl_kernel_rfl) _
  · obtain ⟨r, k, rfl⟩ : ∃ (r : Fin 1) (k : Fin 384), x = ix2 r k := ⟨x 0, x 1, ValueIdx.eq_ix2 x⟩
    obtain rfl : r = 0 := Subsingleton.elim _ _
    obtain ⟨j, hj⟩ := j
    obtain rfl : j = 1024 + k.val := h1
    rw [part10_at]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, k, rfl⟩ : ∃ (r : Fin 1) (k : Fin 512), x = ix2 r k := ⟨x 0, x 1, ValueIdx.eq_ix2 x⟩
    obtain rfl : r = 0 := Subsingleton.elim _ _
    obtain ⟨j, hj⟩ := j
    obtain rfl : j = 512 + k.val := h1
    rw [part10_at]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, k, rfl⟩ : ∃ (r : Fin 1) (k : Fin 512), x = ix2 r k := ⟨x 0, x 1, ValueIdx.eq_ix2 x⟩
    obtain rfl : r = 0 := Subsingleton.elim _ _
    obtain ⟨j, hj⟩ := j
    obtain rfl : j = k.val := h1
    rw [part10_at]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]

set_option maxHeartbeats 1600000 in
theorem next10 (t : Fin cfg0.N) (h : ¬ t.val % 8 = 0) (y : S1x1408.Idx) :
    (outsAt0 m c t.val t.isLt).2.2.1 y
      = (outsAt0 m c (t.val - 1) (Nat.lt_of_le_of_lt (Nat.sub_le _ _) t.isLt)).2.2.1 y + part10 m c t y := by
  obtain ⟨b, j, rfl⟩ : ∃ (b : Fin 1) (j : Fin 1408), y = ix2 b j := ⟨y 0, y 1, ValueIdx.eq_ix2 y⟩
  obtain rfl : b = 0 := Subsingleton.elim _ _
  rw [outsAt0_B m c t h]
  frame_out
  clear h
  canon_tiles x h using View.cover_of_tiledBy _ ![1, 128] (by sl_kernel_rfl) _
  · obtain ⟨r, k, rfl⟩ : ∃ (r : Fin 1) (k : Fin 384), x = ix2 r k := ⟨x 0, x 1, ValueIdx.eq_ix2 x⟩
    obtain rfl : r = 0 := Subsingleton.elim _ _
    obtain ⟨j, hj⟩ := j
    obtain rfl : j = 1024 + k.val := h1
    rw [part10_at]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, k, rfl⟩ : ∃ (r : Fin 1) (k : Fin 512), x = ix2 r k := ⟨x 0, x 1, ValueIdx.eq_ix2 x⟩
    obtain rfl : r = 0 := Subsingleton.elim _ _
    obtain ⟨j, hj⟩ := j
    obtain rfl : j = 512 + k.val := h1
    rw [part10_at]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, k, rfl⟩ : ∃ (r : Fin 1) (k : Fin 512), x = ix2 r k := ⟨x 0, x 1, ValueIdx.eq_ix2 x⟩
    obtain rfl : r = 0 := Subsingleton.elim _ _
    obtain ⟨j, hj⟩ := j
    obtain rfl : j = k.val := h1
    rw [part10_at]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]

end Cert.KerSpec

end
-- ==== Proof.AccDown.lean ====
/-
  The gradient of the down projection, as the kernel accumulates it point by point.
-/
module

public import proofs.«01_k».proof.Proof.Taps
public import proofs.«01_k».proof.Proof.Gen.KernelIdeal.Value
public import proofs.«01_k».proof.Proof.Canon

@[expose] public section

set_option maxRecDepth 16384

noncomputable section

namespace Cert.KerSpec

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- What a point adds to the gradient of the down projection: the sum over its tokens. -/
def part11 (t : Fin cfg0.N) (i : S1408x1024.Idx) : EReal :=
  ∑ r : Fin 512, (args m c).act (row t r) (col t (i 0)) * (args m c).CT (row t r) (i 1)

theorem part11_at (t : Fin cfg0.N) (k : Fin 1408) (q : Fin 1024) : part11 m c t (ix2 k q)
    = ∑ r : Fin 512, (args m c).act (row t r) (col t k) * (args m c).CT (row t r) q := rfl

set_option maxHeartbeats 1600000 in
theorem first11 (t : Fin cfg0.N) (h : t.val % 8 = 0) (y : S1408x1024.Idx) :
    (outsAt0 m c t.val t.isLt).2.2.2.1 y = 0 + part11 m c t y := by
  obtain ⟨b, j, rfl⟩ : ∃ (b : Fin 1408) (j : Fin 1024), y = ix2 b j := ⟨y 0, y 1, ValueIdx.eq_ix2 y⟩
  rw [outsAt0_A m c t h]
  frame_open
  simp (disch := decide) only [↓ View.readCov_skip, ↓ View.readCov_cons_toLoadRect, ↓ View.readCov_fill]
  frame_out
  clear h
  refine (canon_init _ _ (View.cover_of_tiledBy _ ![128, 1024] (by sl_kernel_rfl) _)).trans ?_
  simp only [List.dropLast]
  canon_tiles x h using View.cover_of_tiledBy _ ![128, 1024] (by sl_kernel_rfl) _
  · obtain ⟨k, q, rfl⟩ : ∃ (k : Fin 384) (q : Fin 1024), x = ix2 k q := ⟨x 0, x 1, ValueIdx.eq_ix2 x⟩
    obtain rfl : j = q := Fin.ext h1
    obtain ⟨b, hb⟩ := b
    obtain rfl : b = 1024 + k.val := h0
    rw [part11_at]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨k, q, rfl⟩ : ∃ (k : Fin 512) (q : Fin 1024), x = ix2 k q := ⟨x 0, x 1, ValueIdx.eq_ix2 x⟩
    obtain rfl : j = q := Fin.ext h1
    obtain ⟨b, hb⟩ := b
    obtain rfl : b = 512 + k.val := h0
    rw [part11_at]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨k, q, rfl⟩ : ∃ (k : Fin 512) (q : Fin 1024), x = ix2 k q := ⟨x 0, x 1, ValueIdx.eq_ix2 x⟩
    obtain rfl : j = q := Fin.ext h1
    obtain ⟨b, hb⟩ := b
    obtain rfl : b = k.val := h0
    rw [part11_at]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]

set_option maxHeartbeats 1600000 in
theorem next11 (t : Fin cfg0.N) (h : ¬ t.val % 8 = 0) (y : S1408x1024.Idx) :
    (outsAt0 m c t.val t.isLt).2.2.2.1 y
      = (outsAt0 m c (t.val - 1) (Nat.lt_of_le_of_lt (Nat.sub_le _ _) t.isLt)).2.2.2.1 y + part11 m c t y := by
  obtain ⟨b, j, rfl⟩ : ∃ (b : Fin 1408) (j : Fin 1024), y = ix2 b j := ⟨y 0, y 1, ValueIdx.eq_ix2 y⟩
  rw [outsAt0_B m c t h]
  frame_out
  clear h
  canon_tiles x h using View.cover_of_tiledBy _ ![128, 1024] (by sl_kernel_rfl) _
  · obtain ⟨k, q, rfl⟩ : ∃ (k : Fin 384) (q : Fin 1024), x = ix2 k q := ⟨x 0, x 1, ValueIdx.eq_ix2 x⟩
    obtain rfl : j = q := Fin.ext h1
    obtain ⟨b, hb⟩ := b
    obtain rfl : b = 1024 + k.val := h0
    rw [part11_at]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨k, q, rfl⟩ : ∃ (k : Fin 512) (q : Fin 1024), x = ix2 k q := ⟨x 0, x 1, ValueIdx.eq_ix2 x⟩
    obtain rfl : j = q := Fin.ext h1
    obtain ⟨b, hb⟩ := b
    obtain rfl : b = 512 + k.val := h0
    rw [part11_at]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨k, q, rfl⟩ : ∃ (k : Fin 512) (q : Fin 1024), x = ix2 k q := ⟨x 0, x 1, ValueIdx.eq_ix2 x⟩
    obtain rfl : j = q := Fin.ext h1
    obtain ⟨b, hb⟩ := b
    obtain rfl : b = k.val := h0
    rw [part11_at]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]

end Cert.KerSpec

end
-- ==== Proof.AccUp.lean ====
/-
  The gradient of the up projection's value columns, as the kernel accumulates it point by point.
-/
module

public import proofs.«01_k».proof.Proof.Taps
public import proofs.«01_k».proof.Proof.Gen.KernelIdeal.Value
public import proofs.«01_k».proof.Proof.Canon

@[expose] public section

set_option maxRecDepth 16384

noncomputable section

namespace Cert.KerSpec

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- What a point adds to the gradient of the up projection's value columns: the sum over its tokens. -/
def part12 (t : Fin cfg0.N) (i : S1x1024x1408.Idx) : EReal :=
  ∑ r : Fin 512, (args m c).H (row t r) (i 1) * (args m c).dv (row t r) (col t (i 2))

theorem part12_at (t : Fin cfg0.N) (q : Fin 1024) (k : Fin 1408) : part12 m c t (ix3 0 q k)
    = ∑ r : Fin 512, (args m c).H (row t r) q * (args m c).dv (row t r) (col t k) := rfl

set_option maxHeartbeats 1600000 in
theorem first12 (t : Fin cfg0.N) (h : t.val % 8 = 0) (y : S1x1024x1408.Idx) :
    (outsAt0 m c t.val t.isLt).2.2.2.2.1 y = 0 + part12 m c t y := by
  obtain ⟨a, b, j, rfl⟩ : ∃ (a : Fin 1) (b : Fin 1024) (j : Fin 1408), y = ix3 a b j :=
    ⟨y 0, y 1, y 2, ValueIdx.eq_ix3 y⟩
  obtain rfl : a = 0 := Subsingleton.elim _ _
  rw [outsAt0_A m c t h]
  frame_open
  simp (disch := decide) only [↓ View.readCov_skip, ↓ View.readCov_cons_toLoadRect, ↓ View.readCov_fill]
  frame_out
  clear h
  refine (canon_init _ _ (View.cover_of_tiledBy _ ![1, 1024, 128] (by sl_kernel_rfl) _)).trans ?_
  simp only [List.dropLast]
  canon_tiles x h using View.cover_of_tiledBy _ ![1, 1024, 128] (by sl_kernel_rfl) _
  · obtain ⟨r, q, k, rfl⟩ : ∃ (r : Fin 1) (q : Fin 1024) (k : Fin 384), x = ix3 r q k :=
      ⟨x 0, x 1, x 2, ValueIdx.eq_ix3 x⟩
    obtain rfl : r = 0 := Subsingleton.elim _ _
    obtain rfl : b = q := Fin.ext h1
    obtain ⟨j, hj⟩ := j
    obtain rfl : j = 1024 + k.val := h2
    rw [part12_at]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, q, k, rfl⟩ : ∃ (r : Fin 1) (q : Fin 1024) (k : Fin 512), x = ix3 r q k :=
      ⟨x 0, x 1, x 2, ValueIdx.eq_ix3 x⟩
    obtain rfl : r = 0 := Subsingleton.elim _ _
    obtain rfl : b = q := Fin.ext h1
    obtain ⟨j, hj⟩ := j
    obtain rfl : j = 512 + k.val := h2
    rw [part12_at]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, q, k, rfl⟩ : ∃ (r : Fin 1) (q : Fin 1024) (k : Fin 512), x = ix3 r q k :=
      ⟨x 0, x 1, x 2, ValueIdx.eq_ix3 x⟩
    obtain rfl : r = 0 := Subsingleton.elim _ _
    obtain rfl : b = q := Fin.ext h1
    obtain ⟨j, hj⟩ := j
    obtain rfl : j = k.val := h2
    rw [part12_at]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]

set_option maxHeartbeats 1600000 in
theorem next12 (t : Fin cfg0.N) (h : ¬ t.val % 8 = 0) (y : S1x1024x1408.Idx) :
    (outsAt0 m c t.val t.isLt).2.2.2.2.1 y
      = (outsAt0 m c (t.val - 1) (Nat.lt_of_le_of_lt (Nat.sub_le _ _) t.isLt)).2.2.2.2.1 y + part12 m c t y := by
  obtain ⟨a, b, j, rfl⟩ : ∃ (a : Fin 1) (b : Fin 1024) (j : Fin 1408), y = ix3 a b j :=
    ⟨y 0, y 1, y 2, ValueIdx.eq_ix3 y⟩
  obtain rfl : a = 0 := Subsingleton.elim _ _
  rw [outsAt0_B m c t h]
  frame_out
  clear h
  canon_tiles x h using View.cover_of_tiledBy _ ![1, 1024, 128] (by sl_kernel_rfl) _
  · obtain ⟨r, q, k, rfl⟩ : ∃ (r : Fin 1) (q : Fin 1024) (k : Fin 384), x = ix3 r q k :=
      ⟨x 0, x 1, x 2, ValueIdx.eq_ix3 x⟩
    obtain rfl : r = 0 := Subsingleton.elim _ _
    obtain rfl : b = q := Fin.ext h1
    obtain ⟨j, hj⟩ := j
    obtain rfl : j = 1024 + k.val := h2
    rw [part12_at]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, q, k, rfl⟩ : ∃ (r : Fin 1) (q : Fin 1024) (k : Fin 512), x = ix3 r q k :=
      ⟨x 0, x 1, x 2, ValueIdx.eq_ix3 x⟩
    obtain rfl : r = 0 := Subsingleton.elim _ _
    obtain rfl : b = q := Fin.ext h1
    obtain ⟨j, hj⟩ := j
    obtain rfl : j = 512 + k.val := h2
    rw [part12_at]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]
  · obtain ⟨r, q, k, rfl⟩ : ∃ (r : Fin 1) (q : Fin 1024) (k : Fin 512), x = ix3 r q k :=
      ⟨x 0, x 1, x 2, ValueIdx.eq_ix3 x⟩
    obtain rfl : r = 0 := Subsingleton.elim _ _
    obtain rfl : b = q := Fin.ext h1
    obtain ⟨j, hj⟩ := j
    obtain rfl : j = k.val := h2
    rw [part12_at]
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88]
    simp only [tap1 m c t, tap2 m c t]
    simp only [blk2, blk4, blk0, blk1, blk5, blk6, blk7, Consts.named_c0, Consts.named_c1, Consts.named_3c1,
      Consts.bf16_half]
    simp only [Spec.Args.dg, Spec.Args.dv, Spec.Args.act, Spec.gel, Spec.slope, Spec.wgt, Spec.th, Spec.Args.z, Spec.Args.da]

end Cert.KerSpec

end
-- ==== Proof.Final.lean ====
/-
  The gradients, as the kernel leaves them: a point's sum over its tokens, summed over the blocks of tokens.
-/
module

public import proofs.«01_k».proof.Proof.AccTaps
public import proofs.«01_k».proof.Proof.AccBias
public import proofs.«01_k».proof.Proof.AccDown
public import proofs.«01_k».proof.Proof.AccUp

@[expose] public section

set_option maxRecDepth 16384

noncomputable section

namespace Cert.KerSpec

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- Point `s` of the run of eight that point `t` ends. -/
abbrev pt (t : Fin cfg0.N) (s : Fin 8) : Fin cfg0.N :=
  ⟨8 * (t.val / 8) + s.val, by have h : t.val < 16 := t.isLt; show _ < 16; omega⟩

theorem col_pt (t : Fin cfg0.N) (s : Fin 8) (k : Fin 1408) : col (pt t s) k = col t k := by
  apply Fin.ext
  show (8 * (t.val / 8) + s.val) / 8 * 1408 + k.val = t.val / 8 * 1408 + k.val
  omega

/-- A sum over the eight blocks of tokens, block by block, is the sum over the tokens. -/
theorem sum_rows (t : Fin cfg0.N) (f : Fin 4096 → EReal) :
    ∑ s : Fin 8, ∑ r : Fin 512, f (row (pt t s) r) = ∑ r : Fin 4096, f r := by
  refine Fin.sum_mul_add_congr fun s r hl => congrArg f (Fin.ext ?_)
  show (8 * (t.val / 8) + s.val) % 8 * 512 + r.val = s.val * 512 + r.val
  omega

/-- The gradient of the taps, as an array. -/
def dcwArr : FVec Ideal S3x2816 .f32 := fun i => (args m c).dcw (i 0) (i 1)

theorem final9 : (dats m 0 c).arrAt 9 cfg0.N = dcwArr m c := by
  refine (dats m 0 c).arrAt_eq_of_covers 9 _ (by decide +kernel) fun t hf y => ?_
  obtain ⟨b, j, rfl⟩ : ∃ (b : Fin 3) (j : Fin 1408), y = ix2 b j := ⟨y 0, y 1, ValueIdx.eq_ix2 y⟩
  have e : dcwArr m c ((win0_9.rect t).emb (ix2 b j)) = (args m c).dcw b (col t j) := by
    refine congrArg₂ (args m c).dcw (Fin.ext ?_) (Fin.ext ?_) <;> blk_simp [idx t] <;>
      first | rfl | exact Nat.zero_add _
  refine Eq.trans ?_ e.symm
  blk_simp
  rw [after0_9, Pipeline.eq_sum_fin_of_reset_step_apply_of_flush (fun n h => (outsAt0 m c n h).2.1) 8 (fun _ => 0)
    (part9 m c) (first9 m c) (next9 m c) t ((flush0_9 t).mp hf) _, zero_add]
  refine Eq.trans ?_ (sum_rows t (fun r => (args m c).dg r (col t j) * (args m c).back (2 - b.val) r (col t j)))
  exact Finset.sum_congr (M := EReal) rfl fun s _ => Finset.sum_congr (M := EReal) rfl fun r _ => by rw [← col_pt t s]; rfl

/-- The gradient of the bias, as an array. -/
def dcbArr : FVec Ideal S1x2816 .f32 := fun i => (args m c).dcb (i 1)

theorem final10 : (dats m 0 c).arrAt 10 cfg0.N = dcbArr m c := by
  refine (dats m 0 c).arrAt_eq_of_covers 10 _ (by decide +kernel) fun t hf y => ?_
  obtain ⟨b, j, rfl⟩ : ∃ (b : Fin 1) (j : Fin 1408), y = ix2 b j := ⟨y 0, y 1, ValueIdx.eq_ix2 y⟩
  have e : dcbArr m c ((win0_10.rect t).emb (ix2 b j)) = (args m c).dcb (col t j) := by
    refine congrArg (args m c).dcb (Fin.ext ?_) <;> blk_simp [idx t] <;>
      first | rfl | exact Nat.zero_add _
  refine Eq.trans ?_ e.symm
  blk_simp
  rw [after0_10, Pipeline.eq_sum_fin_of_reset_step_apply_of_flush (fun n h => (outsAt0 m c n h).2.2.1) 8 (fun _ => 0)
    (part10 m c) (first10 m c) (next10 m c) t ((flush0_10 t).mp hf) _, zero_add]
  refine Eq.trans ?_ (sum_rows t (fun r => (args m c).dg r (col t j)))
  exact Finset.sum_congr (M := EReal) rfl fun s _ => Finset.sum_congr (M := EReal) rfl fun r _ => by rw [← col_pt t s]; rfl

/-- The gradient of the down projection, as an array. -/
def dwdArr : FVec Ideal S2816x1024 .f32 := fun i => (args m c).dwd (i 0) (i 1)

theorem final11 : (dats m 0 c).arrAt 11 cfg0.N = dwdArr m c := by
  refine (dats m 0 c).arrAt_eq_of_covers 11 _ (by decide +kernel) fun t hf y => ?_
  obtain ⟨b, j, rfl⟩ : ∃ (b : Fin 1408) (j : Fin 1024), y = ix2 b j := ⟨y 0, y 1, ValueIdx.eq_ix2 y⟩
  have e : dwdArr m c ((win0_11.rect t).emb (ix2 b j)) = (args m c).dwd (col t b) j := by
    refine congrArg₂ (args m c).dwd (Fin.ext ?_) (Fin.ext ?_) <;> blk_simp [idx t] <;>
      first | rfl | exact Nat.zero_add _
  refine Eq.trans ?_ e.symm
  blk_simp
  rw [after0_11, Pipeline.eq_sum_fin_of_reset_step_apply_of_flush (fun n h => (outsAt0 m c n h).2.2.2.1) 8 (fun _ => 0)
    (part11 m c) (first11 m c) (next11 m c) t ((flush0_11 t).mp hf) _, zero_add]
  refine Eq.trans ?_ (sum_rows t (fun r => (args m c).act r (col t b) * (args m c).CT r j))
  exact Finset.sum_congr (M := EReal) rfl fun s _ => Finset.sum_congr (M := EReal) rfl fun r _ => by rw [← col_pt t s]; rfl

/-- The gradient of the up projection's value columns, in the last two of its four blocks. -/
def dwuArr : FVec Ideal S4x1024x1408 .f32 := fun i =>
  (args m c).dwu (i 1) ⟨((i 0).val - 2) * 1408 + (i 2).val, by
    have h0 : (i 0).val < 4 := (i 0).isLt
    have h2 : (i 2).val < 1408 := (i 2).isLt
    omega⟩

theorem final12 (i : S4x1024x1408.Idx) (hi : 2 ≤ (i 0).val) :
    (dats m 0 c).arrAt 12 cfg0.N i = dwuArr m c i := by
  refine ((dats m 0 c).arrAt_apply_of_coversWhere 12 (dwuArr m c) (P := fun i : S4x1024x1408.Idx => 2 ≤ (i 0).val)
    (fun β => 2 ≤ β (0 : Fin 3)) (by decide +kernel) (fun t hf y => ?_)
    (fun j => by blk_simp [Pipeline.Window.cell_apply]; rw [Nat.div_one]) i).trans (if_pos hi)
  obtain ⟨a, q, k, rfl⟩ : ∃ (a : Fin 1) (q : Fin 1024) (k : Fin 1408), y = ix3 a q k :=
    ⟨y 0, y 1, y 2, ValueIdx.eq_ix3 y⟩
  obtain rfl : a = 0 := Subsingleton.elim _ _
  have e : dwuArr m c ((win0_12.rect t).emb (ix3 0 q k)) = (args m c).dwu q (col t k) := by
    refine congrArg₂ (args m c).dwu (Fin.ext ?_) (Fin.ext ?_)
    · blk_simp [idx t] <;> first | rfl | exact Nat.zero_add _
    · blk_simp [idx t]
      show ((2 + t.val / 8) * 1 + 0 - 2) * 1408 + (0 * 1408 + k.val) = t.val / 8 * 1408 + k.val
      omega
  refine Eq.trans ?_ e.symm
  blk_simp
  rw [after0_12, Pipeline.eq_sum_fin_of_reset_step_apply_of_flush (fun n h => (outsAt0 m c n h).2.2.2.2.1) 8 (fun _ => 0)
    (part12 m c) (first12 m c) (next12 m c) t ((flush0_12 t).mp hf) _, zero_add]
  refine Eq.trans ?_ (sum_rows t (fun r => (args m c).H r q * (args m c).dv r (col t k)))
  exact Finset.sum_congr (M := EReal) rfl fun s _ => Finset.sum_congr (M := EReal) rfl fun r _ => by rw [← col_pt t s]; rfl

end Cert.KerSpec

end
-- ==== Proof.Cotangents.lean ====
/-
  The cotangents of the convolved gate and of the value half, as the kernel leaves them.
-/
module

public import proofs.«01_k».proof.Proof.Taps
public import proofs.«01_k».proof.Proof.Gen.KernelIdeal.Value

@[expose] public section

set_option maxRecDepth 16384

noncomputable section

namespace Cert.KerSpec

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The cotangent of the convolved gate, as an array. -/
def dgArr : FVec Ideal S4096x2816 .bf16 := fun i => (args m c).dg (i 0) (i 1)

set_option maxHeartbeats 1600000 in
theorem final8 : (dats m 0 c).arrAt 8 cfg0.N = dgArr m c := by
  refine (dats m 0 c).arrAt_eq_of_covers 8 _ (by decide +kernel) fun t hf y => ?_
  obtain ⟨b, j, rfl⟩ : ∃ (b : Fin 512) (j : Fin 1408), y = ix2 b j := ⟨y 0, y 1, ValueIdx.eq_ix2 y⟩
  have e : dgArr m c ((win0_8.rect t).emb (ix2 b j)) = (args m c).dg (row t b) (col t j) := by
    refine congrArg₂ (args m c).dg (Fin.ext ?_) (Fin.ext ?_) <;> blk_simp [idx t] <;> rfl
  refine Eq.trans ?_ e.symm
  blk_simp
  rw [after0_8]
  clear e
  by_cases h : t.val % 8 = 0
  · rw [outsAt0_A m c t h]
    frame_out
    clear h
    canon_tiles x h using View.cover_of_tiledBy _ ![512, 128] (by sl_kernel_rfl) _
    all_goals clear hf
    · obtain ⟨r, k, rfl⟩ : ∃ (r : Fin 512) (k : Fin 384), x = ix2 r k := ⟨x 0, x 1, ValueIdx.eq_ix2 x⟩
      obtain rfl : b = r := Fin.ext h0
      obtain ⟨j, hj⟩ := j
      obtain rfl : j = 1024 + k.val := h1
      pointwise [k0_pay1, k0_pay2, k0_pay3, k0_pay4, k0_pay5, k0_pay6, k0_pay7, k0_pay8, k0_pay9, k0_pay10, k0_pay11,
          k0_pay12, k0_pay13, k0_pay14, k0_pay15, k0_pay16, k0_pay17, k0_pay18, k0_pay19, k0_pay20, k0_pay21,
          k0_pay22, k0_pay23, k0_pay24, k0_pay25, k0_pay26, k0_pay27, k0_pay28, k0_pay29, k0_pay30, k0_pay31,
          k0_pay32, k0_pay33, k0_pay34, k0_pay35, k0_pay36, k0_pay37, k0_pay38, k0_pay39, k0_pay40, k0_pay41,
          k0_pay42, k0_pay43, k0_pay44, k0_pay45, k0_pay46, k0_pay47, k0_pay48, k0_pay49, k0_pay50, k0_pay51,
          k0_pay52, k0_pay53, k0_pay54, k0_pay55, k0_pay56, k0_pay57, k0_pay58, k0_pay59, k0_pay60, k0_pay61,
          k0_pay62, k0_pay63, k0_pay64, k0_pay65, k0_pay66, k0_pay67, k0_pay68, k0_pay69, k0_pay70, k0_pay71,
          k0_pay72, k0_pay73, k0_pay74, k0_pay75, k0_pay76, k0_pay77, k0_pay78, k0_pay79, k0_pay80, k0_pay81,
          k0_pay82, k0_pay83, k0_pay84, k0_pay85, k0_pay86, k0_pay87, k0_pay88]
      simp only [tap1 m c t, tap2 m c t]
      simp only [blk2, blk4, blk0, blk1, blk5, blk6, Consts.named_c0, Consts.named_c1, Consts.named_3c1,
        Consts.bf16_half]
      simp only [Spec.Args.dg, Spec.gel, Spec.slope, Spec.wgt, Spec.th, Spec.Args.z, Spec.Args.da]
    · obtain ⟨r, k, rfl⟩ : ∃ (r : Fin 512) (k : Fin 512), x = ix2 r k := ⟨x 0, x 1, ValueIdx.eq_ix2 x⟩
      obtain rfl : b = r := Fin.ext h0
      obtain ⟨j, hj⟩ := j
      obtain rfl : j = 512 + k.val := h1
      pointwise [k0_pay1, k0_pay2, k0_pay3, k0_pay4, k0_pay5, k0_pay6, k0_pay7, k0_pay8, k0_pay9, k0_pay10, k0_pay11,
          k0_pay12, k0_pay13, k0_pay14, k0_pay15, k0_pay16, k0_pay17, k0_pay18, k0_pay19, k0_pay20, k0_pay21,
          k0_pay22, k0_pay23, k0_pay24, k0_pay25, k0_pay26, k0_pay27, k0_pay28, k0_pay29, k0_pay30, k0_pay31,
          k0_pay32, k0_pay33, k0_pay34, k0_pay35, k0_pay36, k0_pay37, k0_pay38, k0_pay39, k0_pay40, k0_pay41,
          k0_pay42, k0_pay43, k0_pay44, k0_pay45, k0_pay46, k0_pay47, k0_pay48, k0_pay49, k0_pay50, k0_pay51,
          k0_pay52, k0_pay53, k0_pay54, k0_pay55, k0_pay56, k0_pay57, k0_pay58, k0_pay59, k0_pay60, k0_pay61,
          k0_pay62, k0_pay63, k0_pay64, k0_pay65, k0_pay66, k0_pay67, k0_pay68, k0_pay69, k0_pay70, k0_pay71,
          k0_pay72, k0_pay73, k0_pay74, k0_pay75, k0_pay76, k0_pay77, k0_pay78, k0_pay79, k0_pay80, k0_pay81,
          k0_pay82, k0_pay83, k0_pay84, k0_pay85, k0_pay86, k0_pay87, k0_pay88]
      simp only [tap1 m c t, tap2 m c t]
      simp only [blk2, blk4, blk0, blk1, blk5, blk6, Consts.named_c0, Consts.named_c1, Consts.named_3c1,
        Consts.bf16_half]
      simp only [Spec.Args.dg, Spec.gel, Spec.slope, Spec.wgt, Spec.th, Spec.Args.z, Spec.Args.da]
    · obtain ⟨r, k, rfl⟩ : ∃ (r : Fin 512) (k : Fin 512), x = ix2 r k := ⟨x 0, x 1, ValueIdx.eq_ix2 x⟩
      obtain rfl : b = r := Fin.ext h0
      obtain ⟨j, hj⟩ := j
      obtain rfl : j = k.val := h1
      pointwise [k0_pay1, k0_pay2, k0_pay3, k0_pay4, k0_pay5, k0_pay6, k0_pay7, k0_pay8, k0_pay9, k0_pay10, k0_pay11,
          k0_pay12, k0_pay13, k0_pay14, k0_pay15, k0_pay16, k0_pay17, k0_pay18, k0_pay19, k0_pay20, k0_pay21,
          k0_pay22, k0_pay23, k0_pay24, k0_pay25, k0_pay26, k0_pay27, k0_pay28, k0_pay29, k0_pay30, k0_pay31,
          k0_pay32, k0_pay33, k0_pay34, k0_pay35, k0_pay36, k0_pay37, k0_pay38, k0_pay39, k0_pay40, k0_pay41,
          k0_pay42, k0_pay43, k0_pay44, k0_pay45, k0_pay46, k0_pay47, k0_pay48, k0_pay49, k0_pay50, k0_pay51,
          k0_pay52, k0_pay53, k0_pay54, k0_pay55, k0_pay56, k0_pay57, k0_pay58, k0_pay59, k0_pay60, k0_pay61,
          k0_pay62, k0_pay63, k0_pay64, k0_pay65, k0_pay66, k0_pay67, k0_pay68, k0_pay69, k0_pay70, k0_pay71,
          k0_pay72, k0_pay73, k0_pay74, k0_pay75, k0_pay76, k0_pay77, k0_pay78, k0_pay79, k0_pay80, k0_pay81,
          k0_pay82, k0_pay83, k0_pay84, k0_pay85, k0_pay86, k0_pay87, k0_pay88]
      simp only [tap1 m c t, tap2 m c t]
      simp only [blk2, blk4, blk0, blk1, blk5, blk6, Consts.named_c0, Consts.named_c1, Consts.named_3c1,
        Consts.bf16_half]
      simp only [Spec.Args.dg, Spec.gel, Spec.slope, Spec.wgt, Spec.th, Spec.Args.z, Spec.Args.da]
  · rw [outsAt0_B m c t h]
    frame_out
    clear h
    canon_tiles x h using View.cover_of_tiledBy _ ![512, 128] (by sl_kernel_rfl) _
    all_goals clear hf
    · obtain ⟨r, k, rfl⟩ : ∃ (r : Fin 512) (k : Fin 384), x = ix2 r k := ⟨x 0, x 1, ValueIdx.eq_ix2 x⟩
      obtain rfl : b = r := Fin.ext h0
      obtain ⟨j, hj⟩ := j
      obtain rfl : j = 1024 + k.val := h1
      pointwise [k0_pay1, k0_pay2, k0_pay3, k0_pay4, k0_pay5, k0_pay6, k0_pay7, k0_pay8, k0_pay9, k0_pay10, k0_pay11,
          k0_pay12, k0_pay13, k0_pay14, k0_pay15, k0_pay16, k0_pay17, k0_pay18, k0_pay19, k0_pay20, k0_pay21,
          k0_pay22, k0_pay23, k0_pay24, k0_pay25, k0_pay26, k0_pay27, k0_pay28, k0_pay29, k0_pay30, k0_pay31,
          k0_pay32, k0_pay33, k0_pay34, k0_pay35, k0_pay36, k0_pay37, k0_pay38, k0_pay39, k0_pay40, k0_pay41,
          k0_pay42, k0_pay43, k0_pay44, k0_pay45, k0_pay46, k0_pay47, k0_pay48, k0_pay49, k0_pay50, k0_pay51,
          k0_pay52, k0_pay53, k0_pay54, k0_pay55, k0_pay56, k0_pay57, k0_pay58, k0_pay59, k0_pay60, k0_pay61,
          k0_pay62, k0_pay63, k0_pay64, k0_pay65, k0_pay66, k0_pay67, k0_pay68, k0_pay69, k0_pay70, k0_pay71,
          k0_pay72, k0_pay73, k0_pay74, k0_pay75, k0_pay76, k0_pay77, k0_pay78, k0_pay79, k0_pay80, k0_pay81,
          k0_pay82, k0_pay83, k0_pay84, k0_pay85, k0_pay86, k0_pay87, k0_pay88]
      simp only [tap1 m c t, tap2 m c t]
      simp only [blk2, blk4, blk0, blk1, blk5, blk6, Consts.named_c0, Consts.named_c1, Consts.named_3c1,
        Consts.bf16_half]
      simp only [Spec.Args.dg, Spec.gel, Spec.slope, Spec.wgt, Spec.th, Spec.Args.z, Spec.Args.da]
    · obtain ⟨r, k, rfl⟩ : ∃ (r : Fin 512) (k : Fin 512), x = ix2 r k := ⟨x 0, x 1, ValueIdx.eq_ix2 x⟩
      obtain rfl : b = r := Fin.ext h0
      obtain ⟨j, hj⟩ := j
      obtain rfl : j = 512 + k.val := h1
      pointwise [k0_pay1, k0_pay2, k0_pay3, k0_pay4, k0_pay5, k0_pay6, k0_pay7, k0_pay8, k0_pay9, k0_pay10, k0_pay11,
          k0_pay12, k0_pay13, k0_pay14, k0_pay15, k0_pay16, k0_pay17, k0_pay18, k0_pay19, k0_pay20, k0_pay21,
          k0_pay22, k0_pay23, k0_pay24, k0_pay25, k0_pay26, k0_pay27, k0_pay28, k0_pay29, k0_pay30, k0_pay31,
          k0_pay32, k0_pay33, k0_pay34, k0_pay35, k0_pay36, k0_pay37, k0_pay38, k0_pay39, k0_pay40, k0_pay41,
          k0_pay42, k0_pay43, k0_pay44, k0_pay45, k0_pay46, k0_pay47, k0_pay48, k0_pay49, k0_pay50, k0_pay51,
          k0_pay52, k0_pay53, k0_pay54, k0_pay55, k0_pay56, k0_pay57, k0_pay58, k0_pay59, k0_pay60, k0_pay61,
          k0_pay62, k0_pay63, k0_pay64, k0_pay65, k0_pay66, k0_pay67, k0_pay68, k0_pay69, k0_pay70, k0_pay71,
          k0_pay72, k0_pay73, k0_pay74, k0_pay75, k0_pay76, k0_pay77, k0_pay78, k0_pay79, k0_pay80, k0_pay81,
          k0_pay82, k0_pay83, k0_pay84, k0_pay85, k0_pay86, k0_pay87, k0_pay88]
      simp only [tap1 m c t, tap2 m c t]
      simp only [blk2, blk4, blk0, blk1, blk5, blk6, Consts.named_c0, Consts.named_c1, Consts.named_3c1,
        Consts.bf16_half]
      simp only [Spec.Args.dg, Spec.gel, Spec.slope, Spec.wgt, Spec.th, Spec.Args.z, Spec.Args.da]
    · obtain ⟨r, k, rfl⟩ : ∃ (r : Fin 512) (k : Fin 512), x = ix2 r k := ⟨x 0, x 1, ValueIdx.eq_ix2 x⟩
      obtain rfl : b = r := Fin.ext h0
      obtain ⟨j, hj⟩ := j
      obtain rfl : j = k.val := h1
      pointwise [k0_pay1, k0_pay2, k0_pay3, k0_pay4, k0_pay5, k0_pay6, k0_pay7, k0_pay8, k0_pay9, k0_pay10, k0_pay11,
          k0_pay12, k0_pay13, k0_pay14, k0_pay15, k0_pay16, k0_pay17, k0_pay18, k0_pay19, k0_pay20, k0_pay21,
          k0_pay22, k0_pay23, k0_pay24, k0_pay25, k0_pay26, k0_pay27, k0_pay28, k0_pay29, k0_pay30, k0_pay31,
          k0_pay32, k0_pay33, k0_pay34, k0_pay35, k0_pay36, k0_pay37, k0_pay38, k0_pay39, k0_pay40, k0_pay41,
          k0_pay42, k0_pay43, k0_pay44, k0_pay45, k0_pay46, k0_pay47, k0_pay48, k0_pay49, k0_pay50, k0_pay51,
          k0_pay52, k0_pay53, k0_pay54, k0_pay55, k0_pay56, k0_pay57, k0_pay58, k0_pay59, k0_pay60, k0_pay61,
          k0_pay62, k0_pay63, k0_pay64, k0_pay65, k0_pay66, k0_pay67, k0_pay68, k0_pay69, k0_pay70, k0_pay71,
          k0_pay72, k0_pay73, k0_pay74, k0_pay75, k0_pay76, k0_pay77, k0_pay78, k0_pay79, k0_pay80, k0_pay81,
          k0_pay82, k0_pay83, k0_pay84, k0_pay85, k0_pay86, k0_pay87, k0_pay88]
      simp only [tap1 m c t, tap2 m c t]
      simp only [blk2, blk4, blk0, blk1, blk5, blk6, Consts.named_c0, Consts.named_c1, Consts.named_3c1,
        Consts.bf16_half]
      simp only [Spec.Args.dg, Spec.gel, Spec.slope, Spec.wgt, Spec.th, Spec.Args.z, Spec.Args.da]

/-- The cotangent of the value half, as an array. -/
def dvArr : FVec Ideal S4096x2816 .bf16 := fun i => (args m c).dv (i 0) (i 1)

set_option maxHeartbeats 1600000 in
theorem final13 : (dats m 0 c).arrAt 13 cfg0.N = dvArr m c := by
  refine (dats m 0 c).arrAt_eq_of_covers 13 _ (by decide +kernel) fun t hf y => ?_
  obtain ⟨b, j, rfl⟩ : ∃ (b : Fin 512) (j : Fin 1408), y = ix2 b j := ⟨y 0, y 1, ValueIdx.eq_ix2 y⟩
  have e : dvArr m c ((win0_13.rect t).emb (ix2 b j)) = (args m c).dv (row t b) (col t j) := by
    refine congrArg₂ (args m c).dv (Fin.ext ?_) (Fin.ext ?_) <;> blk_simp [idx t] <;> rfl
  refine Eq.trans ?_ e.symm
  blk_simp
  rw [after0_13]
  clear e
  by_cases h : t.val % 8 = 0
  · rw [outsAt0_A m c t h]
    frame_out
    clear h
    canon_tiles x h using View.cover_of_tiledBy _ ![512, 128] (by sl_kernel_rfl) _
    all_goals clear hf
    · obtain ⟨r, k, rfl⟩ : ∃ (r : Fin 512) (k : Fin 384), x = ix2 r k := ⟨x 0, x 1, ValueIdx.eq_ix2 x⟩
      obtain rfl : b = r := Fin.ext h0
      obtain ⟨j, hj⟩ := j
      obtain rfl : j = 1024 + k.val := h1
      pointwise [k0_pay1, k0_pay2, k0_pay3, k0_pay4, k0_pay5, k0_pay6, k0_pay7, k0_pay8, k0_pay9, k0_pay10, k0_pay11,
          k0_pay12, k0_pay13, k0_pay14, k0_pay15, k0_pay16, k0_pay17, k0_pay18, k0_pay19, k0_pay20, k0_pay21,
          k0_pay22, k0_pay23, k0_pay24, k0_pay25, k0_pay26, k0_pay27, k0_pay28, k0_pay29, k0_pay30, k0_pay31,
          k0_pay32, k0_pay33, k0_pay34, k0_pay35, k0_pay36, k0_pay37, k0_pay38, k0_pay39, k0_pay40, k0_pay41,
          k0_pay42, k0_pay43, k0_pay44, k0_pay45, k0_pay46, k0_pay47, k0_pay48, k0_pay49, k0_pay50, k0_pay51,
          k0_pay52, k0_pay53, k0_pay54, k0_pay55, k0_pay56, k0_pay57, k0_pay58, k0_pay59, k0_pay60, k0_pay61,
          k0_pay62, k0_pay63, k0_pay64, k0_pay65, k0_pay66, k0_pay67, k0_pay68, k0_pay69, k0_pay70, k0_pay71,
          k0_pay72, k0_pay73, k0_pay74, k0_pay75, k0_pay76, k0_pay77, k0_pay78, k0_pay79, k0_pay80, k0_pay81,
          k0_pay82, k0_pay83, k0_pay84, k0_pay85, k0_pay86, k0_pay87, k0_pay88]
      simp only [tap1 m c t, tap2 m c t]
      simp only [blk2, blk4, blk0, blk1, blk5, blk6, Consts.named_c0, Consts.named_c1, Consts.named_3c1,
        Consts.bf16_half]
      simp only [Spec.Args.dv, Spec.gel, Spec.slope, Spec.wgt, Spec.th, Spec.Args.z, Spec.Args.da]
    · obtain ⟨r, k, rfl⟩ : ∃ (r : Fin 512) (k : Fin 512), x = ix2 r k := ⟨x 0, x 1, ValueIdx.eq_ix2 x⟩
      obtain rfl : b = r := Fin.ext h0
      obtain ⟨j, hj⟩ := j
      obtain rfl : j = 512 + k.val := h1
      pointwise [k0_pay1, k0_pay2, k0_pay3, k0_pay4, k0_pay5, k0_pay6, k0_pay7, k0_pay8, k0_pay9, k0_pay10, k0_pay11,
          k0_pay12, k0_pay13, k0_pay14, k0_pay15, k0_pay16, k0_pay17, k0_pay18, k0_pay19, k0_pay20, k0_pay21,
          k0_pay22, k0_pay23, k0_pay24, k0_pay25, k0_pay26, k0_pay27, k0_pay28, k0_pay29, k0_pay30, k0_pay31,
          k0_pay32, k0_pay33, k0_pay34, k0_pay35, k0_pay36, k0_pay37, k0_pay38, k0_pay39, k0_pay40, k0_pay41,
          k0_pay42, k0_pay43, k0_pay44, k0_pay45, k0_pay46, k0_pay47, k0_pay48, k0_pay49, k0_pay50, k0_pay51,
          k0_pay52, k0_pay53, k0_pay54, k0_pay55, k0_pay56, k0_pay57, k0_pay58, k0_pay59, k0_pay60, k0_pay61,
          k0_pay62, k0_pay63, k0_pay64, k0_pay65, k0_pay66, k0_pay67, k0_pay68, k0_pay69, k0_pay70, k0_pay71,
          k0_pay72, k0_pay73, k0_pay74, k0_pay75, k0_pay76, k0_pay77, k0_pay78, k0_pay79, k0_pay80, k0_pay81,
          k0_pay82, k0_pay83, k0_pay84, k0_pay85, k0_pay86, k0_pay87, k0_pay88]
      simp only [tap1 m c t, tap2 m c t]
      simp only [blk2, blk4, blk0, blk1, blk5, blk6, Consts.named_c0, Consts.named_c1, Consts.named_3c1,
        Consts.bf16_half]
      simp only [Spec.Args.dv, Spec.gel, Spec.slope, Spec.wgt, Spec.th, Spec.Args.z, Spec.Args.da]
    · obtain ⟨r, k, rfl⟩ : ∃ (r : Fin 512) (k : Fin 512), x = ix2 r k := ⟨x 0, x 1, ValueIdx.eq_ix2 x⟩
      obtain rfl : b = r := Fin.ext h0
      obtain ⟨j, hj⟩ := j
      obtain rfl : j = k.val := h1
      pointwise [k0_pay1, k0_pay2, k0_pay3, k0_pay4, k0_pay5, k0_pay6, k0_pay7, k0_pay8, k0_pay9, k0_pay10, k0_pay11,
          k0_pay12, k0_pay13, k0_pay14, k0_pay15, k0_pay16, k0_pay17, k0_pay18, k0_pay19, k0_pay20, k0_pay21,
          k0_pay22, k0_pay23, k0_pay24, k0_pay25, k0_pay26, k0_pay27, k0_pay28, k0_pay29, k0_pay30, k0_pay31,
          k0_pay32, k0_pay33, k0_pay34, k0_pay35, k0_pay36, k0_pay37, k0_pay38, k0_pay39, k0_pay40, k0_pay41,
          k0_pay42, k0_pay43, k0_pay44, k0_pay45, k0_pay46, k0_pay47, k0_pay48, k0_pay49, k0_pay50, k0_pay51,
          k0_pay52, k0_pay53, k0_pay54, k0_pay55, k0_pay56, k0_pay57, k0_pay58, k0_pay59, k0_pay60, k0_pay61,
          k0_pay62, k0_pay63, k0_pay64, k0_pay65, k0_pay66, k0_pay67, k0_pay68, k0_pay69, k0_pay70, k0_pay71,
          k0_pay72, k0_pay73, k0_pay74, k0_pay75, k0_pay76, k0_pay77, k0_pay78, k0_pay79, k0_pay80, k0_pay81,
          k0_pay82, k0_pay83, k0_pay84, k0_pay85, k0_pay86, k0_pay87, k0_pay88]
      simp only [tap1 m c t, tap2 m c t]
      simp only [blk2, blk4, blk0, blk1, blk5, blk6, Consts.named_c0, Consts.named_c1, Consts.named_3c1,
        Consts.bf16_half]
      simp only [Spec.Args.dv, Spec.gel, Spec.slope, Spec.wgt, Spec.th, Spec.Args.z, Spec.Args.da]
  · rw [outsAt0_B m c t h]
    frame_out
    clear h
    canon_tiles x h using View.cover_of_tiledBy _ ![512, 128] (by sl_kernel_rfl) _
    all_goals clear hf
    · obtain ⟨r, k, rfl⟩ : ∃ (r : Fin 512) (k : Fin 384), x = ix2 r k := ⟨x 0, x 1, ValueIdx.eq_ix2 x⟩
      obtain rfl : b = r := Fin.ext h0
      obtain ⟨j, hj⟩ := j
      obtain rfl : j = 1024 + k.val := h1
      pointwise [k0_pay1, k0_pay2, k0_pay3, k0_pay4, k0_pay5, k0_pay6, k0_pay7, k0_pay8, k0_pay9, k0_pay10, k0_pay11,
          k0_pay12, k0_pay13, k0_pay14, k0_pay15, k0_pay16, k0_pay17, k0_pay18, k0_pay19, k0_pay20, k0_pay21,
          k0_pay22, k0_pay23, k0_pay24, k0_pay25, k0_pay26, k0_pay27, k0_pay28, k0_pay29, k0_pay30, k0_pay31,
          k0_pay32, k0_pay33, k0_pay34, k0_pay35, k0_pay36, k0_pay37, k0_pay38, k0_pay39, k0_pay40, k0_pay41,
          k0_pay42, k0_pay43, k0_pay44, k0_pay45, k0_pay46, k0_pay47, k0_pay48, k0_pay49, k0_pay50, k0_pay51,
          k0_pay52, k0_pay53, k0_pay54, k0_pay55, k0_pay56, k0_pay57, k0_pay58, k0_pay59, k0_pay60, k0_pay61,
          k0_pay62, k0_pay63, k0_pay64, k0_pay65, k0_pay66, k0_pay67, k0_pay68, k0_pay69, k0_pay70, k0_pay71,
          k0_pay72, k0_pay73, k0_pay74, k0_pay75, k0_pay76, k0_pay77, k0_pay78, k0_pay79, k0_pay80, k0_pay81,
          k0_pay82, k0_pay83, k0_pay84, k0_pay85, k0_pay86, k0_pay87, k0_pay88]
      simp only [tap1 m c t, tap2 m c t]
      simp only [blk2, blk4, blk0, blk1, blk5, blk6, Consts.named_c0, Consts.named_c1, Consts.named_3c1,
        Consts.bf16_half]
      simp only [Spec.Args.dv, Spec.gel, Spec.slope, Spec.wgt, Spec.th, Spec.Args.z, Spec.Args.da]
    · obtain ⟨r, k, rfl⟩ : ∃ (r : Fin 512) (k : Fin 512), x = ix2 r k := ⟨x 0, x 1, ValueIdx.eq_ix2 x⟩
      obtain rfl : b = r := Fin.ext h0
      obtain ⟨j, hj⟩ := j
      obtain rfl : j = 512 + k.val := h1
      pointwise [k0_pay1, k0_pay2, k0_pay3, k0_pay4, k0_pay5, k0_pay6, k0_pay7, k0_pay8, k0_pay9, k0_pay10, k0_pay11,
          k0_pay12, k0_pay13, k0_pay14, k0_pay15, k0_pay16, k0_pay17, k0_pay18, k0_pay19, k0_pay20, k0_pay21,
          k0_pay22, k0_pay23, k0_pay24, k0_pay25, k0_pay26, k0_pay27, k0_pay28, k0_pay29, k0_pay30, k0_pay31,
          k0_pay32, k0_pay33, k0_pay34, k0_pay35, k0_pay36, k0_pay37, k0_pay38, k0_pay39, k0_pay40, k0_pay41,
          k0_pay42, k0_pay43, k0_pay44, k0_pay45, k0_pay46, k0_pay47, k0_pay48, k0_pay49, k0_pay50, k0_pay51,
          k0_pay52, k0_pay53, k0_pay54, k0_pay55, k0_pay56, k0_pay57, k0_pay58, k0_pay59, k0_pay60, k0_pay61,
          k0_pay62, k0_pay63, k0_pay64, k0_pay65, k0_pay66, k0_pay67, k0_pay68, k0_pay69, k0_pay70, k0_pay71,
          k0_pay72, k0_pay73, k0_pay74, k0_pay75, k0_pay76, k0_pay77, k0_pay78, k0_pay79, k0_pay80, k0_pay81,
          k0_pay82, k0_pay83, k0_pay84, k0_pay85, k0_pay86, k0_pay87, k0_pay88]
      simp only [tap1 m c t, tap2 m c t]
      simp only [blk2, blk4, blk0, blk1, blk5, blk6, Consts.named_c0, Consts.named_c1, Consts.named_3c1,
        Consts.bf16_half]
      simp only [Spec.Args.dv, Spec.gel, Spec.slope, Spec.wgt, Spec.th, Spec.Args.z, Spec.Args.da]
    · obtain ⟨r, k, rfl⟩ : ∃ (r : Fin 512) (k : Fin 512), x = ix2 r k := ⟨x 0, x 1, ValueIdx.eq_ix2 x⟩
      obtain rfl : b = r := Fin.ext h0
      obtain ⟨j, hj⟩ := j
      obtain rfl : j = k.val := h1
      pointwise [k0_pay1, k0_pay2, k0_pay3, k0_pay4, k0_pay5, k0_pay6, k0_pay7, k0_pay8, k0_pay9, k0_pay10, k0_pay11,
          k0_pay12, k0_pay13, k0_pay14, k0_pay15, k0_pay16, k0_pay17, k0_pay18, k0_pay19, k0_pay20, k0_pay21,
          k0_pay22, k0_pay23, k0_pay24, k0_pay25, k0_pay26, k0_pay27, k0_pay28, k0_pay29, k0_pay30, k0_pay31,
          k0_pay32, k0_pay33, k0_pay34, k0_pay35, k0_pay36, k0_pay37, k0_pay38, k0_pay39, k0_pay40, k0_pay41,
          k0_pay42, k0_pay43, k0_pay44, k0_pay45, k0_pay46, k0_pay47, k0_pay48, k0_pay49, k0_pay50, k0_pay51,
          k0_pay52, k0_pay53, k0_pay54, k0_pay55, k0_pay56, k0_pay57, k0_pay58, k0_pay59, k0_pay60, k0_pay61,
          k0_pay62, k0_pay63, k0_pay64, k0_pay65, k0_pay66, k0_pay67, k0_pay68, k0_pay69, k0_pay70, k0_pay71,
          k0_pay72, k0_pay73, k0_pay74, k0_pay75, k0_pay76, k0_pay77, k0_pay78, k0_pay79, k0_pay80, k0_pay81,
          k0_pay82, k0_pay83, k0_pay84, k0_pay85, k0_pay86, k0_pay87, k0_pay88]
      simp only [tap1 m c t, tap2 m c t]
      simp only [blk2, blk4, blk0, blk1, blk5, blk6, Consts.named_c0, Consts.named_c1, Consts.named_3c1,
        Consts.bf16_half]
      simp only [Spec.Args.dv, Spec.gel, Spec.slope, Spec.wgt, Spec.th, Spec.Args.z, Spec.Args.da]

end Cert.KerSpec

end
-- ==== Proof.Pre.lean ====
/-
  The precondition and the mask, read back: the precondition's four tests say that the matrices are real; the mask asks of
  the gradient of the up projection only the blocks this call writes.
-/
module

public import proofs.«01_k».proof.Defs
public import proofs.«01_k».proof.Proof.Blocks
public import proofs.«01_k».proof.Proof.Gen.Pre_finite
public import proofs.«01_k».proof.Proof.Gen.On_value_half
public import Idealize.ShloMosaic.Lib.ReduceAll
public import Idealize.ShloMosaic.Lib.Affine

@[expose] public section

noncomputable section

namespace Cert.Pre

open Idealize.ShloMosaic Idealize.ShloMosaic.TcCoe Idealize.SL.Sem

/-- An extended real whose absolute value is below infinity is a real. -/
theorem real_of_lt {x : EReal} (h : Ideal.cmp .olt (max x (-x)) (Ideal.ofBits .f32 0x7F800000#32) = 1#1) :
    ∃ y : ℝ, x = y := by
  rw [Consts.f32_top] at h
  induction x with
  | bot => exact absurd h (by decide)
  | top => exact absurd h (by decide)
  | coe a => exact ⟨a, rfl⟩

instance : Subsingleton Pre_finite.S_.Idx := ⟨fun a b => funext fun k => k.elim0⟩

variable (x0 : FVec Ideal Pre_finite.S4096x1024 .f32) (x1 : FVec Ideal Pre_finite.S1024x5632 .f32)
  (x2 : FVec Ideal Pre_finite.S3x2816 .f32)
  (x3 : FVec Ideal Pre_finite.S1x2816 .f32) (x4 : FVec Ideal Pre_finite.S2816x1024 .f32) (x5 : FVec Ideal Pre_finite.S4096x1024 .f32)

/-- The precondition says that the matrices are real. -/
theorem finite_of (h : Pre_finite.fn (F := Ideal) x0 x1 x2 x3 x4 x5 = fun _ => 1#1) : (RefSpec.args x0 x1 x2 x3 x4 x5).Finite := by
  have h := congrFun h (Shape.Idx.first Pre_finite.Gen.h_S_)
  dsimp only [Pre_finite.fn, Pre_finite.fn_part1] at h
  obtain ⟨h, h5⟩ := IntOp.andi_eq_one.mp h
  obtain ⟨h, h4⟩ := IntOp.andi_eq_one.mp h
  obtain ⟨h0, h1⟩ := IntOp.andi_eq_one.mp h
  exact ⟨fun r q => real_of_lt (Host.reduce_andi_all _ _ _ _ _ h0 (ix2 r q)), fun r q => real_of_lt (Host.reduce_andi_all _ _ _ _ _ h1 (ix2 r q)),
    fun r q => real_of_lt (Host.reduce_andi_all _ _ _ _ _ h4 (ix2 r q)), fun r q => real_of_lt (Host.reduce_andi_all _ _ _ _ _ h5 (ix2 r q))⟩

/-- The mask is one only at the blocks this call writes. -/
theorem half_of (i : (⟨3, ![4, 1024, 1408]⟩ : Shape).Idx) (h : (On_value_half.fn (F := Ideal) x0 x1 x2 x3 x4 x5).2.2.2.2.1 i = 1#1) :
    2 ≤ (i 0).val := by
  have h : IntOp.cmpi .sge (BitVec.ofNat 32 (i 0).val) 2#32 = 1#1 := h
  have h0 : (i 0).val < 4 := (i 0).isLt
  generalize (i 0).val = n at h h0
  revert h
  match n, h0 with
  | 0, _ => decide
  | 1, _ => decide
  | (n + 2), _ => intro _; omega

end Cert.Pre

end
-- ==== Proof.Down.lean ====
/-
  The claims about the gradient of the down projection and of the gate (`down_bwd`): the two runs, and their results set
  side by side through the layer's mathematics (Spec.lean).
-/
module

public import proofs.«01_k».proof.Defs
public import proofs.«01_k».proof.Proof.Final
public import proofs.«01_k».proof.Proof.Cotangents
public import proofs.«01_k».proof.Proof.Pre
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read

@[expose] public section

set_option maxRecDepth 16384

noncomputable section

namespace Cert.Down

open Idealize.ShloMosaic Idealize.ShloMosaic.TcCoe Idealize.SL.Sem
open Cert.KerSpec

/-- The three constants named are the three the table holds. -/
theorem preserves : Cert.preserves_Kernel_KernelIdeal :=
  ⟨IdealRules.named_const.statement Cert.KernelIdeal.κ "gelu_c1" .bf16 0x3D12#16 ((80338380498831/2251799813685248 : ℝ) : EReal) rfl,
    IdealRules.named_const.statement Cert.KernelIdeal.κ "gelu_c0" .bf16 0x3F4C#16 ((6693141/8388608 : ℝ) : EReal) rfl,
    IdealRules.named_const.statement Cert.KernelIdeal.κ "gelu_3c1" .bf16 0x3DDB#16 ((241015141496493/2251799813685248 : ℝ) : EReal) rfl⟩

theorem frame_ref : Cert.quiescent_ReferenceIdeal := fun m ρ _ =>
  (θ_run Cert.ReferenceIdeal.defs _ _).mono (fun r h =>
    ⟨fun c => ⟨(h c).2.2.2.2.2.2.1, (h c).2.2.2.2.2.2.2.1, (h c).2.2.2.2.2.2.2.2.1, (h c).2.2.2.2.2.2.2.2.2.1,
      (h c).2.2.2.2.2.2.2.2.2.2.1, (h c).2.2.2.2.2.2.2.2.2.2.2⟩,
      Idealize.ShloMosaic.sem_eq_zero_of_no_sems (by decide) r.2⟩)
    (Cert.ReferenceIdeal.Value.run (F := Ideal) m ρ)

theorem frames : Cert.quiescent_Kernel ∧ Cert.quiescent_KernelIdeal ∧ Cert.quiescent_KernelIdeal_pre_finite
    ∧ Cert.quiescent_ReferenceIdeal ∧ Cert.quiescent_ReferenceIdeal_pre_finite :=
  ⟨fun m ρ _ => Cert.Kernel.Gen.frame m ρ, fun m ρ _ => Cert.KernelIdeal.Gen.frame m ρ,
    fun m ρ _ => Cert.KernelIdeal.Gen.frame m ρ, frame_ref, fun m ρ _ => frame_ref m ρ trivial⟩

section Results

variable (m : (ℓ : Loc Cert.KernelIdeal.nD Cert.KernelIdeal.τ Cert.KernelIdeal.sig) → Buf (Elt Ideal) ℓ)
  (c : Dev Cert.KernelIdeal.nD)

/-- The six arguments. -/
abbrev a0 := m ((c.tc : Thread Cert.KernelIdeal.nD Cert.KernelIdeal.τ).loc Cert.KernelIdeal.main_arg0)
abbrev a1 := m ((c.tc : Thread Cert.KernelIdeal.nD Cert.KernelIdeal.τ).loc Cert.KernelIdeal.main_arg1)
abbrev a2 := m ((c.tc : Thread Cert.KernelIdeal.nD Cert.KernelIdeal.τ).loc Cert.KernelIdeal.main_arg2)
abbrev a3 := m ((c.tc : Thread Cert.KernelIdeal.nD Cert.KernelIdeal.τ).loc Cert.KernelIdeal.main_arg3)
abbrev a4 := m ((c.tc : Thread Cert.KernelIdeal.nD Cert.KernelIdeal.τ).loc Cert.KernelIdeal.main_arg4)
abbrev a5 := m ((c.tc : Thread Cert.KernelIdeal.nD Cert.KernelIdeal.τ).loc Cert.KernelIdeal.main_arg5)

open Cert.ReferenceIdeal.Read

theorem ref_dg (h : (args m c).Finite) :
    val_main_v115 (F := Ideal) (a0 m c) (a1 m c) (a2 m c) (a3 m c) (a4 m c) (a5 m c) = dgArr m c := by
  funext i
  obtain ⟨r, j, rfl⟩ : ∃ (r : Fin 4096) (j : Fin 2816), i = ix2 r j := ⟨i 0, i 1, ValueIdx.eq_ix2 i⟩
  exact RefSpec.dg_at _ _ _ _ _ _ h r j

theorem ref_dcw (h : (args m c).Finite) :
    val_main_v102 (F := Ideal) (a0 m c) (a1 m c) (a2 m c) (a3 m c) (a4 m c) (a5 m c) = dcwArr m c := by
  funext i
  obtain ⟨r, j, rfl⟩ : ∃ (r : Fin 3) (j : Fin 2816), i = ix2 r j := ⟨i 0, i 1, ValueIdx.eq_ix2 i⟩
  exact RefSpec.dcw_at _ _ _ _ _ _ h r j

theorem ref_dcb (h : (args m c).Finite) :
    val_main_v73 (F := Ideal) (a0 m c) (a1 m c) (a2 m c) (a3 m c) (a4 m c) (a5 m c) = dcbArr m c := by
  funext i
  obtain ⟨r, j, rfl⟩ : ∃ (r : Fin 1) (j : Fin 2816), i = ix2 r j := ⟨i 0, i 1, ValueIdx.eq_ix2 i⟩
  obtain rfl : r = 0 := Subsingleton.elim _ _
  exact RefSpec.dcb_at _ _ _ _ _ _ h j

theorem ref_dwd : val_main_v54 (F := Ideal) (a0 m c) (a1 m c) (a2 m c) (a3 m c) (a5 m c) = dwdArr m c := by
  funext i
  obtain ⟨r, j, rfl⟩ : ∃ (r : Fin 2816) (j : Fin 1024), i = ix2 r j := ⟨i 0, i 1, ValueIdx.eq_ix2 i⟩
  exact RefSpec.dwd_at _ _ _ _ (a4 m c) _ r j

theorem ref_dwu (i : (⟨3, ![4, 1024, 1408]⟩ : Shape).Idx) (hi : 2 ≤ (i 0).val) :
    val_main_v114 (F := Ideal) (a0 m c) (a1 m c) (a2 m c) (a3 m c) (a4 m c) (a5 m c) i = dwuArr m c i := by
  obtain ⟨b, q, k, rfl⟩ : ∃ (b : Fin 4) (q : Fin 1024) (k : Fin 1408), i = ix3 b q k :=
    ⟨i 0, i 1, i 2, ValueIdx.eq_ix3 i⟩
  exact RefSpec.dwu_at _ _ _ _ _ _ b hi q k

theorem ref_dv :
    val_main_v116 (F := Ideal) (a0 m c) (a1 m c) (a2 m c) (a3 m c) (a4 m c) (a5 m c) = dvArr m c := by
  funext i
  obtain ⟨r, j, rfl⟩ : ∃ (r : Fin 4096) (j : Fin 2816), i = ix2 r j := ⟨i 0, i 1, ValueIdx.eq_ix2 i⟩
  exact RefSpec.dv_at _ _ _ _ _ _ r j

end Results

open Cert.ReferenceIdeal.Read in
/-- The kernel's six results are the reference's, on every block the kernel writes. -/
theorem algebraic : Cert.algebraic_KernelIdeal_ReferenceIdeal_on_value_half_pre_finite := by
  intro m g m' g' hpre hagree
  have hfin : ∀ c, (args m c).Finite := fun c => Pre.finite_of _ _ _ _ _ _ (hpre c)
  refine ⟨fun c => dgArr m c, fun c => dcwArr m c, fun c => dcbArr m c, fun c => dwdArr m c, fun c => dwuArr m c,
    fun c => dvArr m c, ?_, ?_⟩
  · refine (θ_run Cert.KernelIdeal.defs _ _).mono (fun r h c => ?_) (Cert.KernelIdeal.Value.run_blocks (F := Ideal) m g)
    obtain ⟨h8, h9, h10, h11, h12, h13, hk⟩ := h c
    exact ⟨fun i _ => congrFun (h8.trans (final8 m c)) i, fun i _ => congrFun (h9.trans (final9 m c)) i,
      fun i _ => congrFun (h10.trans (final10 m c)) i, fun i _ => congrFun (h11.trans (final11 m c)) i,
      fun i hi => (congrFun h12 i).trans (final12 m c i (Pre.half_of _ _ _ _ _ _ i hi)),
      fun i _ => congrFun (h13.trans (final13 m c)) i, hk⟩
  · refine (θ_run Cert.ReferenceIdeal.defs _ _).mono (fun r h c => ?_) (Cert.ReferenceIdeal.Value.run (F := Ideal) m' g')
    obtain ⟨e0, e1, e2, e3, e4, e5⟩ := hagree c
    obtain ⟨h0, h1, h2, h3, h4, h5, hk⟩ := h c
    have h0 := h0.trans (val_main_v115_eq _)
    have h1 := h1.trans (val_main_v102_eq _)
    have h2 := h2.trans (val_main_v73_eq _)
    have h3 := h3.trans (val_main_v54_eq _)
    have h4 := h4.trans (val_main_v114_eq _)
    have h5 := h5.trans (val_main_v116_eq _)
    simp only [StableHlo.launchContents] at h0 h1 h2 h3 h4 h5
    erw [e0, e1, e2, e3, e4, e5] at h0 h1 h2 h4 h5
    erw [e0, e1, e2, e3, e5] at h3
    exact ⟨fun i _ => congrFun (h0.trans (ref_dg m c (hfin c))) i, fun i _ => congrFun (h1.trans (ref_dcw m c (hfin c))) i,
      fun i _ => congrFun (h2.trans (ref_dcb m c (hfin c))) i, fun i _ => congrFun (h3.trans (ref_dwd m c)) i,
      fun i hi => (congrFun h4 i).trans (ref_dwu m c i (Pre.half_of _ _ _ _ _ _ i hi)),
      fun i _ => congrFun (h5.trans (ref_dv m c)) i, hk⟩

end Cert.Down

end
-- ==== Proof.Up2Spec.lean ====
/-
  The mathematics of the backward pass through the up projection and the two norms around it, element by element, on the
  extended reals: the transposed convolution, the two projections' cotangents, and the root-mean-square norm's derivative
  in the kernel's grouping and in the reference's, which agree where everything is real.
-/
module

public import proofs.«01_k».proof.Proof.Spec
public import proofs.«01_k».proof.Proof.Consts

@[expose] public section

noncomputable section

namespace Cert.Spec2

open Idealize.ShloMosaic

/-- The norm's small term, as the single-precision constant of both programs. -/
def eps : EReal := Ideal.ofBits .f32 0x358637BD#32

/-- The width of a row, as the single-precision constant of both programs. -/
def width : EReal := Ideal.ofBits .f32 0x44800000#32

theorem width_eq : width = ((1024 : ℝ) : EReal) := by
  simp [width, Ideal.ofBits, Ideal.ieee, -EReal.coe_mul]; norm_num

theorem eps_pos : ∃ e : ℝ, 0 < e ∧ eps = e := by
  refine ⟨8796093 / 8796093022208, by norm_num, ?_⟩
  simp [eps, Ideal.ofBits, Ideal.ieee, -EReal.coe_mul]; norm_num

theorem neg_half : Ideal.ofBits .f32 0xBF000000#32 = ((-(1 / 2) : ℝ) : EReal) := by
  simp [Ideal.ofBits, Ideal.ieee, -EReal.coe_mul]; norm_num

/-! ## The root-mean-square norm of a row -/

/-- The mean square of a row, with the small term. -/
def msq (a : Fin 1024 → EReal) : EReal := Ideal.div (∑ q, a q * a q) width + eps

/-- The reciprocal root of the mean square. -/
def rstd (a : Fin 1024 → EReal) : EReal := Ideal.rsqrt (msq a)

/-- The normed row. -/
def unit (a : Fin 1024 → EReal) (q : Fin 1024) : EReal := a q * rstd a

/-- The derivative through the norm, in the kernel's grouping. -/
def back (a d : Fin 1024 → EReal) (q : Fin 1024) : EReal :=
  rstd a * (d q - unit a q * Ideal.div (∑ k, d k * unit a k) width)

/-- The coefficient of the row in the derivative, as the reference writes it. -/
def coef (a d : Fin 1024 → EReal) : EReal :=
  Ideal.div ((∑ k, a k * d k) * (Ideal.ofBits .f32 0xBF000000#32 * Ideal.div (rstd a) (msq a))) width

/-- A sum of reals is a real. -/
theorem coe_sum {n : ℕ} (f : Fin n → ℝ) : ∑ q, (f q : EReal) = ((∑ q, f q : ℝ) : EReal) :=
  (map_sum (⟨⟨Real.toEReal, EReal.coe_zero⟩, EReal.coe_add⟩ : ℝ →+ EReal) _ _).symm

theorem div_width (x : ℝ) : Ideal.div (x : EReal) width = ((x / 1024 : ℝ) : EReal) := by
  rw [width_eq, Ideal.div_coe (by norm_num), ← EReal.coe_mul]
  congr 1
  ring

/-- The mean square of a real row is a positive real, and its reciprocal root that of the reals. -/
theorem msq_real (a : Fin 1024 → ℝ) : ∃ v s : ℝ, 0 < v ∧ s * s * v = 1 ∧ msq (fun q => (a q : EReal)) = v
    ∧ rstd (fun q => (a q : EReal)) = s := by
  obtain ⟨e, he, hE⟩ := eps_pos
  have hm : msq (fun q => (a q : EReal)) = (((∑ q, a q * a q) / 1024 + e : ℝ) : EReal) := by
    unfold msq
    simp only [← EReal.coe_mul]
    rw [coe_sum, div_width, hE, ← EReal.coe_add]
  have hv : 0 < (∑ q, a q * a q) / 1024 + e := by
    have : 0 ≤ ∑ q, a q * a q := Finset.sum_nonneg fun q _ => mul_self_nonneg _
    positivity
  refine ⟨_, (Real.sqrt ((∑ q, a q * a q) / 1024 + e))⁻¹, hv, ?_, hm, ?_⟩
  · have h := Real.mul_self_sqrt hv.le
    rw [← mul_inv, h, inv_mul_cancel₀ hv.ne']
  · rw [rstd, hm, Ideal.rsqrt_coe, if_neg hv.le.not_gt, if_neg hv.ne']

/-- The reference's derivative through the norm of a real row is the kernel's, and a real. -/
theorem back_eq (a d : Fin 1024 → EReal) (ha : ∀ q, ∃ x : ℝ, a q = x) (hd : ∀ q, ∃ x : ℝ, d q = x) (q : Fin 1024) :
    d q * rstd a + a q * coef a d + coef a d * a q = back a d q ∧ ∃ x : ℝ, back a d q = x := by
  choose a' ha using ha
  choose d' hd using hd
  obtain rfl : a = fun q => (a' q : EReal) := funext ha
  obtain rfl : d = fun q => (d' q : EReal) := funext hd
  obtain ⟨v, s, hv, hs, hm, hr⟩ := msq_real a'
  have hb : back (fun q => (a' q : EReal)) (fun q => (d' q : EReal)) q
      = ((s * (d' q - a' q * s * ((∑ k, d' k * (a' k * s)) / 1024)) : ℝ) : EReal) := by
    unfold back unit
    rw [hr]
    simp only [← EReal.coe_mul]
    rw [coe_sum, div_width, ← EReal.coe_mul, ← EReal.coe_sub, ← EReal.coe_mul]
  refine ⟨?_, _, hb⟩
  have hc : coef (fun q => (a' q : EReal)) (fun q => (d' q : EReal))
      = (((∑ k, a' k * d' k) * (-(1 / 2) * (s / v)) / 1024 : ℝ) : EReal) := by
    unfold coef
    rw [hr, hm, neg_half, Ideal.div_coe hv.ne']
    simp only [← EReal.coe_mul]
    rw [coe_sum, ← EReal.coe_mul, div_width]
    congr 1
    ring
  rw [hb, hc, hr]
  simp only [← EReal.coe_mul, ← EReal.coe_add]
  congr 1
  have e1 : ∑ k, d' k * (a' k * s) = (∑ k, a' k * d' k) * s := by
    rw [Finset.sum_mul]; exact Finset.sum_congr rfl fun k _ => by ring
  have e2 : s / v = s * s * s := by
    rw [div_eq_iff hv.ne']; linear_combination (-s) * hs
  rw [e1, e2]
  ring

/-- The norm of a real row is real. -/
theorem unit_real (a : Fin 1024 → EReal) (ha : ∀ q, ∃ x : ℝ, a q = x) (q : Fin 1024) : ∃ x : ℝ, unit a q = x := by
  choose a' ha using ha
  obtain rfl : a = fun q => (a' q : EReal) := funext ha
  obtain ⟨v, s, hv, hs, hm, hr⟩ := msq_real a'
  exact ⟨a' q * s, by unfold unit; rw [hr, ← EReal.coe_mul]⟩

theorem real_add {x y : EReal} (hx : ∃ a : ℝ, x = a) (hy : ∃ a : ℝ, y = a) : ∃ a : ℝ, x + y = a := by
  obtain ⟨a, rfl⟩ := hx; obtain ⟨b, rfl⟩ := hy; exact ⟨a + b, (EReal.coe_add a b).symm⟩

theorem real_mul {x y : EReal} (hx : ∃ a : ℝ, x = a) (hy : ∃ a : ℝ, y = a) : ∃ a : ℝ, x * y = a := by
  obtain ⟨a, rfl⟩ := hx; obtain ⟨b, rfl⟩ := hy; exact ⟨a * b, (EReal.coe_mul a b).symm⟩

/-! ## The arrays -/

/-- The operands: the layer's input and the mixer's output before its norm, the six modulation rows, the gains of the two
    norms, the up projection, the convolution's taps, and the cotangents of the convolved gate, of the value half and of
    the layer's input. -/
structure Args where
  /-- the stream before the mixer -/
  X : Fin 4096 → Fin 1024 → EReal
  /-- the mixer's output -/
  Y : Fin 4096 → Fin 1024 → EReal
  /-- the modulation rows -/
  M : Fin 6 → Fin 1024 → EReal
  /-- the gain of the mixer output's norm -/
  GP : Fin 1024 → EReal
  /-- the gain of the layer input's norm -/
  GR : Fin 1024 → EReal
  /-- the up projection -/
  WU : Fin 1024 → Fin 5632 → EReal
  /-- the taps -/
  CW : Fin 3 → Fin 2816 → EReal
  /-- the cotangent of the convolved gate -/
  DZ : Fin 4096 → Fin 2816 → EReal
  /-- the cotangent of the value half -/
  DV : Fin 4096 → Fin 2816 → EReal
  /-- the cotangent of the stream -/
  DO : Fin 4096 → Fin 1024 → EReal

namespace Args

variable (A : Args)

/-- One plus the scale row. -/
def osc (q : Fin 1024) : EReal := 1 + A.M 4 q

/-- The mixer's output normed, before its gain. -/
def yn (r : Fin 4096) (q : Fin 1024) : EReal := unit (A.Y r) q

/-- The stream after the mixer. -/
def x1 (r : Fin 4096) (q : Fin 1024) : EReal := A.X r q + A.M 2 q * (A.yn r q * A.GP q)

/-- The stream normed, before its gain. -/
def n2 (r : Fin 4096) (q : Fin 1024) : EReal := unit (A.x1 r) q

/-- The layer's hidden state. -/
def h (r : Fin 4096) (q : Fin 1024) : EReal := A.n2 r q * A.GR q * A.osc q + A.M 3 q

/-- The cotangent of the convolved gate `s` tokens on, zero after the last token. -/
def ahead (s : ℕ) (r : Fin 4096) (j : Fin 2816) : EReal :=
  if p : r.val + s < 4096 then A.DZ ⟨r.val + s, p⟩ j else 0

/-- The cotangent of the gate: the convolution transposed. -/
def dgate (r : Fin 4096) (j : Fin 2816) : EReal :=
  A.DZ r j * A.CW 2 j + A.ahead 1 r j * A.CW 1 j + A.ahead 2 r j * A.CW 0 j

/-- The cotangent of the hidden state, over the two halves of the gate's columns and of the value's. -/
def dh (r : Fin 4096) (q : Fin 1024) : EReal :=
  (((∑ k : Fin 1408, A.dgate r ⟨k.val, by omega⟩ * A.WU q ⟨k.val, by omega⟩)
    + ∑ k : Fin 1408, A.DV r ⟨k.val, by omega⟩ * A.WU q ⟨2816 + k.val, by omega⟩)
    + ∑ k : Fin 1408, A.dgate r ⟨1408 + k.val, by omega⟩ * A.WU q ⟨1408 + k.val, by omega⟩)
    + ∑ k : Fin 1408, A.DV r ⟨1408 + k.val, by omega⟩ * A.WU q ⟨4224 + k.val, by omega⟩

/-- The cotangent of the normed stream. -/
def dn (r : Fin 4096) (q : Fin 1024) : EReal := A.dh r q * (A.GR q * A.osc q)

/-- The cotangent of the stream before the layer. -/
def dx1 (r : Fin 4096) (q : Fin 1024) : EReal := A.DO r q + back (A.x1 r) (A.dn r) q

/-- The cotangent of the normed mixer output. -/
def dyn (r : Fin 4096) (q : Fin 1024) : EReal := A.dx1 r q * A.M 2 q * A.GP q

/-- The cotangent of the mixer's output. -/
def dy (r : Fin 4096) (q : Fin 1024) : EReal := back (A.Y r) (A.dyn r) q

/-- The gradient of the shift row. -/
def dsh (q : Fin 1024) : EReal := ∑ r, A.dh r q

/-- The gradient of the scale row. -/
def dsc (q : Fin 1024) : EReal := ∑ r, A.dh r q * (A.n2 r q * A.GR q)

/-- The gradient of the gain of the stream's norm. -/
def dgr (q : Fin 1024) : EReal := ∑ r, A.dh r q * A.osc q * A.n2 r q

/-- The gradient of the gate row. -/
def dgt (q : Fin 1024) : EReal := ∑ r, A.dx1 r q * (A.yn r q * A.GP q)

/-- The gradient of the gain of the mixer output's norm. -/
def dgp (q : Fin 1024) : EReal := ∑ r, A.dx1 r q * A.M 2 q * A.yn r q

/-- The gradient of the up projection's gate columns. -/
def dwu (q : Fin 1024) (j : Fin 2816) : EReal := ∑ r, A.h r q * A.dgate r j

/-- Every operand, and of the modulation the gate and scale rows, is real. -/
structure Finite : Prop where
  X : ∀ r q, ∃ x : ℝ, A.X r q = x
  Y : ∀ r q, ∃ x : ℝ, A.Y r q = x
  M2 : ∀ q, ∃ x : ℝ, A.M 2 q = x
  M4 : ∀ q, ∃ x : ℝ, A.M 4 q = x
  GP : ∀ q, ∃ x : ℝ, A.GP q = x
  GR : ∀ q, ∃ x : ℝ, A.GR q = x
  WU : ∀ q j, ∃ x : ℝ, A.WU q j = x
  CW : ∀ k j, ∃ x : ℝ, A.CW k j = x
  DZ : ∀ r j, ∃ x : ℝ, A.DZ r j = x
  DV : ∀ r j, ∃ x : ℝ, A.DV r j = x
  DO : ∀ r q, ∃ x : ℝ, A.DO r q = x

variable {A} (hA : A.Finite)
include hA

theorem x1_real (r : Fin 4096) (q : Fin 1024) : ∃ x : ℝ, A.x1 r q = x :=
  real_add (hA.X r q) (real_mul (hA.M2 q) (real_mul (unit_real _ (hA.Y r) q) (hA.GP q)))

theorem ahead_real (s : ℕ) (r : Fin 4096) (j : Fin 2816) : ∃ x : ℝ, A.ahead s r j = x := by
  unfold ahead
  split
  · exact hA.DZ _ _
  · exact ⟨0, EReal.coe_zero.symm⟩

theorem dgate_real (r : Fin 4096) (j : Fin 2816) : ∃ x : ℝ, A.dgate r j = x :=
  real_add (real_add (real_mul (hA.DZ r j) (hA.CW 2 j)) (real_mul (ahead_real hA 1 r j) (hA.CW 1 j)))
    (real_mul (ahead_real hA 2 r j) (hA.CW 0 j))

theorem dh_real (r : Fin 4096) (q : Fin 1024) : ∃ x : ℝ, A.dh r q = x :=
  real_add (real_add (real_add
    (Spec.Args.sum_real _ _ (fun _ => dgate_real hA _ _) (fun _ => hA.WU _ _))
    (Spec.Args.sum_real _ _ (fun _ => hA.DV _ _) (fun _ => hA.WU _ _)))
    (Spec.Args.sum_real _ _ (fun _ => dgate_real hA _ _) (fun _ => hA.WU _ _)))
    (Spec.Args.sum_real _ _ (fun _ => hA.DV _ _) (fun _ => hA.WU _ _))

theorem osc_real (q : Fin 1024) : ∃ x : ℝ, A.osc q = x := real_add ⟨1, EReal.coe_one.symm⟩ (hA.M4 q)

theorem dn_real (r : Fin 4096) (q : Fin 1024) : ∃ x : ℝ, A.dn r q = x :=
  real_mul (dh_real hA r q) (real_mul (hA.GR q) (osc_real hA q))

theorem dx1_real (r : Fin 4096) (q : Fin 1024) : ∃ x : ℝ, A.dx1 r q = x :=
  real_add (hA.DO r q) (back_eq _ _ (x1_real hA r) (dn_real hA r) q).2

theorem dyn_real (r : Fin 4096) (q : Fin 1024) : ∃ x : ℝ, A.dyn r q = x :=
  real_mul (real_mul (dx1_real hA r q) (hA.M2 q)) (hA.GP q)

/-- The reference's cotangent of the stream is the kernel's. -/
theorem dx1_eq (r : Fin 4096) (q : Fin 1024) :
    A.DO r q + A.dn r q * rstd (A.x1 r) + A.x1 r q * coef (A.x1 r) (A.dn r) + coef (A.x1 r) (A.dn r) * A.x1 r q
      = A.dx1 r q := by
  rw [add_assoc (A.DO r q), add_assoc (A.DO r q), (back_eq _ _ (x1_real hA r) (dn_real hA r) q).1, dx1]

/-- The reference's cotangent of the mixer's output is the kernel's. -/
theorem dy_eq (r : Fin 4096) (q : Fin 1024) :
    A.dyn r q * rstd (A.Y r) + A.Y r q * coef (A.Y r) (A.dyn r) + coef (A.Y r) (A.dyn r) * A.Y r q = A.dy r q :=
  (back_eq _ _ (hA.Y r) (dyn_real hA r) q).1

omit hA

/-- The cotangent of the hidden state over all columns of the up projection at once. -/
theorem dh_eq (r : Fin 4096) (q : Fin 1024) (f : Fin 5632 → EReal)
    (h0 : ∀ j : Fin 5632, ∀ p : j.val < 2816, f j = A.dgate r ⟨j.val, p⟩ * A.WU q j)
    (h1 : ∀ j : Fin 5632, ∀ p : 2816 ≤ j.val, f j = A.DV r ⟨j.val - 2816, by omega⟩ * A.WU q j) :
    ∑ j, f j = A.dh r q := by
  have e : ∑ j, f j = (∑ k : Fin 1408, f ⟨k.val, by omega⟩) + (∑ k : Fin 1408, f ⟨1408 + k.val, by omega⟩)
      + ((∑ k : Fin 1408, f ⟨2816 + k.val, by omega⟩) + ∑ k : Fin 1408, f ⟨4224 + k.val, by omega⟩) := by
    have s1 := Fin.sum_univ_add (a := 2816) (b := 2816) f
    have s2 := Fin.sum_univ_add (a := 1408) (b := 1408) (fun i : Fin 2816 => f (Fin.castAdd 2816 i))
    have s3 := Fin.sum_univ_add (a := 1408) (b := 1408) (fun i : Fin 2816 => f (Fin.natAdd 2816 i))
    refine s1.trans ?_
    refine congrArg₂ (· + ·) (s2.trans ?_) (s3.trans ?_)
    · rfl
    · refine congrArg₂ (· + ·) rfl (Finset.sum_congr rfl fun k _ => congrArg f (Fin.ext ?_))
      show 2816 + (1408 + k.val) = 4224 + k.val
      omega
  have e0 : (∑ k : Fin 1408, f ⟨k.val, by omega⟩)
      = ∑ k : Fin 1408, A.dgate r ⟨k.val, by omega⟩ * A.WU q ⟨k.val, by omega⟩ :=
    Finset.sum_congr rfl fun k _ => h0 _ (by show k.val < 2816; omega)
  have e1 : (∑ k : Fin 1408, f ⟨1408 + k.val, by omega⟩)
      = ∑ k : Fin 1408, A.dgate r ⟨1408 + k.val, by omega⟩ * A.WU q ⟨1408 + k.val, by omega⟩ :=
    Finset.sum_congr rfl fun k _ => h0 _ (by show 1408 + k.val < 2816; omega)
  have e2 : (∑ k : Fin 1408, f ⟨2816 + k.val, by omega⟩)
      = ∑ k : Fin 1408, A.DV r ⟨k.val, by omega⟩ * A.WU q ⟨2816 + k.val, by omega⟩ :=
    Finset.sum_congr rfl fun k _ => (h1 _ (by show 2816 ≤ 2816 + k.val; omega)).trans
      (congrArg₂ (· * ·) (congrArg (A.DV r) (Fin.ext (by show 2816 + k.val - 2816 = k.val; omega))) rfl)
  have e3 : (∑ k : Fin 1408, f ⟨4224 + k.val, by omega⟩)
      = ∑ k : Fin 1408, A.DV r ⟨1408 + k.val, by omega⟩ * A.WU q ⟨4224 + k.val, by omega⟩ :=
    Finset.sum_congr rfl fun k _ => (h1 _ (by show 2816 ≤ 4224 + k.val; omega)).trans
      (congrArg₂ (· * ·) (congrArg (A.DV r) (Fin.ext (by show 4224 + k.val - 2816 = 1408 + k.val; omega))) rfl)
  rw [e, e0, e1, e2, e3, dh]
  abel

end Args

end Cert.Spec2

end
-- ==== Proof.Up2Ref.lean ====
/-
  The reference's arrays of the up projection's backward pass read at an index: what its host program computes, as the
  mathematics of Up2Spec.lean.
-/
module

public import proofs.«01_k».proof.Proof.Up2Spec
public import proofs.«01_k».proof.Proof.Gen.Reference2Ideal.Read
public import Idealize.ShloMosaic.Lib.Pipeline.ValueKit
public import Idealize.ShloMosaic.Lib.Pointwise

@[expose] public section

set_option maxRecDepth 16384

noncomputable section

namespace Cert.RefSpec2

open Idealize.ShloMosaic Idealize.ShloMosaic.TcCoe Idealize.SL.Sem
open Cert.Reference2Ideal Cert.Reference2Ideal.Gen Cert.Reference2Ideal.Read

/-- The operands as the mathematics' bundle. -/
def args (x0 x1 : FVec Ideal S4096x1024 .f32) (x2 : FVec Ideal S6x1024 .f32) (x3 x4 : FVec Ideal S1x1024 .f32)
    (x5 : FVec Ideal S1024x5632 .f32) (x6 : FVec Ideal S3x2816 .f32) (x7 x8 : FVec Ideal S4096x2816 .f32)
    (x9 : FVec Ideal S4096x1024 .f32) : Spec2.Args where
  X r q := x0 (ix2 r q)
  Y r q := x1 (ix2 r q)
  M k q := x2 (ix2 k q)
  GP q := x3 (ix2 0 q)
  GR q := x4 (ix2 0 q)
  WU q j := x5 (ix2 q j)
  CW k j := x6 (ix2 k j)
  DZ r j := x7 (ix2 r j)
  DV r j := x8 (ix2 r j)
  DO r q := x9 (ix2 r q)

variable (x0 x1 : FVec Ideal S4096x1024 .f32) (x2 : FVec Ideal S6x1024 .f32) (x3 x4 : FVec Ideal S1x1024 .f32)
  (x5 : FVec Ideal S1024x5632 .f32) (x6 : FVec Ideal S3x2816 .f32) (x7 x8 : FVec Ideal S4096x2816 .f32)
  (x9 : FVec Ideal S4096x1024 .f32)

theorem msqY_at (r : Fin 4096) : val_main_v9 (F := Ideal) x1 (ix2 r 0) = Spec2.msq ((args x0 x1 x2 x3 x4 x5 x6 x7 x8 x9).Y r) := by
  pointwise [val_main_v9, val_main_v8, val_main_v7, val_main_v6, val_main_v5, val_main_v4, val_main_v3, val_main_cst,
    val_main_cst_0, val_main_cst_1]
  unfold Spec2.msq Spec2.width Spec2.eps args
  rfl

theorem yn_at (r : Fin 4096) (q : Fin 1024) : val_main_v15 (F := Ideal) x1 (ix2 r q) = (args x0 x1 x2 x3 x4 x5 x6 x7 x8 x9).yn r q := by
  pointwise [val_main_v15, val_main_v14, val_main_v10]
  rw [msqY_at x0 x1 x2 x3 x4 x5 x6 x7 x8 x9]
  rfl

theorem x1_at (r : Fin 4096) (q : Fin 1024) : val_main_v20 (F := Ideal) x0 x1 x2 x3 (ix2 r q) = (args x0 x1 x2 x3 x4 x5 x6 x7 x8 x9).x1 r q := by
  pointwise [val_main_v20, val_main_v19, val_main_v18, val_main_v17, val_main_v16, val_main_v2]
  rw [yn_at x0 x1 x2 x3 x4 x5 x6 x7 x8 x9]
  rfl

theorem msqX_at (r : Fin 4096) : val_main_v27 (F := Ideal) x0 x1 x2 x3 (ix2 r 0) = Spec2.msq ((args x0 x1 x2 x3 x4 x5 x6 x7 x8 x9).x1 r) := by
  pointwise [val_main_v27, val_main_v26, val_main_v25, val_main_v24, val_main_v23, val_main_v22, val_main_v21, val_main_cst_3,
    val_main_cst_4, val_main_cst_5]
  simp only [x1_at x0 x1 x2 x3 x4 x5 x6 x7 x8 x9]
  unfold Spec2.msq Spec2.width Spec2.eps
  rfl

theorem n2_at (r : Fin 4096) (q : Fin 1024) : val_main_v33 (F := Ideal) x0 x1 x2 x3 (ix2 r q) = (args x0 x1 x2 x3 x4 x5 x6 x7 x8 x9).n2 r q := by
  pointwise [val_main_v33, val_main_v32, val_main_v28]
  rw [msqX_at x0 x1 x2 x3 x4 x5 x6 x7 x8 x9, x1_at x0 x1 x2 x3 x4 x5 x6 x7 x8 x9]
  rfl

theorem osc_at (q : Fin 1024) : val_main_v37 (F := Ideal) x2 (ix2 0 q) = (args x0 x1 x2 x3 x4 x5 x6 x7 x8 x9).osc q := by
  pointwise [val_main_v37, val_main_v36, val_main_v1, val_main_cst_7]
  rfl

theorem h_at (r : Fin 4096) (q : Fin 1024) : val_main_v41 (F := Ideal) x0 x1 x2 x3 x4 (ix2 r q) = (args x0 x1 x2 x3 x4 x5 x6 x7 x8 x9).h r q := by
  pointwise [val_main_v41, val_main_v40, val_main_v39, val_main_v38, val_main_v35, val_main_v34, val_main_v0]
  rw [n2_at x0 x1 x2 x3 x4 x5 x6 x7 x8 x9, osc_at x0 x1 x2 x3 x4 x5 x6 x7 x8 x9]
  rfl

theorem dgate_at (r : Fin 4096) (j : Fin 2816) : val_main_v82 (F := Ideal) x6 x7 (ix2 r j) = (args x0 x1 x2 x3 x4 x5 x6 x7 x8 x9).dgate r j := by
  pointwise [val_main_v82, val_main_v80, val_main_v79, val_main_v78, val_main_v77, val_main_v76, val_main_v75, val_main_v74,
    val_main_v73, val_main_v72, val_main_v71, val_main_v70, val_main_v69, val_main_v68, val_main_v64, val_main_v63, val_main_v62,
    val_main_v57, val_main_v56, val_main_v55, val_main_v51, val_main_v50, val_main_v49, val_main_cst_10, val_main_cst_11,
    val_main_cst_12]
  unfold Spec2.Args.dgate Spec2.Args.ahead args
  refine congrArg₂ (· + ·) (congrArg₂ (· + ·) rfl ?_) ?_
  · by_cases p : r.val + 1 < 4096
    · rw [dif_pos (by omega), dif_pos p]
      congr 3
      apply Fin.ext
      show 2 + r.val - 1 = r.val + 1
      omega
    · rw [dif_neg (by omega), dif_neg p, zero_mul]
  · by_cases p : r.val + 2 < 4096
    · rw [dif_pos (by omega), dif_pos p]
      congr 3
      apply Fin.ext
      show 2 + r.val = r.val + 2
      omega
    · rw [dif_neg (by omega), dif_neg p, zero_mul]

theorem cols_at (r : Fin 4096) (j : Fin 5632) : val_main_v85 (F := Ideal) x6 x7 x8 (ix2 r j)
    = if p : j.val < 2816 then (args x0 x1 x2 x3 x4 x5 x6 x7 x8 x9).dgate r ⟨j.val, p⟩ else (args x0 x1 x2 x3 x4 x5 x6 x7 x8 x9).DV r ⟨j.val - 2816, by omega⟩ := by
  pointwise [val_main_v85, val_main_v84, val_main_v83, val_main_cst_13, val_main_cst_14]
  simp only [dgate_at x0 x1 x2 x3 x4 x5 x6 x7 x8 x9]
  by_cases p : j.val < 2816
  · rw [dif_pos p, dif_pos p, dif_neg (by omega), zero_add]
  · rw [dif_neg p, dif_neg p, dif_pos (by omega), add_zero]
    rfl

theorem dh_at (r : Fin 4096) (q : Fin 1024) : val_main_v88 (F := Ideal) x5 x6 x7 x8 (ix2 r q) = (args x0 x1 x2 x3 x4 x5 x6 x7 x8 x9).dh r q := by
  pointwise [val_main_v88]
  simp only [cols_at x0 x1 x2 x3 x4 x5 x6 x7 x8 x9]
  refine Spec2.Args.dh_eq (A := (args x0 x1 x2 x3 x4 x5 x6 x7 x8 x9)) r q _ (fun j p => ?_) (fun j p => ?_)
  · rw [dif_pos p]; rfl
  · rw [dif_neg (by omega)]; rfl

theorem dsh_at (q : Fin 1024) : val_main_v90 (F := Ideal) x5 x6 x7 x8 (ix2 0 q) = (args x0 x1 x2 x3 x4 x5 x6 x7 x8 x9).dsh q := by
  pointwise [val_main_v90, val_main_v89, val_main_cst_15]
  simp only [dh_at x0 x1 x2 x3 x4 x5 x6 x7 x8 x9]
  rfl

theorem dsc_at (q : Fin 1024) : val_main_v93 (F := Ideal) x0 x1 x2 x3 x4 x5 x6 x7 x8 (ix2 0 q) = (args x0 x1 x2 x3 x4 x5 x6 x7 x8 x9).dsc q := by
  pointwise [val_main_v93, val_main_v92, val_main_v91, val_main_v35, val_main_v34, val_main_cst_16]
  simp only [dh_at x0 x1 x2 x3 x4 x5 x6 x7 x8 x9, n2_at x0 x1 x2 x3 x4 x5 x6 x7 x8 x9]
  exact Finset.sum_congr rfl fun r _ => mul_comm _ _

theorem dgr_at (q : Fin 1024) : val_main_v98 (F := Ideal) x0 x1 x2 x3 x5 x6 x7 x8 (ix2 0 q) = (args x0 x1 x2 x3 x4 x5 x6 x7 x8 x9).dgr q := by
  pointwise [val_main_v98, val_main_v97, val_main_v96, val_main_v95, val_main_v94, val_main_cst_17]
  simp only [dh_at x0 x1 x2 x3 x4 x5 x6 x7 x8 x9, n2_at x0 x1 x2 x3 x4 x5 x6 x7 x8 x9, osc_at x0 x1 x2 x3 x4 x5 x6 x7 x8 x9]
  exact Finset.sum_congr rfl fun r _ => mul_comm _ _

theorem dn_at (r : Fin 4096) (q : Fin 1024) : val_main_v100 (F := Ideal) x2 x4 x5 x6 x7 x8 (ix2 r q) = (args x0 x1 x2 x3 x4 x5 x6 x7 x8 x9).dn r q := by
  pointwise [val_main_v100, val_main_v99, val_main_v95, val_main_v94]
  simp only [dh_at x0 x1 x2 x3 x4 x5 x6 x7 x8 x9, osc_at x0 x1 x2 x3 x4 x5 x6 x7 x8 x9]
  unfold Spec2.Args.dn
  rw [mul_assoc, mul_comm (Spec2.Args.osc _ q)]
  rfl

theorem coefX_at (r : Fin 4096) (q : Fin 1024) : val_main_v111 (F := Ideal) x0 x1 x2 x3 x4 x5 x6 x7 x8 (ix2 r q)
    = Spec2.coef ((args x0 x1 x2 x3 x4 x5 x6 x7 x8 x9).x1 r) ((args x0 x1 x2 x3 x4 x5 x6 x7 x8 x9).dn r) := by
  pointwise [val_main_v111, val_main_v110, val_main_v109, val_main_v108, val_main_v107, val_main_v103, val_main_v102,
    val_main_v101, val_main_v31, val_main_v30, val_main_v29, val_main_v28, val_main_cst_6, val_main_cst_18, val_main_cst_19,
    val_main_cst_20]
  simp only [x1_at x0 x1 x2 x3 x4 x5 x6 x7 x8 x9, dn_at x0 x1 x2 x3 x4 x5 x6 x7 x8 x9, Fin.default_eq_zero, msqX_at x0 x1 x2 x3 x4 x5 x6 x7 x8 x9, Finset.univ_unique, Finset.sum_singleton]
  rfl

theorem dx1_at (h : (args x0 x1 x2 x3 x4 x5 x6 x7 x8 x9).Finite) (r : Fin 4096) (q : Fin 1024) :
    val_main_v116 (F := Ideal) x0 x1 x2 x3 x4 x5 x6 x7 x8 x9 (ix2 r q) = (args x0 x1 x2 x3 x4 x5 x6 x7 x8 x9).dx1 r q := by
  pointwise [val_main_v116, val_main_v115, val_main_v114, val_main_v113, val_main_v112, val_main_v106, val_main_v105,
    val_main_v104, val_main_v28]
  simp only [x1_at x0 x1 x2 x3 x4 x5 x6 x7 x8 x9, dn_at x0 x1 x2 x3 x4 x5 x6 x7 x8 x9, msqX_at x0 x1 x2 x3 x4 x5 x6 x7 x8 x9, coefX_at x0 x1 x2 x3 x4 x5 x6 x7 x8 x9]
  exact Spec2.Args.dx1_eq h r q

theorem dgt_at (h : (args x0 x1 x2 x3 x4 x5 x6 x7 x8 x9).Finite) (q : Fin 1024) :
    val_main_v121 (F := Ideal) x0 x1 x2 x3 x4 x5 x6 x7 x8 x9 (ix2 0 q) = (args x0 x1 x2 x3 x4 x5 x6 x7 x8 x9).dgt q := by
  pointwise [val_main_v121, val_main_v120, val_main_v119, val_main_v17, val_main_v16, val_main_cst_21]
  simp only [dx1_at x0 x1 x2 x3 x4 x5 x6 x7 x8 x9 h, yn_at x0 x1 x2 x3 x4 x5 x6 x7 x8 x9]
  rfl

theorem dr_at (h : (args x0 x1 x2 x3 x4 x5 x6 x7 x8 x9).Finite) (r : Fin 4096) (q : Fin 1024) :
    val_main_v118 (F := Ideal) x0 x1 x2 x3 x4 x5 x6 x7 x8 x9 (ix2 r q) = (args x0 x1 x2 x3 x4 x5 x6 x7 x8 x9).dx1 r q * (args x0 x1 x2 x3 x4 x5 x6 x7 x8 x9).M 2 q := by
  pointwise [val_main_v118, val_main_v117, val_main_v2]
  simp only [dx1_at x0 x1 x2 x3 x4 x5 x6 x7 x8 x9 h]
  exact mul_comm _ _

theorem dgp_at (h : (args x0 x1 x2 x3 x4 x5 x6 x7 x8 x9).Finite) (q : Fin 1024) :
    val_main_v124 (F := Ideal) x0 x1 x2 x3 x4 x5 x6 x7 x8 x9 (ix2 0 q) = (args x0 x1 x2 x3 x4 x5 x6 x7 x8 x9).dgp q := by
  pointwise [val_main_v124, val_main_v123, val_main_v122, val_main_cst_22]
  simp only [dr_at x0 x1 x2 x3 x4 x5 x6 x7 x8 x9 h, yn_at x0 x1 x2 x3 x4 x5 x6 x7 x8 x9]
  exact Finset.sum_congr rfl fun r _ => mul_comm _ _

theorem dyn_at (h : (args x0 x1 x2 x3 x4 x5 x6 x7 x8 x9).Finite) (r : Fin 4096) (q : Fin 1024) :
    val_main_v126 (F := Ideal) x0 x1 x2 x3 x4 x5 x6 x7 x8 x9 (ix2 r q) = (args x0 x1 x2 x3 x4 x5 x6 x7 x8 x9).dyn r q := by
  pointwise [val_main_v126, val_main_v125]
  simp only [dr_at x0 x1 x2 x3 x4 x5 x6 x7 x8 x9 h]
  rfl

theorem coefY_at (h : (args x0 x1 x2 x3 x4 x5 x6 x7 x8 x9).Finite) (r : Fin 4096) (q : Fin 1024) :
    val_main_v136 (F := Ideal) x0 x1 x2 x3 x4 x5 x6 x7 x8 x9 (ix2 r q) = Spec2.coef ((args x0 x1 x2 x3 x4 x5 x6 x7 x8 x9).Y r) ((args x0 x1 x2 x3 x4 x5 x6 x7 x8 x9).dyn r) := by
  pointwise [val_main_v136, val_main_v135, val_main_v134, val_main_v133, val_main_v132, val_main_v129, val_main_v128,
    val_main_v127, val_main_v13, val_main_v12, val_main_v11, val_main_v10, val_main_cst_2, val_main_cst_23, val_main_cst_24,
    val_main_cst_25]
  simp only [dyn_at x0 x1 x2 x3 x4 x5 x6 x7 x8 x9 h, Fin.default_eq_zero, msqY_at x0 x1 x2 x3 x4 x5 x6 x7 x8 x9, Finset.univ_unique, Finset.sum_singleton]
  rfl

theorem dy_at (h : (args x0 x1 x2 x3 x4 x5 x6 x7 x8 x9).Finite) (r : Fin 4096) (q : Fin 1024) :
    val_main_v143 (F := Ideal) x0 x1 x2 x3 x4 x5 x6 x7 x8 x9 (ix2 r q) = (args x0 x1 x2 x3 x4 x5 x6 x7 x8 x9).dy r q := by
  pointwise [val_main_v143, val_main_v140, val_main_v139, val_main_v138, val_main_v137, val_main_v131, val_main_v130,
    val_main_v10]
  simp only [dyn_at x0 x1 x2 x3 x4 x5 x6 x7 x8 x9 h, msqY_at x0 x1 x2 x3 x4 x5 x6 x7 x8 x9, coefY_at x0 x1 x2 x3 x4 x5 x6 x7 x8 x9 h]
  exact Spec2.Args.dy_eq h r q

theorem dwu_at (x10 : FVec Ideal S4x1024x1408 .f32) (b : Fin 4) (q : Fin 1024) (k : Fin 1408) :
    val_main_v146 (F := Ideal) x0 x1 x2 x3 x4 x6 x7 x8 x10 (ix3 b q k)
      = if p : b.val < 2 then (args x0 x1 x2 x3 x4 x5 x6 x7 x8 x9).dwu q ⟨b.val * 1408 + k.val, by omega⟩ else x10 (ix3 b q k) := by
  pointwise [val_main_v146, val_main_v145, val_main_v144, val_main_v142, val_main_v141, val_main_v87, val_main_v86]
  simp only [cols_at x0 x1 x2 x3 x4 x5 x6 x7 x8 x9, h_at x0 x1 x2 x3 x4 x5 x6 x7 x8 x9]
  by_cases p : b.val < 2
  · rw [dif_pos p, dif_pos p]
    refine Finset.sum_congr rfl fun r _ => ?_
    rw [dif_pos (by omega)]
    exact mul_comm _ _
  · rw [dif_neg p, dif_neg p]
    congr 2
    apply Fin.ext
    show 2 + (b.val - 2) = b.val
    omega

end Cert.RefSpec2

end
-- ==== Proof.Up2Blocks.lean ====
/-
  The input blocks of the up projection's gradient (`up_bwd`): what each grid point finds in its windows, as the layer's
  operands. Grid point `t` is block `t` of the tokens.
-/
module

public import proofs.«01_k».proof.Proof.Up2Ref
public import proofs.«01_k».proof.Proof.Gen.Kernel2Ideal.Frame.Runs

@[expose] public section

set_option maxRecDepth 16384

noncomputable section

namespace Cert.KerSpec2

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ) (c : Dev nD)

/-- The operands in the launch memory. -/
def args : Spec2.Args :=
  RefSpec2.args (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

theorem idx : ∀ t : Fin cfg0.N, win0_0.index t = ![t.val, 0] ∧ win0_1.index t = ![min ((t.val + 1) * 16) 255, 0]
    ∧ win0_2.index t = ![t.val, 0] ∧ win0_3.index t = ![0, 0] ∧ win0_4.index t = ![0, 0, 0]
    ∧ win0_5.index t = ![t.val, 0] ∧ win0_6.index t = ![t.val, 0] ∧ win0_7.index t = ![t.val, 0]
    ∧ win0_8.index t = ![0, 0] ∧ win0_9.index t = ![0, 0] ∧ win0_10.index t = ![0, 0] ∧ win0_11.index t = ![t.val, 0]
    ∧ win0_12.index t = ![t.val, 0] ∧ win0_13.index t = ![t.val, 0] ∧ win0_14.index t = ![0, 0] ∧ win0_15.index t = ![0, 0]
    ∧ win0_16.index t = ![0, 0] ∧ win0_17.index t = ![0, 0] ∧ win0_18.index t = ![0, 0] ∧ win0_19.index t = ![0, 0, 0] :=
  (by decide +kernel : ∀ t : Fin grid0.N, _)

/-- The token of row `r` of point `t`'s block. -/
abbrev row (t : Fin cfg0.N) (r : Fin 256) : Fin 4096 := ⟨t.val * 256 + r.val, by have h : t.val < 16 := t.isLt; omega⟩

theorem blk0 (t : Fin cfg0.N) (r : Fin 256) (j : Fin 2816) : iblk m c 0 t (ix2 r j) = (args m c).DZ (row t r) j := by
  unfold args RefSpec2.args
  blk_simp [iblk]
  entry_read
  pointwise
  blk_point [idx t]

theorem blk1 (t : Fin cfg0.N) (r : Fin 16) (j : Fin 2816) :
    iblk m c 1 t (ix2 r j) = (args m c).DZ ⟨min ((t.val + 1) * 16) 255 * 16 + r.val, by omega⟩ j := by
  unfold args RefSpec2.args
  blk_simp [iblk]
  entry_read
  pointwise
  blk_point [idx t]

theorem blk2 (t : Fin cfg0.N) (r : Fin 256) (j : Fin 2816) : iblk m c 2 t (ix2 r j) = (args m c).DV (row t r) j := by
  unfold args RefSpec2.args
  blk_simp [iblk]
  entry_read
  pointwise
  blk_point [idx t]

theorem blk3 (t : Fin cfg0.N) (r : Fin 3) (j : Fin 2816) : iblk m c 3 t (ix2 r j) = (args m c).CW r j := by
  unfold args RefSpec2.args
  blk_point [iblk, V, idx t]

theorem blk4 (t : Fin cfg0.N) (b : Fin 4) (q : Fin 1024) (k : Fin 1408) :
    iblk m c 4 t (ix3 b q k) = (args m c).WU q ⟨b.val * 1408 + k.val, by omega⟩ := by
  unfold args RefSpec2.args
  blk_simp [iblk]
  entry_read
  pointwise
  blk_point [idx t]

theorem blk5 (t : Fin cfg0.N) (r : Fin 256) (q : Fin 1024) : iblk m c 5 t (ix2 r q) = (args m c).x1 (row t r) q := by
  unfold Spec2.Args.x1 Spec2.Args.yn Spec2.unit Spec2.rstd Spec2.msq Spec2.width Spec2.eps args RefSpec2.args
  blk_simp [iblk]
  entry_read
  pointwise
  blk_point [idx t]

theorem blk6 (t : Fin cfg0.N) (r : Fin 256) (q : Fin 1024) : iblk m c 6 t (ix2 r q) = (args m c).DO (row t r) q := by
  unfold args RefSpec2.args
  blk_point [iblk, V, idx t]

theorem blk7 (t : Fin cfg0.N) (r : Fin 256) (q : Fin 1024) : iblk m c 7 t (ix2 r q) = (args m c).Y (row t r) q := by
  unfold args RefSpec2.args
  blk_simp [iblk]
  entry_read
  pointwise
  blk_point [idx t]

theorem blk8 (t : Fin cfg0.N) (q : Fin 1024) : iblk m c 8 t (ix2 0 q) = (args m c).GR q := by
  unfold args RefSpec2.args
  blk_point [iblk, V, idx t]

theorem blk9 (t : Fin cfg0.N) (q : Fin 1024) : iblk m c 9 t (ix2 0 q) = (args m c).GP q := by
  unfold args RefSpec2.args
  blk_point [iblk, V, idx t]

theorem blk10 (t : Fin cfg0.N) (k : Fin 6) (q : Fin 1024) : iblk m c 10 t (ix2 k q) = (args m c).M k q := by
  unfold args RefSpec2.args
  blk_point [iblk, V, idx t]

theorem blk11 (t : Fin cfg0.N) (r : Fin 256) (q : Fin 1024) : iblk m c 11 t (ix2 r q) = (args m c).h (row t r) q := by
  unfold Spec2.Args.h Spec2.Args.n2 Spec2.Args.osc Spec2.Args.x1 Spec2.Args.yn Spec2.unit Spec2.rstd Spec2.msq Spec2.width
    Spec2.eps args RefSpec2.args
  blk_simp [iblk]
  entry_read
  pointwise
  blk_point [idx t]

end Cert.KerSpec2

end
-- ==== Proof.Up2Taps.lean ====
/-
  The kernel's shifted cotangents: a block's rows rotated back by one and by two, with the rows that the rotation brings
  from the start of the block replaced by the first rows of the block after (by zero at the last block), are the cotangent
  one and two tokens on.
-/
module

public import proofs.«01_k».proof.Proof.Up2Blocks
public import proofs.«01_k».proof.Proof.Taps

@[expose] public section

set_option maxRecDepth 16384

noncomputable section

namespace Cert.KerSpec2

open Idealize.ShloMosaic Idealize.ShloMosaic.TcCoe Idealize.SL.Sem
open Idealize.ShloMosaic.Pipeline (Dat)
open Cert.Kernel2Ideal Cert.Kernel2Ideal.Gen
open Cert.KerSpec (select_word)

variable (m : (ℓ : Loc nD τ sig) → Buf (Elt Ideal) ℓ) (c : Dev nD)

theorem coord : ∀ t : Fin cfg0.N, (grid0.coords t 0 : ℕ) = t.val := (by decide +kernel : ∀ t : Fin grid0.N, _)

/-- Row `r` of the block after, zero at the last block. -/
theorem halo (t : Fin cfg0.N) (r : Fin 16) (j : Fin 2816) :
    Scalar.select (Scalar.cmpi CmpIPredicate.eq (BitVec.ofNat 32 (grid0.coords t 0 : ℕ)) 15#32) (0 : EReal)
      (iblk m c 1 t (ix2 r j)) =
    if h : (t.val + 1) * 256 + r.val < 4096 then (args m c).DZ ⟨(t.val + 1) * 256 + r.val, h⟩ j else 0 := by
  have ht : t.val < 16 := t.isLt
  rw [coord, Scalar.cmpi, select_word _ 15 (by omega) (by omega), blk1]
  by_cases h : t.val = 15
  · rw [if_pos h, dif_neg (by omega)]
  · rw [if_neg h, dif_pos (by omega)]
    congr 1
    apply Fin.ext
    show min ((t.val + 1) * 16) 255 * 16 + r.val = (t.val + 1) * 256 + r.val
    omega

theorem tap1 (t : Fin cfg0.N) (r : Fin 256) (j : Fin 2816) (p : (r.val + 256 - 255) % 256 < 256) :
    Scalar.select (IntOp.cmpi CmpIPredicate.eq (BitVec.ofNat 32 r.val) 255#32)
      (Scalar.select (Scalar.cmpi CmpIPredicate.eq (BitVec.ofNat 32 (grid0.coords t 0 : ℕ)) 15#32) (0 : EReal)
        (iblk m c 1 t (ix2 0 j)))
      (iblk m c 0 t (ix2 ⟨(r.val + 256 - 255) % 256, p⟩ j)) = (args m c).ahead 1 (row t r) j := by
  have ht : t.val < 16 := t.isLt
  rw [halo m c t 0 j, select_word _ 255 (by omega) (by omega), blk0]
  unfold Spec2.Args.ahead
  have e0 : ((0 : Fin 16) : ℕ) = 0 := rfl
  have er : (row t r).val = t.val * 256 + r.val := rfl
  simp only [e0]
  by_cases h : r.val = 255
  · rw [if_pos h]
    by_cases h' : t.val = 15
    · rw [dif_neg (by omega), dif_neg (by omega)]
    · rw [dif_pos (by omega), dif_pos (by omega)]
      congr 1; apply Fin.ext; show (t.val + 1) * 256 + 0 = t.val * 256 + r.val + 1; omega
  · rw [if_neg h, dif_pos (by omega)]
    congr 1; apply Fin.ext
    show t.val * 256 + (r.val + 256 - 255) % 256 = t.val * 256 + r.val + 1; omega

theorem tap2 (t : Fin cfg0.N) (r : Fin 256) (j : Fin 2816) (p : (r.val + 256 - 254) % 256 < 256) :
    Scalar.select (IntOp.cmpi CmpIPredicate.eq (BitVec.ofNat 32 r.val) 255#32)
      (Scalar.select (Scalar.cmpi CmpIPredicate.eq (BitVec.ofNat 32 (grid0.coords t 0 : ℕ)) 15#32) (0 : EReal)
        (iblk m c 1 t (ix2 1 j)))
      (Scalar.select (IntOp.cmpi CmpIPredicate.eq (BitVec.ofNat 32 r.val) 254#32)
        (Scalar.select (Scalar.cmpi CmpIPredicate.eq (BitVec.ofNat 32 (grid0.coords t 0 : ℕ)) 15#32) (0 : EReal)
          (iblk m c 1 t (ix2 0 j)))
        (iblk m c 0 t (ix2 ⟨(r.val + 256 - 254) % 256, p⟩ j))) = (args m c).ahead 2 (row t r) j := by
  have ht : t.val < 16 := t.isLt
  rw [halo m c t 0 j, halo m c t 1 j, select_word _ 255 (by omega) (by omega),
    select_word _ 254 (by omega) (by omega), blk0]
  unfold Spec2.Args.ahead
  have e0 : ((0 : Fin 16) : ℕ) = 0 := rfl
  have e1 : ((1 : Fin 16) : ℕ) = 1 := rfl
  have er : (row t r).val = t.val * 256 + r.val := rfl
  simp only [e0, e1]
  by_cases h : r.val = 255
  · rw [if_pos h]
    by_cases h' : t.val = 15
    · rw [dif_neg (by omega), dif_neg (by omega)]
    · rw [dif_pos (by omega), dif_pos (by omega)]
      congr 1; apply Fin.ext; show (t.val + 1) * 256 + 1 = t.val * 256 + r.val + 2; omega
  · rw [if_neg h]
    by_cases h1 : r.val = 254
    · rw [if_pos h1]
      by_cases h' : t.val = 15
      · rw [dif_neg (by omega), dif_neg (by omega)]
      · rw [dif_pos (by omega), dif_pos (by omega)]
        congr 1; apply Fin.ext; show (t.val + 1) * 256 + 0 = t.val * 256 + r.val + 2; omega
    · rw [if_neg h1, dif_pos (by omega)]
      congr 1; apply Fin.ext
      show t.val * 256 + (r.val + 256 - 254) % 256 = t.val * 256 + r.val + 2; omega

end Cert.KerSpec2

end
-- ==== Proof.Up2Tiles.lean ====
/-
  The values of a grid point of the up projection's gradient, as arrays over its block of tokens.
-/
module

public import proofs.«01_k».proof.Proof.Up2Taps
public import proofs.«01_k».proof.Proof.Gen.Kernel2Ideal.Value

@[expose] public section

set_option maxRecDepth 16384

noncomputable section

namespace Cert.KerSpec2

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ) (c : Dev nD)

/-- The block's cotangent of the gate, first half of the columns. -/
def dg0Arr (t : Fin cfg0.N) : FVec Ideal S256x1408 .bf16 := fun i =>
  (args m c).dgate (row t (i 0)) ⟨(i 1).val, by have h : (i 1).val < 1408 := (i 1).isLt; omega⟩

/-- The block's cotangent of the gate, second half of the columns. -/
def dg1Arr (t : Fin cfg0.N) : FVec Ideal S256x1408 .bf16 := fun i =>
  (args m c).dgate (row t (i 0)) ⟨1408 + (i 1).val, by have h : (i 1).val < 1408 := (i 1).isLt; omega⟩

/-- The block's cotangent of the hidden state. -/
def dhArr (t : Fin cfg0.N) : FVec Ideal S256x1024 .f32 := fun i => (args m c).dh (row t (i 0)) (i 1)

/-- The block's normed stream. -/
def n2Arr (t : Fin cfg0.N) : FVec Ideal S256x1024 .f32 := fun i => (args m c).n2 (row t (i 0)) (i 1)

/-- The block's reciprocal roots of the stream's mean squares. -/
def rsArr (t : Fin cfg0.N) : FVec Ideal S256x1 .f32 := fun i => Spec2.rstd ((args m c).x1 (row t (i 0)))

/-- One plus the scale. -/
def oscArr : FVec Ideal S1x1024 .f32 := fun i => (args m c).osc (i 1)

/-- The block's cotangent of the stream. -/
def dx1Tile (t : Fin cfg0.N) : FVec Ideal S256x1024 .f32 := fun i => (args m c).dx1 (row t (i 0)) (i 1)

/-- The block's reciprocal roots of the mixer output's mean squares. -/
def rsYArr (t : Fin cfg0.N) : FVec Ideal S256x1 .f32 := fun i => Spec2.rstd ((args m c).Y (row t (i 0)))

/-- The block's normed mixer output. -/
def ynArr (t : Fin cfg0.N) : FVec Ideal S256x1024 .f32 := fun i => (args m c).yn (row t (i 0)) (i 1)

theorem dg0_eq (t : Fin cfg0.N) : k0_pay15 (F := Ideal) (k0_pay12 (grid0.coords t) (View.ld (iblk m c 0 t) (Rect.unit ![0, 0] ![256, 1408] inb_S256x2816_S256x1408_0_0))
          (View.ld (iblk m c 1 t) (Rect.unit ![0, 0] ![16, 1408] inb_S16x2816_S16x1408_0_0)))
        (k0_pay13 (grid0.coords t) (View.ld (iblk m c 0 t) (Rect.unit ![0, 0] ![256, 1408] inb_S256x2816_S256x1408_0_0))
          (View.ld (iblk m c 1 t) (Rect.unit ![0, 0] ![16, 1408] inb_S16x2816_S16x1408_0_0)))
        (k0_pay14 (View.ld (iblk m c 0 t) (Rect.unit ![0, 0] ![256, 1408] inb_S256x2816_S256x1408_0_0))
          (View.ld (iblk m c 3 t) (Rect.unit ![2, 0] ![1, 1408] inb_S3x2816_S1x1408_2_0)))
        (View.ld (iblk m c 3 t) (Rect.unit ![1, 0] ![1, 1408] inb_S3x2816_S1x1408_1_0))
        (View.ld (iblk m c 3 t) (Rect.unit ![0, 0] ![1, 1408] inb_S3x2816_S1x1408_0_0)) = dg0Arr m c t := by
  funext i
  obtain ⟨r, q, rfl⟩ : ∃ (r : Fin 256) (q : Fin 1408), i = ix2 r q := ⟨i 0, i 1, ValueIdx.eq_ix2 i⟩
  pointwise [k0_pay9, k0_pay10, k0_pay11, k0_pay12, k0_pay13, k0_pay14, k0_pay15, dg0Arr]
  simp only [tap1 m c t, tap2 m c t]
  simp only [blk0, blk1, blk2, blk3, blk4, blk5, blk6, blk7, blk8, blk9, blk10, blk11]
  simp only [Spec2.Args.dgate]

theorem dg1_eq (t : Fin cfg0.N) : k0_pay20 (F := Ideal) (k0_pay18 (View.ld (iblk m c 0 t) (Rect.unit ![0, 1408] ![256, 1408] inb_S256x2816_S256x1408_0_1408)))
        (k0_pay19 (Scalar.cmpi CmpIPredicate.eq (BitVec.ofNat 32 (grid0.coords t 0 : ℕ)) 15#32)
          (View.ld (iblk m c 1 t) (Rect.unit ![0, 1408] ![16, 1408] inb_S16x2816_S16x1408_0_1408)))
        (iota Kind.tc S256x1408 32 [0] iota_S256x1408_d0_w32)
        (View.ld (iblk m c 3 t) (Rect.unit ![2, 1408] ![1, 1408] inb_S3x2816_S1x1408_2_1408))
        (View.ld (iblk m c 3 t) (Rect.unit ![1, 1408] ![1, 1408] inb_S3x2816_S1x1408_1_1408))
        (View.ld (iblk m c 3 t) (Rect.unit ![0, 1408] ![1, 1408] inb_S3x2816_S1x1408_0_1408)) = dg1Arr m c t := by
  funext i
  obtain ⟨r, q, rfl⟩ : ∃ (r : Fin 256) (q : Fin 1408), i = ix2 r q := ⟨i 0, i 1, ValueIdx.eq_ix2 i⟩
  pointwise [k0_pay18, k0_pay19, k0_pay20, dg1Arr]
  simp only [tap1 m c t, tap2 m c t]
  simp only [blk0, blk1, blk2, blk3, blk4, blk5, blk6, blk7, blk8, blk9, blk10, blk11]
  simp only [Spec2.Args.dgate]

theorem dh_eq (t : Fin cfg0.N) : k0_pay22 (F := Ideal) (k0_pay17 k0_pay8
        (k0_pay12 (grid0.coords t) (View.ld (iblk m c 0 t) (Rect.unit ![0, 0] ![256, 1408] inb_S256x2816_S256x1408_0_0))
          (View.ld (iblk m c 1 t) (Rect.unit ![0, 0] ![16, 1408] inb_S16x2816_S16x1408_0_0)))
        (k0_pay13 (grid0.coords t) (View.ld (iblk m c 0 t) (Rect.unit ![0, 0] ![256, 1408] inb_S256x2816_S256x1408_0_0))
          (View.ld (iblk m c 1 t) (Rect.unit ![0, 0] ![16, 1408] inb_S16x2816_S16x1408_0_0)))
        (k0_pay14 (View.ld (iblk m c 0 t) (Rect.unit ![0, 0] ![256, 1408] inb_S256x2816_S256x1408_0_0))
          (View.ld (iblk m c 3 t) (Rect.unit ![2, 0] ![1, 1408] inb_S3x2816_S1x1408_2_0)))
        (View.ld (iblk m c 3 t) (Rect.unit ![1, 0] ![1, 1408] inb_S3x2816_S1x1408_1_0))
        (View.ld (iblk m c 3 t) (Rect.unit ![0, 0] ![1, 1408] inb_S3x2816_S1x1408_0_0))
        (View.ld (iblk m c 4 t) (Rect.unit ![0, 0, 0] ![1, 1024, 1408] inb_S4x1024x1408_S1x1024x1408_0_0_0))
        (View.ld (iblk m c 2 t) (Rect.unit ![0, 0] ![256, 1408] inb_S256x2816_S256x1408_0_0))
        (View.ld (iblk m c 4 t) (Rect.unit ![2, 0, 0] ![1, 1024, 1408] inb_S4x1024x1408_S1x1024x1408_2_0_0))) (k0_pay20 (k0_pay18 (View.ld (iblk m c 0 t) (Rect.unit ![0, 1408] ![256, 1408] inb_S256x2816_S256x1408_0_1408)))
        (k0_pay19 (Scalar.cmpi CmpIPredicate.eq (BitVec.ofNat 32 (grid0.coords t 0 : ℕ)) 15#32)
          (View.ld (iblk m c 1 t) (Rect.unit ![0, 1408] ![16, 1408] inb_S16x2816_S16x1408_0_1408)))
        (iota Kind.tc S256x1408 32 [0] iota_S256x1408_d0_w32)
        (View.ld (iblk m c 3 t) (Rect.unit ![2, 1408] ![1, 1408] inb_S3x2816_S1x1408_2_1408))
        (View.ld (iblk m c 3 t) (Rect.unit ![1, 1408] ![1, 1408] inb_S3x2816_S1x1408_1_1408))
        (View.ld (iblk m c 3 t) (Rect.unit ![0, 1408] ![1, 1408] inb_S3x2816_S1x1408_0_1408))) (View.ld (iblk m c 4 t) (Rect.unit ![1, 0, 0] ![1, 1024, 1408] inb_S4x1024x1408_S1x1024x1408_1_0_0))
      (View.ld (iblk m c 2 t) (Rect.unit ![0, 1408] ![256, 1408] inb_S256x2816_S256x1408_0_1408))
      (View.ld (iblk m c 4 t) (Rect.unit ![3, 0, 0] ![1, 1024, 1408] inb_S4x1024x1408_S1x1024x1408_3_0_0)) = dhArr m c t := by
  unfold k0_pay17
  rw [dg0_eq, dg1_eq]
  funext i
  obtain ⟨r, q, rfl⟩ : ∃ (r : Fin 256) (q : Fin 1024), i = ix2 r q := ⟨i 0, i 1, ValueIdx.eq_ix2 i⟩
  pointwise [k0_pay8, k0_pay22, dg0Arr, dg1Arr, dhArr]
  simp only [blk0, blk1, blk2, blk3, blk4, blk5, blk6, blk7, blk8, blk9, blk10, blk11]
  unfold Spec2.Args.dh
  rfl

theorem rs_eq (t : Fin cfg0.N) : k0_pay24 (F := Ideal) (iblk m c 5 t) = rsArr m c t := by
  funext i
  obtain ⟨r, q, rfl⟩ : ∃ (r : Fin 256) (q : Fin 1), i = ix2 r q := ⟨i 0, i 1, ValueIdx.eq_ix2 i⟩
  pointwise [k0_pay23, k0_pay24, rsArr]
  simp only [blk0, blk1, blk2, blk3, blk4, blk5, blk6, blk7, blk8, blk9, blk10, blk11]
  rfl

theorem n2_eq (t : Fin cfg0.N) : k0_pay25 (F := Ideal) (iblk m c 5 t) = n2Arr m c t := by
  unfold k0_pay25
  rw [rs_eq]
  funext i
  obtain ⟨r, q, rfl⟩ : ∃ (r : Fin 256) (q : Fin 1024), i = ix2 r q := ⟨i 0, i 1, ValueIdx.eq_ix2 i⟩
  pointwise [k0_pay23, rsArr, n2Arr]
  simp only [blk0, blk1, blk2, blk3, blk4, blk5, blk6, blk7, blk8, blk9, blk10, blk11]
  rfl

theorem osc_eq (t : Fin cfg0.N) : k0_pay26 (F := Ideal) (View.ld (iblk m c 10 t) (Rect.unit ![4, 0] ![1, 1024] inb_S6x1024_S1x1024_4_0)) = oscArr m c := by
  funext i
  obtain ⟨r, q, rfl⟩ : ∃ (r : Fin 1) (q : Fin 1024), i = ix2 r q := ⟨i 0, i 1, ValueIdx.eq_ix2 i⟩
  pointwise [k0_pay26, oscArr]
  simp only [blk0, blk1, blk2, blk3, blk4, blk5, blk6, blk7, blk8, blk9, blk10, blk11]
  rfl

theorem dx1_eq (t : Fin cfg0.N) : k0_pay32 (F := Ideal) (dhArr m c t) (rsArr m c t) (n2Arr m c t) (iblk m c 8 t)
    (oscArr m c) (iblk m c 6 t) = dx1Tile m c t := by
  funext i
  obtain ⟨r, q, rfl⟩ : ∃ (r : Fin 256) (q : Fin 1024), i = ix2 r q := ⟨i 0, i 1, ValueIdx.eq_ix2 i⟩
  pointwise [k0_pay32, dhArr, rsArr, n2Arr, oscArr, dx1Tile]
  simp only [blk0, blk1, blk2, blk3, blk4, blk5, blk6, blk7, blk8, blk9, blk10, blk11]
  rfl

theorem dx1_raw (t : Fin cfg0.N) : k0_pay32 (F := Ideal) (k0_pay22 (k0_pay17 k0_pay8
        (k0_pay12 (grid0.coords t) (View.ld (iblk m c 0 t) (Rect.unit ![0, 0] ![256, 1408] inb_S256x2816_S256x1408_0_0))
          (View.ld (iblk m c 1 t) (Rect.unit ![0, 0] ![16, 1408] inb_S16x2816_S16x1408_0_0)))
        (k0_pay13 (grid0.coords t) (View.ld (iblk m c 0 t) (Rect.unit ![0, 0] ![256, 1408] inb_S256x2816_S256x1408_0_0))
          (View.ld (iblk m c 1 t) (Rect.unit ![0, 0] ![16, 1408] inb_S16x2816_S16x1408_0_0)))
        (k0_pay14 (View.ld (iblk m c 0 t) (Rect.unit ![0, 0] ![256, 1408] inb_S256x2816_S256x1408_0_0))
          (View.ld (iblk m c 3 t) (Rect.unit ![2, 0] ![1, 1408] inb_S3x2816_S1x1408_2_0)))
        (View.ld (iblk m c 3 t) (Rect.unit ![1, 0] ![1, 1408] inb_S3x2816_S1x1408_1_0))
        (View.ld (iblk m c 3 t) (Rect.unit ![0, 0] ![1, 1408] inb_S3x2816_S1x1408_0_0))
        (View.ld (iblk m c 4 t) (Rect.unit ![0, 0, 0] ![1, 1024, 1408] inb_S4x1024x1408_S1x1024x1408_0_0_0))
        (View.ld (iblk m c 2 t) (Rect.unit ![0, 0] ![256, 1408] inb_S256x2816_S256x1408_0_0))
        (View.ld (iblk m c 4 t) (Rect.unit ![2, 0, 0] ![1, 1024, 1408] inb_S4x1024x1408_S1x1024x1408_2_0_0))) (k0_pay20 (k0_pay18 (View.ld (iblk m c 0 t) (Rect.unit ![0, 1408] ![256, 1408] inb_S256x2816_S256x1408_0_1408)))
        (k0_pay19 (Scalar.cmpi CmpIPredicate.eq (BitVec.ofNat 32 (grid0.coords t 0 : ℕ)) 15#32)
          (View.ld (iblk m c 1 t) (Rect.unit ![0, 1408] ![16, 1408] inb_S16x2816_S16x1408_0_1408)))
        (iota Kind.tc S256x1408 32 [0] iota_S256x1408_d0_w32)
        (View.ld (iblk m c 3 t) (Rect.unit ![2, 1408] ![1, 1408] inb_S3x2816_S1x1408_2_1408))
        (View.ld (iblk m c 3 t) (Rect.unit ![1, 1408] ![1, 1408] inb_S3x2816_S1x1408_1_1408))
        (View.ld (iblk m c 3 t) (Rect.unit ![0, 1408] ![1, 1408] inb_S3x2816_S1x1408_0_1408))) (View.ld (iblk m c 4 t) (Rect.unit ![1, 0, 0] ![1, 1024, 1408] inb_S4x1024x1408_S1x1024x1408_1_0_0))
      (View.ld (iblk m c 2 t) (Rect.unit ![0, 1408] ![256, 1408] inb_S256x2816_S256x1408_0_1408))
      (View.ld (iblk m c 4 t) (Rect.unit ![3, 0, 0] ![1, 1024, 1408] inb_S4x1024x1408_S1x1024x1408_3_0_0)))
      (k0_pay24 (iblk m c 5 t)) (k0_pay25 (iblk m c 5 t)) (iblk m c 8 t) (k0_pay26 (View.ld (iblk m c 10 t) (Rect.unit ![4, 0] ![1, 1024] inb_S6x1024_S1x1024_4_0))) (iblk m c 6 t) = dx1Tile m c t := by
  rw [dh_eq, rs_eq, n2_eq, osc_eq, dx1_eq]

theorem rsY_eq (t : Fin cfg0.N) : k0_pay35 (F := Ideal) (k0_pay34 (iblk m c 7 t)) = rsYArr m c t := by
  funext i
  obtain ⟨r, q, rfl⟩ : ∃ (r : Fin 256) (q : Fin 1), i = ix2 r q := ⟨i 0, i 1, ValueIdx.eq_ix2 i⟩
  pointwise [k0_pay33, k0_pay34, k0_pay35, rsYArr]
  simp only [blk0, blk1, blk2, blk3, blk4, blk5, blk6, blk7, blk8, blk9, blk10, blk11]
  rfl

theorem yn_eq (t : Fin cfg0.N) : k0_pay36 (F := Ideal) (k0_pay33 (iblk m c 7 t)) (k0_pay34 (iblk m c 7 t)) = ynArr m c t := by
  unfold k0_pay36
  rw [rsY_eq]
  funext i
  obtain ⟨r, q, rfl⟩ : ∃ (r : Fin 256) (q : Fin 1024), i = ix2 r q := ⟨i 0, i 1, ValueIdx.eq_ix2 i⟩
  pointwise [k0_pay33, rsYArr, ynArr]
  simp only [blk0, blk1, blk2, blk3, blk4, blk5, blk6, blk7, blk8, blk9, blk10, blk11]
  rfl

theorem dy_eq (t : Fin cfg0.N) (r : Fin 256) (q : Fin 1024) : k0_pay40 (F := Ideal) (dx1Tile m c t) (k0_pay33 (iblk m c 7 t))
    (k0_pay34 (iblk m c 7 t)) (iblk m c 9 t) (View.ld (iblk m c 10 t) (Rect.unit ![2, 0] ![1, 1024] inb_S6x1024_S1x1024_2_0)) (ix2 r q) = (args m c).dy (row t r) q := by
  unfold k0_pay40
  rw [yn_eq, rsY_eq]
  pointwise [k0_pay38, dx1Tile, rsYArr, ynArr]
  simp only [blk0, blk1, blk2, blk3, blk4, blk5, blk6, blk7, blk8, blk9, blk10, blk11]
  rfl

end Cert.KerSpec2

end
-- ==== Proof.Up2Rows.lean ====
/-
  The rows of gradients, as the kernel accumulates them point by point.
-/
module

public import proofs.«01_k».proof.Proof.Up2Tiles
public import proofs.«01_k».proof.Proof.Canon

@[expose] public section

set_option maxRecDepth 16384

noncomputable section

namespace Cert.KerSpec2

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ) (c : Dev nD)

/-- What a point adds to the gradient of the shift: the sum over its tokens. -/
def part14 (t : Fin cfg0.N) (i : S1x1024.Idx) : EReal := ∑ r : Fin 256, (args m c).dh (row t r) (i 1)

/-- The value a point stores for the gradient of the shift, over what was there. -/
theorem store14 (t : Fin cfg0.N) (x : FVec Ideal S1x1024 .f32) (j : Fin 1024) :
    k0_pay27 (F := Ideal) (k0_pay17 k0_pay8
        (k0_pay12 (grid0.coords t) (View.ld (iblk m c 0 t) (Rect.unit ![0, 0] ![256, 1408] inb_S256x2816_S256x1408_0_0))
          (View.ld (iblk m c 1 t) (Rect.unit ![0, 0] ![16, 1408] inb_S16x2816_S16x1408_0_0)))
        (k0_pay13 (grid0.coords t) (View.ld (iblk m c 0 t) (Rect.unit ![0, 0] ![256, 1408] inb_S256x2816_S256x1408_0_0))
          (View.ld (iblk m c 1 t) (Rect.unit ![0, 0] ![16, 1408] inb_S16x2816_S16x1408_0_0)))
        (k0_pay14 (View.ld (iblk m c 0 t) (Rect.unit ![0, 0] ![256, 1408] inb_S256x2816_S256x1408_0_0))
          (View.ld (iblk m c 3 t) (Rect.unit ![2, 0] ![1, 1408] inb_S3x2816_S1x1408_2_0)))
        (View.ld (iblk m c 3 t) (Rect.unit ![1, 0] ![1, 1408] inb_S3x2816_S1x1408_1_0))
        (View.ld (iblk m c 3 t) (Rect.unit ![0, 0] ![1, 1408] inb_S3x2816_S1x1408_0_0))
        (View.ld (iblk m c 4 t) (Rect.unit ![0, 0, 0] ![1, 1024, 1408] inb_S4x1024x1408_S1x1024x1408_0_0_0))
        (View.ld (iblk m c 2 t) (Rect.unit ![0, 0] ![256, 1408] inb_S256x2816_S256x1408_0_0))
        (View.ld (iblk m c 4 t) (Rect.unit ![2, 0, 0] ![1, 1024, 1408] inb_S4x1024x1408_S1x1024x1408_2_0_0))) (k0_pay20 (k0_pay18 (View.ld (iblk m c 0 t) (Rect.unit ![0, 1408] ![256, 1408] inb_S256x2816_S256x1408_0_1408)))
        (k0_pay19 (Scalar.cmpi CmpIPredicate.eq (BitVec.ofNat 32 (grid0.coords t 0 : ℕ)) 15#32)
          (View.ld (iblk m c 1 t) (Rect.unit ![0, 1408] ![16, 1408] inb_S16x2816_S16x1408_0_1408)))
        (iota Kind.tc S256x1408 32 [0] iota_S256x1408_d0_w32)
        (View.ld (iblk m c 3 t) (Rect.unit ![2, 1408] ![1, 1408] inb_S3x2816_S1x1408_2_1408))
        (View.ld (iblk m c 3 t) (Rect.unit ![1, 1408] ![1, 1408] inb_S3x2816_S1x1408_1_1408))
        (View.ld (iblk m c 3 t) (Rect.unit ![0, 1408] ![1, 1408] inb_S3x2816_S1x1408_0_1408))) (View.ld (iblk m c 4 t) (Rect.unit ![1, 0, 0] ![1, 1024, 1408] inb_S4x1024x1408_S1x1024x1408_1_0_0))
      (View.ld (iblk m c 2 t) (Rect.unit ![0, 1408] ![256, 1408] inb_S256x2816_S256x1408_0_1408))
      (View.ld (iblk m c 4 t) (Rect.unit ![3, 0, 0] ![1, 1024, 1408] inb_S4x1024x1408_S1x1024x1408_3_0_0)) x (ix2 0 j) = x (ix2 0 j) + part14 m c t (ix2 0 j) := by
  unfold k0_pay27
  rw [dh_eq]
  pointwise [dhArr]
  unfold part14
  rfl

set_option maxHeartbeats 1600000 in
theorem first14 (t : Fin cfg0.N) (h : t.val % 16 = 0) (y : S1x1024.Idx) :
    (outsAt0 m c t.val t.isLt).2.2.1 y = 0 + part14 m c t y := by
  obtain ⟨b, j, rfl⟩ : ∃ (b : Fin 1) (j : Fin 1024), y = ix2 b j := ⟨y 0, y 1, ValueIdx.eq_ix2 y⟩
  obtain rfl : b = 0 := Subsingleton.elim _ _
  rw [outsAt0_A m c t h]
  frame_open
  simp (disch := decide) only [↓ View.readCov_skip, ↓ View.readCov_cons_toLoadRect, ↓ View.readCov_fill]
  frame_out
  clear h
  refine (store14 m c t _ j).trans (congrArg (· + part14 m c t (ix2 0 j)) ?_)
  pointwise [k0_pay2]

set_option maxHeartbeats 1600000 in
theorem next14 (t : Fin cfg0.N) (h : ¬ t.val % 16 = 0) (y : S1x1024.Idx) :
    (outsAt0 m c t.val t.isLt).2.2.1 y
      = (outsAt0 m c (t.val - 1) (Nat.lt_of_le_of_lt (Nat.sub_le _ _) t.isLt)).2.2.1 y + part14 m c t y := by
  obtain ⟨b, j, rfl⟩ : ∃ (b : Fin 1) (j : Fin 1024), y = ix2 b j := ⟨y 0, y 1, ValueIdx.eq_ix2 y⟩
  obtain rfl : b = 0 := Subsingleton.elim _ _
  rw [outsAt0_B m c t h]
  frame_out
  clear h
  exact store14 m c t _ j

/-- What a point adds to the gradient of the scale: the sum over its tokens. -/
def part15 (t : Fin cfg0.N) (i : S1x1024.Idx) : EReal := ∑ r : Fin 256, (args m c).dh (row t r) (i 1) * ((args m c).n2 (row t r) (i 1) * (args m c).GR (i 1))

/-- The value a point stores for the gradient of the scale, over what was there. -/
theorem store15 (t : Fin cfg0.N) (x : FVec Ideal S1x1024 .f32) (j : Fin 1024) :
    k0_pay30 (F := Ideal) (k0_pay22 (k0_pay17 k0_pay8
        (k0_pay12 (grid0.coords t) (View.ld (iblk m c 0 t) (Rect.unit ![0, 0] ![256, 1408] inb_S256x2816_S256x1408_0_0))
          (View.ld (iblk m c 1 t) (Rect.unit ![0, 0] ![16, 1408] inb_S16x2816_S16x1408_0_0)))
        (k0_pay13 (grid0.coords t) (View.ld (iblk m c 0 t) (Rect.unit ![0, 0] ![256, 1408] inb_S256x2816_S256x1408_0_0))
          (View.ld (iblk m c 1 t) (Rect.unit ![0, 0] ![16, 1408] inb_S16x2816_S16x1408_0_0)))
        (k0_pay14 (View.ld (iblk m c 0 t) (Rect.unit ![0, 0] ![256, 1408] inb_S256x2816_S256x1408_0_0))
          (View.ld (iblk m c 3 t) (Rect.unit ![2, 0] ![1, 1408] inb_S3x2816_S1x1408_2_0)))
        (View.ld (iblk m c 3 t) (Rect.unit ![1, 0] ![1, 1408] inb_S3x2816_S1x1408_1_0))
        (View.ld (iblk m c 3 t) (Rect.unit ![0, 0] ![1, 1408] inb_S3x2816_S1x1408_0_0))
        (View.ld (iblk m c 4 t) (Rect.unit ![0, 0, 0] ![1, 1024, 1408] inb_S4x1024x1408_S1x1024x1408_0_0_0))
        (View.ld (iblk m c 2 t) (Rect.unit ![0, 0] ![256, 1408] inb_S256x2816_S256x1408_0_0))
        (View.ld (iblk m c 4 t) (Rect.unit ![2, 0, 0] ![1, 1024, 1408] inb_S4x1024x1408_S1x1024x1408_2_0_0))) (k0_pay20 (k0_pay18 (View.ld (iblk m c 0 t) (Rect.unit ![0, 1408] ![256, 1408] inb_S256x2816_S256x1408_0_1408)))
        (k0_pay19 (Scalar.cmpi CmpIPredicate.eq (BitVec.ofNat 32 (grid0.coords t 0 : ℕ)) 15#32)
          (View.ld (iblk m c 1 t) (Rect.unit ![0, 1408] ![16, 1408] inb_S16x2816_S16x1408_0_1408)))
        (iota Kind.tc S256x1408 32 [0] iota_S256x1408_d0_w32)
        (View.ld (iblk m c 3 t) (Rect.unit ![2, 1408] ![1, 1408] inb_S3x2816_S1x1408_2_1408))
        (View.ld (iblk m c 3 t) (Rect.unit ![1, 1408] ![1, 1408] inb_S3x2816_S1x1408_1_1408))
        (View.ld (iblk m c 3 t) (Rect.unit ![0, 1408] ![1, 1408] inb_S3x2816_S1x1408_0_1408))) (View.ld (iblk m c 4 t) (Rect.unit ![1, 0, 0] ![1, 1024, 1408] inb_S4x1024x1408_S1x1024x1408_1_0_0))
      (View.ld (iblk m c 2 t) (Rect.unit ![0, 1408] ![256, 1408] inb_S256x2816_S256x1408_0_1408))
      (View.ld (iblk m c 4 t) (Rect.unit ![3, 0, 0] ![1, 1024, 1408] inb_S4x1024x1408_S1x1024x1408_3_0_0))) (k0_pay25 (iblk m c 5 t)) (k0_pay28 x) (k0_pay29 (iblk m c 8 t)) (ix2 0 j) = x (ix2 0 j) + part15 m c t (ix2 0 j) := by
  rw [dh_eq, n2_eq]
  pointwise [k0_pay28, k0_pay29, k0_pay30, dhArr, n2Arr]
  simp only [blk0, blk1, blk2, blk3, blk4, blk5, blk6, blk7, blk8, blk9, blk10, blk11]
  unfold part15
  rfl

set_option maxHeartbeats 1600000 in
theorem first15 (t : Fin cfg0.N) (h : t.val % 16 = 0) (y : S1x1024.Idx) :
    (outsAt0 m c t.val t.isLt).2.2.2.1 y = 0 + part15 m c t y := by
  obtain ⟨b, j, rfl⟩ : ∃ (b : Fin 1) (j : Fin 1024), y = ix2 b j := ⟨y 0, y 1, ValueIdx.eq_ix2 y⟩
  obtain rfl : b = 0 := Subsingleton.elim _ _
  rw [outsAt0_A m c t h]
  frame_open
  simp (disch := decide) only [↓ View.readCov_skip, ↓ View.readCov_cons_toLoadRect, ↓ View.readCov_fill]
  frame_out
  clear h
  refine (store15 m c t _ j).trans (congrArg (· + part15 m c t (ix2 0 j)) ?_)
  pointwise [k0_pay3]

set_option maxHeartbeats 1600000 in
theorem next15 (t : Fin cfg0.N) (h : ¬ t.val % 16 = 0) (y : S1x1024.Idx) :
    (outsAt0 m c t.val t.isLt).2.2.2.1 y
      = (outsAt0 m c (t.val - 1) (Nat.lt_of_le_of_lt (Nat.sub_le _ _) t.isLt)).2.2.2.1 y + part15 m c t y := by
  obtain ⟨b, j, rfl⟩ : ∃ (b : Fin 1) (j : Fin 1024), y = ix2 b j := ⟨y 0, y 1, ValueIdx.eq_ix2 y⟩
  obtain rfl : b = 0 := Subsingleton.elim _ _
  rw [outsAt0_B m c t h]
  frame_out
  clear h
  exact store15 m c t _ j

/-- What a point adds to the gradient of the gain of the stream's norm: the sum over its tokens. -/
def part16 (t : Fin cfg0.N) (i : S1x1024.Idx) : EReal := ∑ r : Fin 256, (args m c).dh (row t r) (i 1) * (args m c).osc (i 1) * (args m c).n2 (row t r) (i 1)

/-- The value a point stores for the gradient of the gain of the stream's norm, over what was there. -/
theorem store16 (t : Fin cfg0.N) (x : FVec Ideal S1x1024 .f32) (j : Fin 1024) :
    k0_pay31 (F := Ideal) (k0_pay22 (k0_pay17 k0_pay8
        (k0_pay12 (grid0.coords t) (View.ld (iblk m c 0 t) (Rect.unit ![0, 0] ![256, 1408] inb_S256x2816_S256x1408_0_0))
          (View.ld (iblk m c 1 t) (Rect.unit ![0, 0] ![16, 1408] inb_S16x2816_S16x1408_0_0)))
        (k0_pay13 (grid0.coords t) (View.ld (iblk m c 0 t) (Rect.unit ![0, 0] ![256, 1408] inb_S256x2816_S256x1408_0_0))
          (View.ld (iblk m c 1 t) (Rect.unit ![0, 0] ![16, 1408] inb_S16x2816_S16x1408_0_0)))
        (k0_pay14 (View.ld (iblk m c 0 t) (Rect.unit ![0, 0] ![256, 1408] inb_S256x2816_S256x1408_0_0))
          (View.ld (iblk m c 3 t) (Rect.unit ![2, 0] ![1, 1408] inb_S3x2816_S1x1408_2_0)))
        (View.ld (iblk m c 3 t) (Rect.unit ![1, 0] ![1, 1408] inb_S3x2816_S1x1408_1_0))
        (View.ld (iblk m c 3 t) (Rect.unit ![0, 0] ![1, 1408] inb_S3x2816_S1x1408_0_0))
        (View.ld (iblk m c 4 t) (Rect.unit ![0, 0, 0] ![1, 1024, 1408] inb_S4x1024x1408_S1x1024x1408_0_0_0))
        (View.ld (iblk m c 2 t) (Rect.unit ![0, 0] ![256, 1408] inb_S256x2816_S256x1408_0_0))
        (View.ld (iblk m c 4 t) (Rect.unit ![2, 0, 0] ![1, 1024, 1408] inb_S4x1024x1408_S1x1024x1408_2_0_0))) (k0_pay20 (k0_pay18 (View.ld (iblk m c 0 t) (Rect.unit ![0, 1408] ![256, 1408] inb_S256x2816_S256x1408_0_1408)))
        (k0_pay19 (Scalar.cmpi CmpIPredicate.eq (BitVec.ofNat 32 (grid0.coords t 0 : ℕ)) 15#32)
          (View.ld (iblk m c 1 t) (Rect.unit ![0, 1408] ![16, 1408] inb_S16x2816_S16x1408_0_1408)))
        (iota Kind.tc S256x1408 32 [0] iota_S256x1408_d0_w32)
        (View.ld (iblk m c 3 t) (Rect.unit ![2, 1408] ![1, 1408] inb_S3x2816_S1x1408_2_1408))
        (View.ld (iblk m c 3 t) (Rect.unit ![1, 1408] ![1, 1408] inb_S3x2816_S1x1408_1_1408))
        (View.ld (iblk m c 3 t) (Rect.unit ![0, 1408] ![1, 1408] inb_S3x2816_S1x1408_0_1408))) (View.ld (iblk m c 4 t) (Rect.unit ![1, 0, 0] ![1, 1024, 1408] inb_S4x1024x1408_S1x1024x1408_1_0_0))
      (View.ld (iblk m c 2 t) (Rect.unit ![0, 1408] ![256, 1408] inb_S256x2816_S256x1408_0_1408))
      (View.ld (iblk m c 4 t) (Rect.unit ![3, 0, 0] ![1, 1024, 1408] inb_S4x1024x1408_S1x1024x1408_3_0_0))) (k0_pay25 (iblk m c 5 t)) (k0_pay26 (View.ld (iblk m c 10 t) (Rect.unit ![4, 0] ![1, 1024] inb_S6x1024_S1x1024_4_0))) x (ix2 0 j) = x (ix2 0 j) + part16 m c t (ix2 0 j) := by
  rw [dh_eq, n2_eq, osc_eq]
  pointwise [k0_pay31, dhArr, n2Arr, oscArr]
  unfold part16
  rfl

set_option maxHeartbeats 1600000 in
theorem first16 (t : Fin cfg0.N) (h : t.val % 16 = 0) (y : S1x1024.Idx) :
    (outsAt0 m c t.val t.isLt).2.2.2.2.1 y = 0 + part16 m c t y := by
  obtain ⟨b, j, rfl⟩ : ∃ (b : Fin 1) (j : Fin 1024), y = ix2 b j := ⟨y 0, y 1, ValueIdx.eq_ix2 y⟩
  obtain rfl : b = 0 := Subsingleton.elim _ _
  rw [outsAt0_A m c t h]
  frame_open
  simp (disch := decide) only [↓ View.readCov_skip, ↓ View.readCov_cons_toLoadRect, ↓ View.readCov_fill]
  frame_out
  clear h
  refine (store16 m c t _ j).trans (congrArg (· + part16 m c t (ix2 0 j)) ?_)
  pointwise [k0_pay4]

set_option maxHeartbeats 1600000 in
theorem next16 (t : Fin cfg0.N) (h : ¬ t.val % 16 = 0) (y : S1x1024.Idx) :
    (outsAt0 m c t.val t.isLt).2.2.2.2.1 y
      = (outsAt0 m c (t.val - 1) (Nat.lt_of_le_of_lt (Nat.sub_le _ _) t.isLt)).2.2.2.2.1 y + part16 m c t y := by
  obtain ⟨b, j, rfl⟩ : ∃ (b : Fin 1) (j : Fin 1024), y = ix2 b j := ⟨y 0, y 1, ValueIdx.eq_ix2 y⟩
  obtain rfl : b = 0 := Subsingleton.elim _ _
  rw [outsAt0_B m c t h]
  frame_out
  clear h
  exact store16 m c t _ j

/-- What a point adds to the gradient of the gate: the sum over its tokens. -/
def part17 (t : Fin cfg0.N) (i : S1x1024.Idx) : EReal := ∑ r : Fin 256, (args m c).dx1 (row t r) (i 1) * ((args m c).yn (row t r) (i 1) * (args m c).GP (i 1))

/-- The value a point stores for the gradient of the gate, over what was there. -/
theorem store17 (t : Fin cfg0.N) (x : FVec Ideal S1x1024 .f32) (j : Fin 1024) :
    k0_pay37 (F := Ideal) (k0_pay32 (k0_pay22 (k0_pay17 k0_pay8
        (k0_pay12 (grid0.coords t) (View.ld (iblk m c 0 t) (Rect.unit ![0, 0] ![256, 1408] inb_S256x2816_S256x1408_0_0))
          (View.ld (iblk m c 1 t) (Rect.unit ![0, 0] ![16, 1408] inb_S16x2816_S16x1408_0_0)))
        (k0_pay13 (grid0.coords t) (View.ld (iblk m c 0 t) (Rect.unit ![0, 0] ![256, 1408] inb_S256x2816_S256x1408_0_0))
          (View.ld (iblk m c 1 t) (Rect.unit ![0, 0] ![16, 1408] inb_S16x2816_S16x1408_0_0)))
        (k0_pay14 (View.ld (iblk m c 0 t) (Rect.unit ![0, 0] ![256, 1408] inb_S256x2816_S256x1408_0_0))
          (View.ld (iblk m c 3 t) (Rect.unit ![2, 0] ![1, 1408] inb_S3x2816_S1x1408_2_0)))
        (View.ld (iblk m c 3 t) (Rect.unit ![1, 0] ![1, 1408] inb_S3x2816_S1x1408_1_0))
        (View.ld (iblk m c 3 t) (Rect.unit ![0, 0] ![1, 1408] inb_S3x2816_S1x1408_0_0))
        (View.ld (iblk m c 4 t) (Rect.unit ![0, 0, 0] ![1, 1024, 1408] inb_S4x1024x1408_S1x1024x1408_0_0_0))
        (View.ld (iblk m c 2 t) (Rect.unit ![0, 0] ![256, 1408] inb_S256x2816_S256x1408_0_0))
        (View.ld (iblk m c 4 t) (Rect.unit ![2, 0, 0] ![1, 1024, 1408] inb_S4x1024x1408_S1x1024x1408_2_0_0))) (k0_pay20 (k0_pay18 (View.ld (iblk m c 0 t) (Rect.unit ![0, 1408] ![256, 1408] inb_S256x2816_S256x1408_0_1408)))
        (k0_pay19 (Scalar.cmpi CmpIPredicate.eq (BitVec.ofNat 32 (grid0.coords t 0 : ℕ)) 15#32)
          (View.ld (iblk m c 1 t) (Rect.unit ![0, 1408] ![16, 1408] inb_S16x2816_S16x1408_0_1408)))
        (iota Kind.tc S256x1408 32 [0] iota_S256x1408_d0_w32)
        (View.ld (iblk m c 3 t) (Rect.unit ![2, 1408] ![1, 1408] inb_S3x2816_S1x1408_2_1408))
        (View.ld (iblk m c 3 t) (Rect.unit ![1, 1408] ![1, 1408] inb_S3x2816_S1x1408_1_1408))
        (View.ld (iblk m c 3 t) (Rect.unit ![0, 1408] ![1, 1408] inb_S3x2816_S1x1408_0_1408))) (View.ld (iblk m c 4 t) (Rect.unit ![1, 0, 0] ![1, 1024, 1408] inb_S4x1024x1408_S1x1024x1408_1_0_0))
      (View.ld (iblk m c 2 t) (Rect.unit ![0, 1408] ![256, 1408] inb_S256x2816_S256x1408_0_1408))
      (View.ld (iblk m c 4 t) (Rect.unit ![3, 0, 0] ![1, 1024, 1408] inb_S4x1024x1408_S1x1024x1408_3_0_0)))
      (k0_pay24 (iblk m c 5 t)) (k0_pay25 (iblk m c 5 t)) (iblk m c 8 t) (k0_pay26 (View.ld (iblk m c 10 t) (Rect.unit ![4, 0] ![1, 1024] inb_S6x1024_S1x1024_4_0))) (iblk m c 6 t)) (k0_pay33 (iblk m c 7 t)) (k0_pay34 (iblk m c 7 t)) (iblk m c 9 t) x (ix2 0 j) = x (ix2 0 j) + part17 m c t (ix2 0 j) := by
  rw [dx1_raw]
  unfold k0_pay37
  rw [yn_eq]
  pointwise [dx1Tile, ynArr]
  simp only [blk0, blk1, blk2, blk3, blk4, blk5, blk6, blk7, blk8, blk9, blk10, blk11]
  unfold part17
  rfl

set_option maxHeartbeats 1600000 in
theorem first17 (t : Fin cfg0.N) (h : t.val % 16 = 0) (y : S1x1024.Idx) :
    (outsAt0 m c t.val t.isLt).2.2.2.2.2.1 y = 0 + part17 m c t y := by
  obtain ⟨b, j, rfl⟩ : ∃ (b : Fin 1) (j : Fin 1024), y = ix2 b j := ⟨y 0, y 1, ValueIdx.eq_ix2 y⟩
  obtain rfl : b = 0 := Subsingleton.elim _ _
  rw [outsAt0_A m c t h]
  frame_open
  simp (disch := decide) only [↓ View.readCov_skip, ↓ View.readCov_cons_toLoadRect, ↓ View.readCov_fill]
  frame_out
  clear h
  refine (store17 m c t _ j).trans (congrArg (· + part17 m c t (ix2 0 j)) ?_)
  pointwise [k0_pay5]

set_option maxHeartbeats 1600000 in
theorem next17 (t : Fin cfg0.N) (h : ¬ t.val % 16 = 0) (y : S1x1024.Idx) :
    (outsAt0 m c t.val t.isLt).2.2.2.2.2.1 y
      = (outsAt0 m c (t.val - 1) (Nat.lt_of_le_of_lt (Nat.sub_le _ _) t.isLt)).2.2.2.2.2.1 y + part17 m c t y := by
  obtain ⟨b, j, rfl⟩ : ∃ (b : Fin 1) (j : Fin 1024), y = ix2 b j := ⟨y 0, y 1, ValueIdx.eq_ix2 y⟩
  obtain rfl : b = 0 := Subsingleton.elim _ _
  rw [outsAt0_B m c t h]
  frame_out
  clear h
  exact store17 m c t _ j

/-- What a point adds to the gradient of the gain of the mixer output's norm: the sum over its tokens. -/
def part18 (t : Fin cfg0.N) (i : S1x1024.Idx) : EReal := ∑ r : Fin 256, (args m c).dx1 (row t r) (i 1) * (args m c).M 2 (i 1) * (args m c).yn (row t r) (i 1)

/-- The value a point stores for the gradient of the gain of the mixer output's norm, over what was there. -/
theorem store18 (t : Fin cfg0.N) (x : FVec Ideal S1x1024 .f32) (j : Fin 1024) :
    k0_pay39 (F := Ideal) (k0_pay32 (k0_pay22 (k0_pay17 k0_pay8
        (k0_pay12 (grid0.coords t) (View.ld (iblk m c 0 t) (Rect.unit ![0, 0] ![256, 1408] inb_S256x2816_S256x1408_0_0))
          (View.ld (iblk m c 1 t) (Rect.unit ![0, 0] ![16, 1408] inb_S16x2816_S16x1408_0_0)))
        (k0_pay13 (grid0.coords t) (View.ld (iblk m c 0 t) (Rect.unit ![0, 0] ![256, 1408] inb_S256x2816_S256x1408_0_0))
          (View.ld (iblk m c 1 t) (Rect.unit ![0, 0] ![16, 1408] inb_S16x2816_S16x1408_0_0)))
        (k0_pay14 (View.ld (iblk m c 0 t) (Rect.unit ![0, 0] ![256, 1408] inb_S256x2816_S256x1408_0_0))
          (View.ld (iblk m c 3 t) (Rect.unit ![2, 0] ![1, 1408] inb_S3x2816_S1x1408_2_0)))
        (View.ld (iblk m c 3 t) (Rect.unit ![1, 0] ![1, 1408] inb_S3x2816_S1x1408_1_0))
        (View.ld (iblk m c 3 t) (Rect.unit ![0, 0] ![1, 1408] inb_S3x2816_S1x1408_0_0))
        (View.ld (iblk m c 4 t) (Rect.unit ![0, 0, 0] ![1, 1024, 1408] inb_S4x1024x1408_S1x1024x1408_0_0_0))
        (View.ld (iblk m c 2 t) (Rect.unit ![0, 0] ![256, 1408] inb_S256x2816_S256x1408_0_0))
        (View.ld (iblk m c 4 t) (Rect.unit ![2, 0, 0] ![1, 1024, 1408] inb_S4x1024x1408_S1x1024x1408_2_0_0))) (k0_pay20 (k0_pay18 (View.ld (iblk m c 0 t) (Rect.unit ![0, 1408] ![256, 1408] inb_S256x2816_S256x1408_0_1408)))
        (k0_pay19 (Scalar.cmpi CmpIPredicate.eq (BitVec.ofNat 32 (grid0.coords t 0 : ℕ)) 15#32)
          (View.ld (iblk m c 1 t) (Rect.unit ![0, 1408] ![16, 1408] inb_S16x2816_S16x1408_0_1408)))
        (iota Kind.tc S256x1408 32 [0] iota_S256x1408_d0_w32)
        (View.ld (iblk m c 3 t) (Rect.unit ![2, 1408] ![1, 1408] inb_S3x2816_S1x1408_2_1408))
        (View.ld (iblk m c 3 t) (Rect.unit ![1, 1408] ![1, 1408] inb_S3x2816_S1x1408_1_1408))
        (View.ld (iblk m c 3 t) (Rect.unit ![0, 1408] ![1, 1408] inb_S3x2816_S1x1408_0_1408))) (View.ld (iblk m c 4 t) (Rect.unit ![1, 0, 0] ![1, 1024, 1408] inb_S4x1024x1408_S1x1024x1408_1_0_0))
      (View.ld (iblk m c 2 t) (Rect.unit ![0, 1408] ![256, 1408] inb_S256x2816_S256x1408_0_1408))
      (View.ld (iblk m c 4 t) (Rect.unit ![3, 0, 0] ![1, 1024, 1408] inb_S4x1024x1408_S1x1024x1408_3_0_0)))
      (k0_pay24 (iblk m c 5 t)) (k0_pay25 (iblk m c 5 t)) (iblk m c 8 t) (k0_pay26 (View.ld (iblk m c 10 t) (Rect.unit ![4, 0] ![1, 1024] inb_S6x1024_S1x1024_4_0))) (iblk m c 6 t)) (k0_pay33 (iblk m c 7 t)) (k0_pay34 (iblk m c 7 t)) (View.ld (iblk m c 10 t) (Rect.unit ![2, 0] ![1, 1024] inb_S6x1024_S1x1024_2_0)) x (ix2 0 j) = x (ix2 0 j) + part18 m c t (ix2 0 j) := by
  rw [dx1_raw]
  unfold k0_pay39
  rw [yn_eq]
  pointwise [k0_pay38, dx1Tile, ynArr]
  simp only [blk0, blk1, blk2, blk3, blk4, blk5, blk6, blk7, blk8, blk9, blk10, blk11]
  unfold part18
  rfl

set_option maxHeartbeats 1600000 in
theorem first18 (t : Fin cfg0.N) (h : t.val % 16 = 0) (y : S1x1024.Idx) :
    (outsAt0 m c t.val t.isLt).2.2.2.2.2.2.1 y = 0 + part18 m c t y := by
  obtain ⟨b, j, rfl⟩ : ∃ (b : Fin 1) (j : Fin 1024), y = ix2 b j := ⟨y 0, y 1, ValueIdx.eq_ix2 y⟩
  obtain rfl : b = 0 := Subsingleton.elim _ _
  rw [outsAt0_A m c t h]
  frame_open
  simp (disch := decide) only [↓ View.readCov_skip, ↓ View.readCov_cons_toLoadRect, ↓ View.readCov_fill]
  frame_out
  clear h
  refine (store18 m c t _ j).trans (congrArg (· + part18 m c t (ix2 0 j)) ?_)
  pointwise [k0_pay6]

set_option maxHeartbeats 1600000 in
theorem next18 (t : Fin cfg0.N) (h : ¬ t.val % 16 = 0) (y : S1x1024.Idx) :
    (outsAt0 m c t.val t.isLt).2.2.2.2.2.2.1 y
      = (outsAt0 m c (t.val - 1) (Nat.lt_of_le_of_lt (Nat.sub_le _ _) t.isLt)).2.2.2.2.2.2.1 y + part18 m c t y := by
  obtain ⟨b, j, rfl⟩ : ∃ (b : Fin 1) (j : Fin 1024), y = ix2 b j := ⟨y 0, y 1, ValueIdx.eq_ix2 y⟩
  obtain rfl : b = 0 := Subsingleton.elim _ _
  rw [outsAt0_B m c t h]
  frame_out
  clear h
  exact store18 m c t _ j

end Cert.KerSpec2

end
-- ==== Proof.Up2Weight.lean ====
/-
  The gradient of the up projection's gate columns, as the kernel accumulates it point by point.
-/
module

public import proofs.«01_k».proof.Proof.Up2Tiles
public import proofs.«01_k».proof.Proof.Canon

@[expose] public section

set_option maxRecDepth 16384

noncomputable section

namespace Cert.KerSpec2

open Idealize.ShloMosaic Idealize.ShloMosaic.TcCoe Idealize.SL.Sem
open Idealize.ShloMosaic.Pipeline (Dat)
open Cert.Kernel2Ideal Cert.Kernel2Ideal.Gen
open Cert.KerSpec (canon_init)

variable (m : (ℓ : Loc nD τ sig) → Buf (Elt Ideal) ℓ) (c : Dev nD)

/-- What a point adds to the gradient of the up projection: the sum over its tokens. -/
def part19 (t : Fin cfg0.N) (i : S2x1024x1408.Idx) : EReal :=
  ∑ r : Fin 256, (args m c).h (row t r) (i 1) * (args m c).dgate (row t r)
    ⟨(i 0).val * 1408 + (i 2).val, by have h0 : (i 0).val < 2 := (i 0).isLt; have h2 : (i 2).val < 1408 := (i 2).isLt; omega⟩

/-- The value a point stores for the first half of the columns, over what was there. -/
theorem store19_0 (t : Fin cfg0.N) (x : FVec Ideal S1x1024x1408 .f32) (q : Fin 1024) (k : Fin 1408) :
    k0_pay16 (F := Ideal) (k0_pay7 (iblk m c 11 t)) (k0_pay12 (grid0.coords t) (View.ld (iblk m c 0 t) (Rect.unit ![0, 0] ![256, 1408] inb_S256x2816_S256x1408_0_0))
          (View.ld (iblk m c 1 t) (Rect.unit ![0, 0] ![16, 1408] inb_S16x2816_S16x1408_0_0)))
        (k0_pay13 (grid0.coords t) (View.ld (iblk m c 0 t) (Rect.unit ![0, 0] ![256, 1408] inb_S256x2816_S256x1408_0_0))
          (View.ld (iblk m c 1 t) (Rect.unit ![0, 0] ![16, 1408] inb_S16x2816_S16x1408_0_0)))
        (k0_pay14 (View.ld (iblk m c 0 t) (Rect.unit ![0, 0] ![256, 1408] inb_S256x2816_S256x1408_0_0))
          (View.ld (iblk m c 3 t) (Rect.unit ![2, 0] ![1, 1408] inb_S3x2816_S1x1408_2_0)))
        (View.ld (iblk m c 3 t) (Rect.unit ![1, 0] ![1, 1408] inb_S3x2816_S1x1408_1_0))
        (View.ld (iblk m c 3 t) (Rect.unit ![0, 0] ![1, 1408] inb_S3x2816_S1x1408_0_0)) x (ix3 0 q k) = x (ix3 0 q k) + part19 m c t (ix3 0 q k) := by
  unfold k0_pay16
  rw [dg0_eq]
  pointwise [k0_pay7, dg0Arr]
  simp only [blk0, blk1, blk2, blk3, blk4, blk5, blk6, blk7, blk8, blk9, blk10, blk11]
  unfold part19
  refine congrArg _ (Finset.sum_congr (M := EReal) rfl fun r _ => ?_)
  congr 2
  apply Fin.ext
  show k.val = 0 * 1408 + k.val
  omega

/-- The value a point stores for the second half of the columns, over what was there. -/
theorem store19_1 (t : Fin cfg0.N) (x : FVec Ideal S1x1024x1408 .f32) (q : Fin 1024) (k : Fin 1408) :
    k0_pay21 (F := Ideal) (k0_pay7 (iblk m c 11 t)) (k0_pay18 (View.ld (iblk m c 0 t) (Rect.unit ![0, 1408] ![256, 1408] inb_S256x2816_S256x1408_0_1408)))
        (k0_pay19 (Scalar.cmpi CmpIPredicate.eq (BitVec.ofNat 32 (grid0.coords t 0 : ℕ)) 15#32)
          (View.ld (iblk m c 1 t) (Rect.unit ![0, 1408] ![16, 1408] inb_S16x2816_S16x1408_0_1408)))
        (iota Kind.tc S256x1408 32 [0] iota_S256x1408_d0_w32)
        (View.ld (iblk m c 3 t) (Rect.unit ![2, 1408] ![1, 1408] inb_S3x2816_S1x1408_2_1408))
        (View.ld (iblk m c 3 t) (Rect.unit ![1, 1408] ![1, 1408] inb_S3x2816_S1x1408_1_1408))
        (View.ld (iblk m c 3 t) (Rect.unit ![0, 1408] ![1, 1408] inb_S3x2816_S1x1408_0_1408)) x (ix3 0 q k) = x (ix3 0 q k) + part19 m c t (ix3 1 q k) := by
  unfold k0_pay21
  rw [dg1_eq]
  pointwise [k0_pay7, dg1Arr]
  simp only [blk0, blk1, blk2, blk3, blk4, blk5, blk6, blk7, blk8, blk9, blk10, blk11]
  unfold part19
  rfl

set_option maxHeartbeats 1600000 in
theorem first19 (t : Fin cfg0.N) (h : t.val % 16 = 0) (y : S2x1024x1408.Idx) :
    (outsAt0 m c t.val t.isLt).2.2.2.2.2.2.2 y = 0 + part19 m c t y := by
  obtain ⟨b, j, l, rfl⟩ : ∃ (b : Fin 2) (j : Fin 1024) (l : Fin 1408), y = ix3 b j l := ⟨y 0, y 1, y 2, ValueIdx.eq_ix3 y⟩
  rw [outsAt0_A m c t h]
  frame_open
  simp (disch := decide) only [↓ View.readCov_skip, ↓ View.readCov_cons_toLoadRect, ↓ View.readCov_fill]
  frame_out
  clear h
  refine (canon_init _ _ (View.cover_of_tiledBy _ ![1, 1024, 128] (by sl_kernel_rfl) _)).trans ?_
  simp only [List.dropLast]
  canon_tiles x h using View.cover_of_tiledBy _ ![1, 1024, 128] (by sl_kernel_rfl) _
  · obtain ⟨z, q, k, rfl⟩ : ∃ (z : Fin 1) (q : Fin 1024) (k : Fin 1408), x = ix3 z q k :=
      ⟨x 0, x 1, x 2, ValueIdx.eq_ix3 x⟩
    obtain rfl : z = 0 := Subsingleton.elim _ _
    obtain rfl : j = q := Fin.ext h1
    obtain rfl : l = k := Fin.ext h2
    obtain rfl : b = 1 := Fin.ext h0
    refine (store19_1 m c t _ j l).trans (congrArg (· + part19 m c t (ix3 1 j l)) ?_)
    pointwise [k0_pay1]
  · obtain ⟨z, q, k, rfl⟩ : ∃ (z : Fin 1) (q : Fin 1024) (k : Fin 1408), x = ix3 z q k :=
      ⟨x 0, x 1, x 2, ValueIdx.eq_ix3 x⟩
    obtain rfl : z = 0 := Subsingleton.elim _ _
    obtain rfl : j = q := Fin.ext h1
    obtain rfl : l = k := Fin.ext h2
    obtain rfl : b = 0 := Fin.ext h0
    refine (store19_0 m c t _ j l).trans (congrArg (· + part19 m c t (ix3 0 j l)) ?_)
    pointwise [k0_pay1]

set_option maxHeartbeats 1600000 in
theorem next19 (t : Fin cfg0.N) (h : ¬ t.val % 16 = 0) (y : S2x1024x1408.Idx) :
    (outsAt0 m c t.val t.isLt).2.2.2.2.2.2.2 y
      = (outsAt0 m c (t.val - 1) (Nat.lt_of_le_of_lt (Nat.sub_le _ _) t.isLt)).2.2.2.2.2.2.2 y + part19 m c t y := by
  obtain ⟨b, j, l, rfl⟩ : ∃ (b : Fin 2) (j : Fin 1024) (l : Fin 1408), y = ix3 b j l := ⟨y 0, y 1, y 2, ValueIdx.eq_ix3 y⟩
  rw [outsAt0_B m c t h]
  frame_out
  clear h
  canon_tiles x h using View.cover_of_tiledBy _ ![1, 1024, 128] (by sl_kernel_rfl) _
  · obtain ⟨z, q, k, rfl⟩ : ∃ (z : Fin 1) (q : Fin 1024) (k : Fin 1408), x = ix3 z q k :=
      ⟨x 0, x 1, x 2, ValueIdx.eq_ix3 x⟩
    obtain rfl : z = 0 := Subsingleton.elim _ _
    obtain rfl : j = q := Fin.ext h1
    obtain rfl : l = k := Fin.ext h2
    obtain rfl : b = 1 := Fin.ext h0
    refine (store19_1 m c t _ j l).trans (congrArg (· + part19 m c t (ix3 1 j l)) ?_)
    pointwise [k0_pay1]
  · obtain ⟨z, q, k, rfl⟩ : ∃ (z : Fin 1) (q : Fin 1024) (k : Fin 1408), x = ix3 z q k :=
      ⟨x 0, x 1, x 2, ValueIdx.eq_ix3 x⟩
    obtain rfl : z = 0 := Subsingleton.elim _ _
    obtain rfl : j = q := Fin.ext h1
    obtain rfl : l = k := Fin.ext h2
    obtain rfl : b = 0 := Fin.ext h0
    refine (store19_0 m c t _ j l).trans (congrArg (· + part19 m c t (ix3 0 j l)) ?_)
    pointwise [k0_pay1]

end Cert.KerSpec2

end
-- ==== Proof.Up2Final.lean ====
/-
  The results of the up projection's gradient, as the kernel leaves them.
-/
module

public import proofs.«01_k».proof.Proof.Up2Rows
public import proofs.«01_k».proof.Proof.Up2Weight

@[expose] public section

set_option maxRecDepth 16384

noncomputable section

namespace Cert.KerSpec2

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ) (c : Dev nD)

/-- The cotangent of the stream, as an array. -/
def dx1Arr : FVec Ideal S4096x1024 .f32 := fun i => (args m c).dx1 (i 0) (i 1)

set_option maxHeartbeats 1600000 in
theorem final12 : (dats m 0 c).arrAt 12 cfg0.N = dx1Arr m c := by
  refine (dats m 0 c).arrAt_eq_of_covers 12 _ (by decide +kernel) fun t hf y => ?_
  obtain ⟨b, j, rfl⟩ : ∃ (b : Fin 256) (j : Fin 1024), y = ix2 b j := ⟨y 0, y 1, ValueIdx.eq_ix2 y⟩
  have e : dx1Arr m c ((win0_12.rect t).emb (ix2 b j)) = (args m c).dx1 (row t b) j := by
    refine congrArg₂ (args m c).dx1 (Fin.ext ?_) (Fin.ext ?_) <;> blk_simp [idx t] <;>
      first | rfl | exact Nat.zero_add _
  refine Eq.trans ?_ e.symm
  blk_simp
  rw [after0_12]
  clear e
  by_cases h : t.val % 16 = 0
  · rw [outsAt0_A m c t h]
    frame_out
    exact congrFun (dx1_raw m c t) (ix2 b j)
  · rw [outsAt0_B m c t h]
    frame_out
    exact congrFun (dx1_raw m c t) (ix2 b j)

/-- The cotangent of the mixer's output, as an array. -/
def dyArr : FVec Ideal S4096x1024 .bf16 := fun i => (args m c).dy (i 0) (i 1)

theorem dy_raw (t : Fin cfg0.N) (r : Fin 256) (q : Fin 1024) : k0_pay40 (F := Ideal) (k0_pay32 (k0_pay22 (k0_pay17 k0_pay8
        (k0_pay12 (grid0.coords t) (View.ld (iblk m c 0 t) (Rect.unit ![0, 0] ![256, 1408] inb_S256x2816_S256x1408_0_0))
          (View.ld (iblk m c 1 t) (Rect.unit ![0, 0] ![16, 1408] inb_S16x2816_S16x1408_0_0)))
        (k0_pay13 (grid0.coords t) (View.ld (iblk m c 0 t) (Rect.unit ![0, 0] ![256, 1408] inb_S256x2816_S256x1408_0_0))
          (View.ld (iblk m c 1 t) (Rect.unit ![0, 0] ![16, 1408] inb_S16x2816_S16x1408_0_0)))
        (k0_pay14 (View.ld (iblk m c 0 t) (Rect.unit ![0, 0] ![256, 1408] inb_S256x2816_S256x1408_0_0))
          (View.ld (iblk m c 3 t) (Rect.unit ![2, 0] ![1, 1408] inb_S3x2816_S1x1408_2_0)))
        (View.ld (iblk m c 3 t) (Rect.unit ![1, 0] ![1, 1408] inb_S3x2816_S1x1408_1_0))
        (View.ld (iblk m c 3 t) (Rect.unit ![0, 0] ![1, 1408] inb_S3x2816_S1x1408_0_0))
        (View.ld (iblk m c 4 t) (Rect.unit ![0, 0, 0] ![1, 1024, 1408] inb_S4x1024x1408_S1x1024x1408_0_0_0))
        (View.ld (iblk m c 2 t) (Rect.unit ![0, 0] ![256, 1408] inb_S256x2816_S256x1408_0_0))
        (View.ld (iblk m c 4 t) (Rect.unit ![2, 0, 0] ![1, 1024, 1408] inb_S4x1024x1408_S1x1024x1408_2_0_0))) (k0_pay20 (k0_pay18 (View.ld (iblk m c 0 t) (Rect.unit ![0, 1408] ![256, 1408] inb_S256x2816_S256x1408_0_1408)))
        (k0_pay19 (Scalar.cmpi CmpIPredicate.eq (BitVec.ofNat 32 (grid0.coords t 0 : ℕ)) 15#32)
          (View.ld (iblk m c 1 t) (Rect.unit ![0, 1408] ![16, 1408] inb_S16x2816_S16x1408_0_1408)))
        (iota Kind.tc S256x1408 32 [0] iota_S256x1408_d0_w32)
        (View.ld (iblk m c 3 t) (Rect.unit ![2, 1408] ![1, 1408] inb_S3x2816_S1x1408_2_1408))
        (View.ld (iblk m c 3 t) (Rect.unit ![1, 1408] ![1, 1408] inb_S3x2816_S1x1408_1_1408))
        (View.ld (iblk m c 3 t) (Rect.unit ![0, 1408] ![1, 1408] inb_S3x2816_S1x1408_0_1408))) (View.ld (iblk m c 4 t) (Rect.unit ![1, 0, 0] ![1, 1024, 1408] inb_S4x1024x1408_S1x1024x1408_1_0_0))
      (View.ld (iblk m c 2 t) (Rect.unit ![0, 1408] ![256, 1408] inb_S256x2816_S256x1408_0_1408))
      (View.ld (iblk m c 4 t) (Rect.unit ![3, 0, 0] ![1, 1024, 1408] inb_S4x1024x1408_S1x1024x1408_3_0_0)))
      (k0_pay24 (iblk m c 5 t)) (k0_pay25 (iblk m c 5 t)) (iblk m c 8 t) (k0_pay26 (View.ld (iblk m c 10 t) (Rect.unit ![4, 0] ![1, 1024] inb_S6x1024_S1x1024_4_0))) (iblk m c 6 t))
    (k0_pay33 (iblk m c 7 t)) (k0_pay34 (iblk m c 7 t)) (iblk m c 9 t) (View.ld (iblk m c 10 t) (Rect.unit ![2, 0] ![1, 1024] inb_S6x1024_S1x1024_2_0)) (ix2 r q) = (args m c).dy (row t r) q := by
  rw [dx1_raw, dy_eq]

set_option maxHeartbeats 1600000 in
theorem final13 : (dats m 0 c).arrAt 13 cfg0.N = dyArr m c := by
  refine (dats m 0 c).arrAt_eq_of_covers 13 _ (by decide +kernel) fun t hf y => ?_
  obtain ⟨b, j, rfl⟩ : ∃ (b : Fin 256) (j : Fin 1024), y = ix2 b j := ⟨y 0, y 1, ValueIdx.eq_ix2 y⟩
  have e : dyArr m c ((win0_13.rect t).emb (ix2 b j)) = (args m c).dy (row t b) j := by
    refine congrArg₂ (args m c).dy (Fin.ext ?_) (Fin.ext ?_) <;> blk_simp [idx t] <;>
      first | rfl | exact Nat.zero_add _
  refine Eq.trans ?_ e.symm
  blk_simp
  rw [after0_13]
  clear e
  by_cases h : t.val % 16 = 0
  · rw [outsAt0_A m c t h]
    frame_out
    exact dy_raw m c t b j
  · rw [outsAt0_B m c t h]
    frame_out
    exact dy_raw m c t b j

/-- Point `s` of the run of sixteen that point `t` ends. -/
abbrev pt (t : Fin cfg0.N) (s : Fin 16) : Fin cfg0.N :=
  ⟨16 * (t.val / 16) + s.val, by have h : t.val < 16 := t.isLt; show _ < 16; omega⟩

/-- A sum over the sixteen blocks of tokens, block by block, is the sum over the tokens. -/
theorem sum_rows (t : Fin cfg0.N) (f : Fin 4096 → EReal) :
    ∑ s : Fin 16, ∑ r : Fin 256, f (row (pt t s) r) = ∑ r : Fin 4096, f r := by
  refine Fin.sum_mul_add_congr fun s r hl => congrArg f (Fin.ext ?_)
  have h : t.val < 16 := t.isLt
  show (16 * (t.val / 16) + s.val) * 256 + r.val = s.val * 256 + r.val
  omega

/-- The gradient of the shift, as an array. -/
def dshArr : FVec Ideal S1x1024 .f32 := fun i => (args m c).dsh (i 1)

theorem final14 : (dats m 0 c).arrAt 14 cfg0.N = dshArr m c := by
  refine (dats m 0 c).arrAt_eq_of_covers 14 _ (by decide +kernel) fun t hf y => ?_
  obtain ⟨b, j, rfl⟩ : ∃ (b : Fin 1) (j : Fin 1024), y = ix2 b j := ⟨y 0, y 1, ValueIdx.eq_ix2 y⟩
  have e : dshArr m c ((win0_14.rect t).emb (ix2 b j)) = (args m c).dsh j := by
    refine congrArg (args m c).dsh (Fin.ext ?_) <;> blk_simp [idx t] <;> first | rfl | exact Nat.zero_add _
  refine Eq.trans ?_ e.symm
  blk_simp
  rw [after0_14, Pipeline.eq_sum_fin_of_reset_step_apply_of_flush (fun n h => (outsAt0 m c n h).2.2.1) 16 (fun _ => 0)
    (part14 m c) (first14 m c) (next14 m c) t ((flush0_14 t).mp hf) _, zero_add]
  exact sum_rows t (fun r => (args m c).dh r j)

/-- The gradient of the scale, as an array. -/
def dscArr : FVec Ideal S1x1024 .f32 := fun i => (args m c).dsc (i 1)

theorem final15 : (dats m 0 c).arrAt 15 cfg0.N = dscArr m c := by
  refine (dats m 0 c).arrAt_eq_of_covers 15 _ (by decide +kernel) fun t hf y => ?_
  obtain ⟨b, j, rfl⟩ : ∃ (b : Fin 1) (j : Fin 1024), y = ix2 b j := ⟨y 0, y 1, ValueIdx.eq_ix2 y⟩
  have e : dscArr m c ((win0_15.rect t).emb (ix2 b j)) = (args m c).dsc j := by
    refine congrArg (args m c).dsc (Fin.ext ?_) <;> blk_simp [idx t] <;> first | rfl | exact Nat.zero_add _
  refine Eq.trans ?_ e.symm
  blk_simp
  rw [after0_15, Pipeline.eq_sum_fin_of_reset_step_apply_of_flush (fun n h => (outsAt0 m c n h).2.2.2.1) 16 (fun _ => 0)
    (part15 m c) (first15 m c) (next15 m c) t ((flush0_15 t).mp hf) _, zero_add]
  exact sum_rows t (fun r => (args m c).dh r j * ((args m c).n2 r j * (args m c).GR j))

/-- The gradient of the gain of the stream's norm, as an array. -/
def dgrArr : FVec Ideal S1x1024 .f32 := fun i => (args m c).dgr (i 1)

theorem final16 : (dats m 0 c).arrAt 16 cfg0.N = dgrArr m c := by
  refine (dats m 0 c).arrAt_eq_of_covers 16 _ (by decide +kernel) fun t hf y => ?_
  obtain ⟨b, j, rfl⟩ : ∃ (b : Fin 1) (j : Fin 1024), y = ix2 b j := ⟨y 0, y 1, ValueIdx.eq_ix2 y⟩
  have e : dgrArr m c ((win0_16.rect t).emb (ix2 b j)) = (args m c).dgr j := by
    refine congrArg (args m c).dgr (Fin.ext ?_) <;> blk_simp [idx t] <;> first | rfl | exact Nat.zero_add _
  refine Eq.trans ?_ e.symm
  blk_simp
  rw [after0_16, Pipeline.eq_sum_fin_of_reset_step_apply_of_flush (fun n h => (outsAt0 m c n h).2.2.2.2.1) 16 (fun _ => 0)
    (part16 m c) (first16 m c) (next16 m c) t ((flush0_16 t).mp hf) _, zero_add]
  exact sum_rows t (fun r => (args m c).dh r j * (args m c).osc j * (args m c).n2 r j)

/-- The gradient of the gate, as an array. -/
def dgtArr : FVec Ideal S1x1024 .f32 := fun i => (args m c).dgt (i 1)

theorem final17 : (dats m 0 c).arrAt 17 cfg0.N = dgtArr m c := by
  refine (dats m 0 c).arrAt_eq_of_covers 17 _ (by decide +kernel) fun t hf y => ?_
  obtain ⟨b, j, rfl⟩ : ∃ (b : Fin 1) (j : Fin 1024), y = ix2 b j := ⟨y 0, y 1, ValueIdx.eq_ix2 y⟩
  have e : dgtArr m c ((win0_17.rect t).emb (ix2 b j)) = (args m c).dgt j := by
    refine congrArg (args m c).dgt (Fin.ext ?_) <;> blk_simp [idx t] <;> first | rfl | exact Nat.zero_add _
  refine Eq.trans ?_ e.symm
  blk_simp
  rw [after0_17, Pipeline.eq_sum_fin_of_reset_step_apply_of_flush (fun n h => (outsAt0 m c n h).2.2.2.2.2.1) 16 (fun _ => 0)
    (part17 m c) (first17 m c) (next17 m c) t ((flush0_17 t).mp hf) _, zero_add]
  exact sum_rows t (fun r => (args m c).dx1 r j * ((args m c).yn r j * (args m c).GP j))

/-- The gradient of the gain of the mixer output's norm, as an array. -/
def dgpArr : FVec Ideal S1x1024 .f32 := fun i => (args m c).dgp (i 1)

theorem final18 : (dats m 0 c).arrAt 18 cfg0.N = dgpArr m c := by
  refine (dats m 0 c).arrAt_eq_of_covers 18 _ (by decide +kernel) fun t hf y => ?_
  obtain ⟨b, j, rfl⟩ : ∃ (b : Fin 1) (j : Fin 1024), y = ix2 b j := ⟨y 0, y 1, ValueIdx.eq_ix2 y⟩
  have e : dgpArr m c ((win0_18.rect t).emb (ix2 b j)) = (args m c).dgp j := by
    refine congrArg (args m c).dgp (Fin.ext ?_) <;> blk_simp [idx t] <;> first | rfl | exact Nat.zero_add _
  refine Eq.trans ?_ e.symm
  blk_simp
  rw [after0_18, Pipeline.eq_sum_fin_of_reset_step_apply_of_flush (fun n h => (outsAt0 m c n h).2.2.2.2.2.2.1) 16 (fun _ => 0)
    (part18 m c) (first18 m c) (next18 m c) t ((flush0_18 t).mp hf) _, zero_add]
  exact sum_rows t (fun r => (args m c).dx1 r j * (args m c).M 2 j * (args m c).yn r j)

/-- The gradient of the up projection: the gate's blocks added up, the value's as they came. -/
def dwuArr : FVec Ideal S4x1024x1408 .f32 := fun i =>
  if p : (i 0).val < 2 then
    (args m c).dwu (i 1) ⟨(i 0).val * 1408 + (i 2).val, by have h2 : (i 2).val < 1408 := (i 2).isLt; omega⟩
  else m ((c : Thread nD τ).loc main_arg10) i

theorem final19 : (dats m 0 c).arrAt 19 cfg0.N = dwuArr m c := by
  funext i
  refine ((dats m 0 c).arrAt_apply_of_coversWhere 19 (dwuArr m c) (P := fun i : S4x1024x1408.Idx => (i 0).val < 2)
    (fun β => β (0 : Fin 3) < 1) (by decide +kernel) (fun t hf y => ?_)
    (fun j => ?_) i).trans ?_
  · obtain ⟨b, j, k, rfl⟩ : ∃ (b : Fin 2) (j : Fin 1024) (k : Fin 1408), y = ix3 b j k :=
      ⟨y 0, y 1, y 2, ValueIdx.eq_ix3 y⟩
    have e : dwuArr m c ((win0_19.rect t).emb (ix3 b j k)) = (args m c).dwu j ⟨b.val * 1408 + k.val, by omega⟩ := by
      have h0 : (((win0_19.rect t).emb (ix3 b j k)) 0).val = b.val := by
        blk_simp [idx t]; first | rfl | exact Nat.zero_add _
      have h2 : (((win0_19.rect t).emb (ix3 b j k)) 2).val = k.val := by
        blk_simp [idx t]; first | rfl | exact Nat.zero_add _
      refine (dif_pos (show (((win0_19.rect t).emb (ix3 b j k)) 0).val < 2 by omega)).trans ?_
      refine congrArg₂ (args m c).dwu (Fin.ext ?_) (Fin.ext ?_)
      · blk_simp [idx t]; first | rfl | exact Nat.zero_add _
      · show (((win0_19.rect t).emb (ix3 b j k)) 0).val * 1408 + (((win0_19.rect t).emb (ix3 b j k)) 2).val = _
        rw [h0, h2]
    refine Eq.trans ?_ e.symm
    blk_simp
    rw [after0_19, Pipeline.eq_sum_fin_of_reset_step_apply_of_flush (fun n h => (outsAt0 m c n h).2.2.2.2.2.2.2) 16 (fun _ => 0)
      (part19 m c) (first19 m c) (next19 m c) t ((flush0_19 t).mp hf) _, zero_add]
    exact sum_rows t (fun r => (args m c).h r j * (args m c).dgate r ⟨b.val * 1408 + k.val, by omega⟩)
  · blk_simp [Pipeline.Window.cell_apply]
    constructor <;> intro h <;> omega
  · by_cases p : (i 0).val < 2
    · exact if_pos p
    · refine (if_neg p).trans ?_
      refine Eq.trans ?_ (dif_neg p).symm
      show V m c main_v43_7 i = _
      entry_read
      rfl

end Cert.KerSpec2

end
-- ==== Proof.Up2Pre.lean ====
/-
  The precondition of the up projection's gradients, read back: its tests say that the operands, and the modulation rows read, are
  real.
-/
module

public import proofs.«01_k».proof.Defs
public import proofs.«01_k».proof.Proof.Pre
public import proofs.«01_k».proof.Proof.Up2Ref
public import proofs.«01_k».proof.Proof.Gen.Pre_finite2
public import Idealize.ShloMosaic.Lib.ReduceAll

@[expose] public section

noncomputable section

namespace Cert.Pre2

open Idealize.ShloMosaic Idealize.ShloMosaic.TcCoe Idealize.SL.Sem
open Cert.Pre (real_of_lt)

instance : Subsingleton Pre_finite2.S_.Idx := ⟨fun a b => funext fun k => k.elim0⟩

variable (x0 x1 : FVec Ideal Pre_finite2.S4096x1024 .f32) (x2 : FVec Ideal Pre_finite2.S6x1024 .f32)
  (x3 x4 : FVec Ideal Pre_finite2.S1x1024 .f32) (x5 : FVec Ideal Pre_finite2.S1024x5632 .f32)
  (x6 : FVec Ideal Pre_finite2.S3x2816 .f32) (x7 x8 : FVec Ideal Pre_finite2.S4096x2816 .f32)
  (x9 : FVec Ideal Pre_finite2.S4096x1024 .f32) (x10 : FVec Ideal Pre_finite2.S4x1024x1408 .f32)

/-- Row 2 of the modulation, read from its slice. -/
theorem row2 (x : FVec Ideal Pre_finite2.S6x1024 .f32) (q : Fin 1024) : extractStridedSlice Pre_finite2.S1x1024 ![2, 0] x
    Pre_finite2.Facts.slices_S6x1024_S1x1024_2_0 (ix2 0 q) = x (ix2 2 q) := by
  pointwise

/-- Row 4 of the modulation, read from its slice. -/
theorem row4 (x : FVec Ideal Pre_finite2.S6x1024 .f32) (q : Fin 1024) : extractStridedSlice Pre_finite2.S1x1024 ![4, 0] x
    Pre_finite2.Facts.slices_S6x1024_S1x1024_4_0 (ix2 0 q) = x (ix2 4 q) := by
  pointwise

/-- The precondition says that the operands are real. -/
theorem finite_of (h : Pre_finite2.fn (F := Ideal) x0 x1 x2 x3 x4 x5 x6 x7 x8 x9 x10 = fun _ => 1#1) :
    (RefSpec2.args x0 x1 x2 x3 x4 x5 x6 x7 x8 x9).Finite := by
  have h := congrFun h (Shape.Idx.first Pre_finite2.Gen.h_S_)
  dsimp only [Pre_finite2.fn, Pre_finite2.fn_part1, Pre_finite2.fn_part2] at h
  obtain ⟨h, h9⟩ := IntOp.andi_eq_one.mp h
  obtain ⟨h, h8⟩ := IntOp.andi_eq_one.mp h
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, hm⟩ := IntOp.andi_eq_one.mp h
  obtain ⟨h, h2⟩ := IntOp.andi_eq_one.mp h
  obtain ⟨h0, h1⟩ := IntOp.andi_eq_one.mp h
  exact ⟨fun r q => real_of_lt (Host.reduce_andi_all _ _ _ _ _ h0 (ix2 r q)),
    fun r q => real_of_lt (Host.reduce_andi_all _ _ _ _ _ h1 (ix2 r q)),
    fun q => (real_of_lt (Host.reduce_andi_all _ _ _ _ _ h2 (ix2 0 q))).imp fun _ e => (row2 x2 q).symm.trans e,
    fun q => (real_of_lt (Host.reduce_andi_all _ _ _ _ _ hm (ix2 0 q))).imp fun _ e => (row4 x2 q).symm.trans e,
    fun q => real_of_lt (Host.reduce_andi_all _ _ _ _ _ h3 (ix2 0 q)),
    fun q => real_of_lt (Host.reduce_andi_all _ _ _ _ _ h4 (ix2 0 q)),
    fun q j => real_of_lt (Host.reduce_andi_all _ _ _ _ _ h5 (ix2 q j)),
    fun k j => real_of_lt (Host.reduce_andi_all _ _ _ _ _ h6 (ix2 k j)),
    fun r j => real_of_lt (Host.reduce_andi_all _ _ _ _ _ h7 (ix2 r j)),
    fun r j => real_of_lt (Host.reduce_andi_all _ _ _ _ _ h8 (ix2 r j)),
    fun r q => real_of_lt (Host.reduce_andi_all _ _ _ _ _ h9 (ix2 r q))⟩

end Cert.Pre2

end
-- ==== Proof.Up2.lean ====
/-
  The claims about the gradient of the up projection, of the two norms and of the gate row (`up_bwd`): the two runs, and
  their results set side by side through the layer's mathematics (Up2Spec.lean).
-/
module

public import proofs.«01_k».proof.Defs
public import proofs.«01_k».proof.Proof.Up2Final
public import proofs.«01_k».proof.Proof.Up2Pre
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read

@[expose] public section

set_option maxRecDepth 16384

noncomputable section

namespace Cert.Up2

open Idealize.ShloMosaic Idealize.ShloMosaic.TcCoe Idealize.SL.Sem
open Cert.KerSpec2

/-- No constant is named here. -/
theorem preserves : Cert.preserves_Kernel2_Kernel2Ideal := trivial

theorem frame_ref : Cert.quiescent_Reference2Ideal := fun m ρ _ =>
  (θ_run Cert.Reference2Ideal.defs _ _).mono (fun r h =>
    ⟨fun c => (h c).2.2.2.2.2.2.2.2, Idealize.ShloMosaic.sem_eq_zero_of_no_sems (by decide) r.2⟩)
    (Cert.Reference2Ideal.Value.run (F := Ideal) m ρ)

theorem frames : Cert.quiescent_Kernel2 ∧ Cert.quiescent_Kernel2Ideal ∧ Cert.quiescent_Kernel2Ideal_pre_finite2
    ∧ Cert.quiescent_Reference2Ideal ∧ Cert.quiescent_Reference2Ideal_pre_finite2 :=
  ⟨fun m ρ _ => Cert.Kernel2.Gen.frame m ρ, fun m ρ _ => Cert.Kernel2Ideal.Gen.frame m ρ,
    fun m ρ _ => Cert.Kernel2Ideal.Gen.frame m ρ, frame_ref, fun m ρ _ => frame_ref m ρ trivial⟩

section Results

variable (m : (ℓ : Loc Cert.Kernel2Ideal.nD Cert.Kernel2Ideal.τ Cert.Kernel2Ideal.sig) → Buf (Elt Ideal) ℓ)
  (c : Dev Cert.Kernel2Ideal.nD)

/-- The eleven arguments. -/
abbrev a0 := m ((c.tc : Thread Cert.Kernel2Ideal.nD Cert.Kernel2Ideal.τ).loc Cert.Kernel2Ideal.main_arg0)
abbrev a1 := m ((c.tc : Thread Cert.Kernel2Ideal.nD Cert.Kernel2Ideal.τ).loc Cert.Kernel2Ideal.main_arg1)
abbrev a2 := m ((c.tc : Thread Cert.Kernel2Ideal.nD Cert.Kernel2Ideal.τ).loc Cert.Kernel2Ideal.main_arg2)
abbrev a3 := m ((c.tc : Thread Cert.Kernel2Ideal.nD Cert.Kernel2Ideal.τ).loc Cert.Kernel2Ideal.main_arg3)
abbrev a4 := m ((c.tc : Thread Cert.Kernel2Ideal.nD Cert.Kernel2Ideal.τ).loc Cert.Kernel2Ideal.main_arg4)
abbrev a5 := m ((c.tc : Thread Cert.Kernel2Ideal.nD Cert.Kernel2Ideal.τ).loc Cert.Kernel2Ideal.main_arg5)
abbrev a6 := m ((c.tc : Thread Cert.Kernel2Ideal.nD Cert.Kernel2Ideal.τ).loc Cert.Kernel2Ideal.main_arg6)
abbrev a7 := m ((c.tc : Thread Cert.Kernel2Ideal.nD Cert.Kernel2Ideal.τ).loc Cert.Kernel2Ideal.main_arg7)
abbrev a8 := m ((c.tc : Thread Cert.Kernel2Ideal.nD Cert.Kernel2Ideal.τ).loc Cert.Kernel2Ideal.main_arg8)
abbrev a9 := m ((c.tc : Thread Cert.Kernel2Ideal.nD Cert.Kernel2Ideal.τ).loc Cert.Kernel2Ideal.main_arg9)
abbrev a10 := m ((c.tc : Thread Cert.Kernel2Ideal.nD Cert.Kernel2Ideal.τ).loc Cert.Kernel2Ideal.main_arg10)

open Cert.Reference2Ideal.Read

theorem ref_dx (h : (args m c).Finite) : val_main_v115 (F := Ideal) (a0 m c) (a1 m c) (a2 m c) (a3 m c) (a4 m c) (a5 m c) (a6 m c) (a7 m c) (a8 m c) (a9 m c) = dx1Arr m c := by
  funext i
  obtain ⟨r, j, rfl⟩ : ∃ (r : Fin 4096) (j : Fin 1024), i = ix2 r j := ⟨i 0, i 1, ValueIdx.eq_ix2 i⟩
  refine Eq.trans ?_ (RefSpec2.dx1_at (a0 m c) (a1 m c) (a2 m c) (a3 m c) (a4 m c) (a5 m c) (a6 m c) (a7 m c) (a8 m c) (a9 m c) h r j)
  pointwise [val_main_v116]

theorem ref_dy (h : (args m c).Finite) : val_main_v143 (F := Ideal) (a0 m c) (a1 m c) (a2 m c) (a3 m c) (a4 m c) (a5 m c) (a6 m c) (a7 m c) (a8 m c) (a9 m c) = dyArr m c := by
  funext i
  obtain ⟨r, j, rfl⟩ : ∃ (r : Fin 4096) (j : Fin 1024), i = ix2 r j := ⟨i 0, i 1, ValueIdx.eq_ix2 i⟩
  exact RefSpec2.dy_at (a0 m c) (a1 m c) (a2 m c) (a3 m c) (a4 m c) (a5 m c) (a6 m c) (a7 m c) (a8 m c) (a9 m c) h r j

theorem ref_dsh : val_main_v90 (F := Ideal) (a5 m c) (a6 m c) (a7 m c) (a8 m c) = dshArr m c := by
  funext i
  obtain ⟨r, j, rfl⟩ : ∃ (r : Fin 1) (j : Fin 1024), i = ix2 r j := ⟨i 0, i 1, ValueIdx.eq_ix2 i⟩
  obtain rfl : r = 0 := Subsingleton.elim _ _
  exact RefSpec2.dsh_at (a0 m c) (a1 m c) (a2 m c) (a3 m c) (a4 m c) (a5 m c) (a6 m c) (a7 m c) (a8 m c) (a9 m c) j

theorem ref_dsc : val_main_v93 (F := Ideal) (a0 m c) (a1 m c) (a2 m c) (a3 m c) (a4 m c) (a5 m c) (a6 m c) (a7 m c) (a8 m c) = dscArr m c := by
  funext i
  obtain ⟨r, j, rfl⟩ : ∃ (r : Fin 1) (j : Fin 1024), i = ix2 r j := ⟨i 0, i 1, ValueIdx.eq_ix2 i⟩
  obtain rfl : r = 0 := Subsingleton.elim _ _
  exact RefSpec2.dsc_at (a0 m c) (a1 m c) (a2 m c) (a3 m c) (a4 m c) (a5 m c) (a6 m c) (a7 m c) (a8 m c) (a9 m c) j

theorem ref_dgr : val_main_v98 (F := Ideal) (a0 m c) (a1 m c) (a2 m c) (a3 m c) (a5 m c) (a6 m c) (a7 m c) (a8 m c) = dgrArr m c := by
  funext i
  obtain ⟨r, j, rfl⟩ : ∃ (r : Fin 1) (j : Fin 1024), i = ix2 r j := ⟨i 0, i 1, ValueIdx.eq_ix2 i⟩
  obtain rfl : r = 0 := Subsingleton.elim _ _
  exact RefSpec2.dgr_at (a0 m c) (a1 m c) (a2 m c) (a3 m c) (a4 m c) (a5 m c) (a6 m c) (a7 m c) (a8 m c) (a9 m c) j

theorem ref_dgt (h : (args m c).Finite) : val_main_v121 (F := Ideal) (a0 m c) (a1 m c) (a2 m c) (a3 m c) (a4 m c) (a5 m c) (a6 m c) (a7 m c) (a8 m c) (a9 m c) = dgtArr m c := by
  funext i
  obtain ⟨r, j, rfl⟩ : ∃ (r : Fin 1) (j : Fin 1024), i = ix2 r j := ⟨i 0, i 1, ValueIdx.eq_ix2 i⟩
  obtain rfl : r = 0 := Subsingleton.elim _ _
  exact RefSpec2.dgt_at (a0 m c) (a1 m c) (a2 m c) (a3 m c) (a4 m c) (a5 m c) (a6 m c) (a7 m c) (a8 m c) (a9 m c) h j

theorem ref_dgp (h : (args m c).Finite) : val_main_v124 (F := Ideal) (a0 m c) (a1 m c) (a2 m c) (a3 m c) (a4 m c) (a5 m c) (a6 m c) (a7 m c) (a8 m c) (a9 m c) = dgpArr m c := by
  funext i
  obtain ⟨r, j, rfl⟩ : ∃ (r : Fin 1) (j : Fin 1024), i = ix2 r j := ⟨i 0, i 1, ValueIdx.eq_ix2 i⟩
  obtain rfl : r = 0 := Subsingleton.elim _ _
  exact RefSpec2.dgp_at (a0 m c) (a1 m c) (a2 m c) (a3 m c) (a4 m c) (a5 m c) (a6 m c) (a7 m c) (a8 m c) (a9 m c) h j

theorem ref_dwu : val_main_v146 (F := Ideal) (a0 m c) (a1 m c) (a2 m c) (a3 m c) (a4 m c) (a6 m c) (a7 m c) (a8 m c) (a10 m c) = dwuArr m c := by
  funext i
  obtain ⟨b, q, k, rfl⟩ : ∃ (b : Fin 4) (q : Fin 1024) (k : Fin 1408), i = ix3 b q k :=
    ⟨i 0, i 1, i 2, ValueIdx.eq_ix3 i⟩
  exact RefSpec2.dwu_at (a0 m c) (a1 m c) (a2 m c) (a3 m c) (a4 m c) (a5 m c) (a6 m c) (a7 m c) (a8 m c) (a9 m c) (a10 m c) b q k

end Results

open Cert.Reference2Ideal.Read in
/-- The kernel's eight results are the reference's. -/
theorem algebraic : Cert.algebraic_Kernel2Ideal_Reference2Ideal_pre_finite2 := by
  intro m g m' g' hpre hagree
  have hfin : ∀ c, (args m c).Finite := fun c => Pre2.finite_of _ _ _ _ _ _ _ _ _ _ _ (hpre c)
  refine ⟨fun c => dx1Arr m c, fun c => dyArr m c, fun c => dshArr m c, fun c => dscArr m c, fun c => dgrArr m c,
    fun c => dgtArr m c, fun c => dgpArr m c, fun c => dwuArr m c, ?_, ?_⟩
  · refine (θ_run Cert.Kernel2Ideal.defs _ _).mono (fun r h c => ?_) (Cert.Kernel2Ideal.Value.run_blocks (F := Ideal) m g)
    obtain ⟨h12, h13, h14, h15, h16, h17, h18, h19, hk⟩ := h c
    exact ⟨h12.trans (final12 m c), h13.trans (final13 m c), h14.trans (final14 m c), h15.trans (final15 m c),
      h16.trans (final16 m c), h17.trans (final17 m c), h18.trans (final18 m c), h19.trans (final19 m c), hk⟩
  · refine (θ_run Cert.Reference2Ideal.defs _ _).mono (fun r h c => ?_) (Cert.Reference2Ideal.Value.run (F := Ideal) m' g')
    obtain ⟨e0, e1, e2, e3, e4, e5, e6, e7, e8, e9, e10⟩ := hagree c
    obtain ⟨h0, h1, h2, h3, h4, h5, h6, h7, hk⟩ := h c
    have h0 := h0.trans (val_main_v115_eq _ _)
    have h1 := h1.trans (val_main_v143_eq _ _)
    have h2 := h2.trans (val_main_v90_eq _ _ _ _)
    have h3 := h3.trans (val_main_v93_eq _ _)
    have h4 := h4.trans (val_main_v98_eq _ _)
    have h5 := h5.trans (val_main_v121_eq _ _)
    have h6 := h6.trans (val_main_v124_eq _ _)
    have h7 := h7.trans (val_main_v146_eq _ _)
    rw [e0, e1, e2, e3, e4, e5, e6, e7, e8, e9] at h0 h1 h5 h6
    rw [e0, e1, e2, e3, e4, e5, e6, e7, e8] at h3
    rw [e0, e1, e2, e3, e5, e6, e7, e8] at h4
    rw [e0, e1, e2, e3, e4, e6, e7, e8, e10] at h7
    rw [e5, e6, e7, e8] at h2
    exact ⟨h0.trans (ref_dx m c (hfin c)), h1.trans (ref_dy m c (hfin c)), h2.trans (ref_dsh m c), h3.trans (ref_dsc m c),
      h4.trans (ref_dgr m c), h5.trans (ref_dgt m c (hfin c)), h6.trans (ref_dgp m c (hfin c)), h7.trans (ref_dwu m c), hk⟩

end Cert.Up2

end
-- ==== Proof.Fwd3Spec.lean ====
/-
  The mathematics of the gated layer's forward pass, of the loss and of its derivative down to the layer's output, element
  by element, on the extended reals.
-/
module

public import proofs.«01_k».proof.Proof.Up2Spec

@[expose] public section

noncomputable section

namespace Cert.Spec3

open Idealize.ShloMosaic
open Cert.Spec2 (width real_add real_mul coe_sum div_width)

/-- One over the width of a row, as the single-precision constant of the kernel. -/
def inv : EReal := Ideal.ofBits .f32 0x3A800000#32

theorem inv_eq : inv = ((1 / 1024 : ℝ) : EReal) := by
  simp [inv, Ideal.ofBits, Ideal.ieee, -EReal.coe_mul]; norm_num

theorem f32_two : Ideal.ofBits .f32 0x40000000#32 = ((2 : ℝ) : EReal) := by
  simp [Ideal.ofBits, Ideal.ieee, -EReal.coe_mul]; norm_num

/-- The operands: the layer's hidden state, the up projection, the taps and the bias of the convolution, the down projection,
    the stream before the layer, the target, the gain of the output's norm and the six modulation rows. -/
structure Args where
  /-- the hidden state -/
  H : Fin 4096 → Fin 1024 → EReal
  /-- the up projection -/
  WU : Fin 1024 → Fin 5632 → EReal
  /-- the taps -/
  CW : Fin 3 → Fin 2816 → EReal
  /-- the bias -/
  CB : Fin 2816 → EReal
  /-- the down projection -/
  WD : Fin 2816 → Fin 1024 → EReal
  /-- the stream before the layer -/
  X : Fin 4096 → Fin 1024 → EReal
  /-- the target -/
  T : Fin 4096 → Fin 1024 → EReal
  /-- the gain -/
  G : Fin 1024 → EReal
  /-- the modulation rows -/
  M : Fin 6 → Fin 1024 → EReal

namespace Args

variable (A : Args)

/-- The layer's own operands. -/
def base : Spec.Args := { H := A.H, WU := A.WU, CW := A.CW, CB := A.CB, WD := A.WD, CT := fun _ _ => 0 }

/-- The layer's output. -/
def y (r : Fin 4096) (q : Fin 1024) : EReal := ∑ j, A.base.act r j * A.WD j q

/-- The output normed, before its gain. -/
def yn (r : Fin 4096) (q : Fin 1024) : EReal := Spec2.unit (A.y r) q

/-- The output normed. -/
def r2 (r : Fin 4096) (q : Fin 1024) : EReal := A.yn r q * A.G q

/-- The stream after the layer, less the target. -/
def diff (r : Fin 4096) (q : Fin 1024) : EReal := A.X r q + A.M 5 q * A.r2 r q - A.T r q

/-- The loss. -/
def loss : EReal := Spec.half * ∑ r, Ideal.div (∑ q, A.diff r q * A.diff r q) width

/-- The cotangent of the stream. -/
def dout (r : Fin 4096) (q : Fin 1024) : EReal := A.diff r q * inv

/-- The gradient of the gate row. -/
def dgt (q : Fin 1024) : EReal := ∑ r, A.dout r q * A.r2 r q

/-- The gradient of the gain. -/
def dg (q : Fin 1024) : EReal := ∑ r, A.dout r q * A.M 5 q * A.yn r q

/-- The cotangent of the normed output. -/
def dyn (r : Fin 4096) (q : Fin 1024) : EReal := A.dout r q * A.M 5 q * A.G q

/-- The cotangent of the layer's output. -/
def dy (r : Fin 4096) (q : Fin 1024) : EReal := Spec2.back (A.y r) (A.dyn r) q

/-- The operands, and of the modulation the gate row, are real. -/
def Finite : Prop :=
  (∀ r q, ∃ x : ℝ, A.H r q = x) ∧ (∀ q j, ∃ x : ℝ, A.WU q j = x) ∧ (∀ k j, ∃ x : ℝ, A.CW k j = x)
    ∧ (∀ j, ∃ x : ℝ, A.CB j = x) ∧ (∀ j q, ∃ x : ℝ, A.WD j q = x) ∧ (∀ r q, ∃ x : ℝ, A.X r q = x)
    ∧ (∀ r q, ∃ x : ℝ, A.T r q = x) ∧ (∀ q, ∃ x : ℝ, A.G q = x) ∧ (∀ q, ∃ x : ℝ, A.M 5 q = x)

variable {A}

theorem gate_real (h : A.Finite) (r : Fin 4096) (j : Fin 2816) : ∃ x : ℝ, A.base.gate r j = x :=
  Spec.Args.sum_real (A.H r) (fun q => A.WU q ⟨j.val, by omega⟩) (h.1 r) (fun q => h.2.1 q _)

theorem value_real (h : A.Finite) (r : Fin 4096) (j : Fin 2816) : ∃ x : ℝ, A.base.value r j = x :=
  Spec.Args.sum_real (A.H r) (fun q => A.WU q ⟨2816 + j.val, by omega⟩) (h.1 r) (fun q => h.2.1 q _)

theorem back_real (h : A.Finite) (s : ℕ) (r : Fin 4096) (j : Fin 2816) : ∃ x : ℝ, A.base.back s r j = x := by
  unfold Spec.Args.back
  by_cases p : s ≤ r.val
  · rw [if_pos p]; exact gate_real h _ j
  · rw [if_neg p]; exact ⟨0, EReal.coe_zero.symm⟩

theorem z_real (h : A.Finite) (r : Fin 4096) (j : Fin 2816) : ∃ x : ℝ, A.base.z r j = x :=
  real_add (real_add (real_add (real_mul (back_real h 2 r j) (h.2.2.1 0 j)) (real_mul (back_real h 1 r j) (h.2.2.1 1 j)))
    (real_mul (gate_real h r j) (h.2.2.1 2 j))) (h.2.2.2.1 j)

theorem gel_real (z : EReal) (hz : ∃ x : ℝ, z = x) : ∃ x : ℝ, Spec.gel z = x :=
  real_mul hz (real_add (real_mul ⟨1 / 2, rfl⟩ (Spec.th_real z)) ⟨1 / 2, rfl⟩)

theorem y_real (h : A.Finite) (r : Fin 4096) (q : Fin 1024) : ∃ x : ℝ, A.y r q = x :=
  Spec.Args.sum_real (A.base.act r) (fun j => A.WD j q) (fun j => real_mul (gel_real _ (z_real h r j)) (value_real h r j))
    (fun j => h.2.2.2.2.1 j q)

theorem yn_real (h : A.Finite) (r : Fin 4096) (q : Fin 1024) : ∃ x : ℝ, A.yn r q = x :=
  Spec2.unit_real (A.y r) (y_real h r) q

theorem real_sub {x y : EReal} (hx : ∃ a : ℝ, x = a) (hy : ∃ a : ℝ, y = a) : ∃ a : ℝ, x - y = a := by
  obtain ⟨a, rfl⟩ := hx; obtain ⟨b, rfl⟩ := hy; exact ⟨a - b, (EReal.coe_sub a b).symm⟩

theorem diff_real (h : A.Finite) (r : Fin 4096) (q : Fin 1024) : ∃ x : ℝ, A.diff r q = x :=
  real_sub (real_add (h.2.2.2.2.2.1 r q) (real_mul (h.2.2.2.2.2.2.2.2 q)
    (real_mul (yn_real h r q) (h.2.2.2.2.2.2.2.1 q)))) (h.2.2.2.2.2.2.1 r q)

theorem dyn_real (h : A.Finite) (r : Fin 4096) (q : Fin 1024) : ∃ x : ℝ, A.dyn r q = x :=
  real_mul (real_mul (real_mul (diff_real h r q) ⟨1 / 1024, inv_eq⟩) (h.2.2.2.2.2.2.2.2 q)) (h.2.2.2.2.2.2.2.1 q)

/-- The reference's cotangent of the stream is the kernel's. -/
theorem dout_eq (h : A.Finite) (r : Fin 4096) (q : Fin 1024) :
    Ideal.div (Spec.half * 1) width * (((2 : ℝ) : EReal) * A.diff r q) = A.dout r q := by
  obtain ⟨d, hd⟩ := diff_real h r q
  rw [dout, hd, inv_eq, Spec.half, mul_one, div_width]
  norm_cast
  ring

/-- The reference's cotangent of the layer's output is the kernel's. -/
theorem dy_eq (h : A.Finite) (r : Fin 4096) (q : Fin 1024) :
    A.dyn r q * Spec2.rstd (A.y r) + A.y r q * Spec2.coef (A.y r) (A.dyn r) + Spec2.coef (A.y r) (A.dyn r) * A.y r q
      = A.dy r q :=
  (Spec2.back_eq (A.y r) (A.dyn r) (y_real h r) (dyn_real h r) q).1

/-- What a block of tokens adds to the loss, in the kernel's grouping: half the sum of its squares, over the width. -/
theorem part_eq (h : A.Finite) {n : ℕ} (f : Fin n → Fin 4096) :
    Spec.half * (∑ r, ∑ q, A.diff (f r) q * A.diff (f r) q) * inv
      = ∑ r, Spec.half * Ideal.div (∑ q, A.diff (f r) q * A.diff (f r) q) width := by
  choose d hd using fun r => diff_real h r
  simp only [hd, ← EReal.coe_mul, coe_sum, div_width, Spec.half, inv_eq]
  congr 1
  rw [Finset.mul_sum, Finset.sum_mul]
  exact Finset.sum_congr rfl fun r _ => by ring

/-- The loss is the sum of what the tokens add to it. -/
theorem loss_eq (h : A.Finite) :
    ∑ r, Spec.half * Ideal.div (∑ q, A.diff r q * A.diff r q) width = A.loss := by
  choose d hd using fun r => diff_real h r
  unfold loss
  simp only [hd, ← EReal.coe_mul, coe_sum, div_width, Spec.half]
  congr 1
  rw [Finset.mul_sum]

/-- The layer's output, over the two halves of the columns. -/
theorem y_halves (r : Fin 4096) (q : Fin 1024) :
    (∑ k : Fin 1408, A.base.act r ⟨k.val, by omega⟩ * A.WD ⟨k.val, by omega⟩ q)
      + ∑ k : Fin 1408, A.base.act r ⟨1408 + k.val, by omega⟩ * A.WD ⟨1408 + k.val, by omega⟩ q = A.y r q :=
  (Fin.sum_univ_add (a := 1408) (b := 1408) fun j : Fin 2816 => A.base.act r j * A.WD j q).symm

end Args

end Cert.Spec3

end
-- ==== Proof.Fwd3Ref.lean ====
/-
  The reference's arrays of the layer's forward pass, of the loss and of its derivative read at an index: what its host
  program computes, as the mathematics of Fwd3Spec.lean.
-/
module

public import proofs.«01_k».proof.Proof.Fwd3Spec
public import proofs.«01_k».proof.Proof.Gen.Reference3Ideal.Read
public import Idealize.ShloMosaic.Lib.Pipeline.ValueKit
public import Idealize.ShloMosaic.Lib.Pointwise

@[expose] public section

set_option maxRecDepth 16384

noncomputable section

namespace Cert.RefSpec3

open Idealize.ShloMosaic Idealize.ShloMosaic.TcCoe Idealize.SL.Sem
open Cert.Reference3Ideal Cert.Reference3Ideal.Gen Cert.Reference3Ideal.Read

/-- The operands as the mathematics' bundle. -/
def args (x0 : FVec Ideal S4096x1024 .f32) (x1 : FVec Ideal S1024x5632 .f32) (x2 : FVec Ideal S3x2816 .f32)
    (x3 : FVec Ideal S1x2816 .f32) (x4 : FVec Ideal S2816x1024 .f32) (x5 x6 : FVec Ideal S4096x1024 .f32)
    (x7 : FVec Ideal S1x1024 .f32) (x8 : FVec Ideal S6x1024 .f32) : Spec3.Args where
  H r q := x0 (ix2 r q)
  WU q j := x1 (ix2 q j)
  CW k j := x2 (ix2 k j)
  CB j := x3 (ix2 0 j)
  WD j q := x4 (ix2 j q)
  X r q := x5 (ix2 r q)
  T r q := x6 (ix2 r q)
  G q := x7 (ix2 0 q)
  M k q := x8 (ix2 k q)

variable (x0 : FVec Ideal S4096x1024 .f32) (x1 : FVec Ideal S1024x5632 .f32) (x2 : FVec Ideal S3x2816 .f32)
  (x3 : FVec Ideal S1x2816 .f32) (x4 : FVec Ideal S2816x1024 .f32) (x5 x6 : FVec Ideal S4096x1024 .f32)
  (x7 : FVec Ideal S1x1024 .f32) (x8 : FVec Ideal S6x1024 .f32)

theorem gate_at (r : Fin 4096) (j : Fin 2816) :
    val_main_v1 (F := Ideal) x0 x1 (ix2 r j) = (args x0 x1 x2 x3 x4 x5 x6 x7 x8).base.gate r j := by
  pointwise [val_main_v1, val_main_v0, Spec.Args.gate, Spec3.Args.base, args]

theorem value_at (r : Fin 4096) (j : Fin 2816) :
    val_main_v2 (F := Ideal) x0 x1 (ix2 r j) = (args x0 x1 x2 x3 x4 x5 x6 x7 x8).base.value r j := by
  pointwise [val_main_v2, val_main_v0, Spec.Args.value, Spec3.Args.base, args]

theorem pad_at (r : Fin 4098) (j : Fin 2816) :
    val_main_v4 (F := Ideal) x0 x1 (ix2 r j) = if h : r.val < 2 then 0 else
      (args x0 x1 x2 x3 x4 x5 x6 x7 x8).base.gate ⟨r.val - 2, by omega⟩ j := by
  unfold val_main_v4
  pointwise [val_main_v3, val_main_cst]
  simp only [gate_at x0 x1 x2 x3 x4 x5 x6 x7 x8]

/-- The gate two tokens back. -/
theorem back2_at (r : Fin 4096) (j : Fin 2816) :
    val_main_v5 (F := Ideal) x0 x1 (ix2 r j) = (args x0 x1 x2 x3 x4 x5 x6 x7 x8).base.back 2 r j := by
  pointwise [val_main_v5]
  rw [pad_at x0 x1 x2 x3 x4 x5 x6 x7 x8]
  unfold Spec.Args.back
  by_cases h : r.val < 2
  · simp [h, show ¬ 2 ≤ r.val by omega]
  · simp [h, show 2 ≤ r.val by omega]

/-- The gate one token back. -/
theorem back1_at (r : Fin 4096) (j : Fin 2816) :
    val_main_v11 (F := Ideal) x0 x1 (ix2 r j) = (args x0 x1 x2 x3 x4 x5 x6 x7 x8).base.back 1 r j := by
  pointwise [val_main_v11]
  rw [pad_at x0 x1 x2 x3 x4 x5 x6 x7 x8]
  unfold Spec.Args.back
  by_cases h : 1 + r.val < 2
  · simp [h, show ¬ 1 ≤ r.val by omega]
  · simp [h, show 1 ≤ r.val by omega, show 1 + r.val - 2 = r.val - 1 by omega]

/-- The gate itself, read out of the padded array. -/
theorem back0_at (r : Fin 4096) (j : Fin 2816) :
    val_main_v18 (F := Ideal) x0 x1 (ix2 r j) = (args x0 x1 x2 x3 x4 x5 x6 x7 x8).base.gate r j := by
  pointwise [val_main_v18]
  rw [pad_at x0 x1 x2 x3 x4 x5 x6 x7 x8]
  simp [show ¬ 2 + r.val < 2 by omega]

theorem z_at (r : Fin 4096) (j : Fin 2816) :
    val_main_v26 (F := Ideal) x0 x1 x2 x3 (ix2 r j) = (args x0 x1 x2 x3 x4 x5 x6 x7 x8).base.z r j := by
  unfold val_main_v26 val_main_v24 val_main_v17 val_main_v10 val_main_v16 val_main_v23
  pointwise [val_main_v25, val_main_v9, val_main_v8, val_main_v7, val_main_v6, val_main_v15,
    val_main_v14, val_main_v13, val_main_v12, val_main_v22, val_main_v21, val_main_v20, val_main_v19]
  rw [back0_at x0 x1 x2 x3 x4 x5 x6 x7 x8, back1_at x0 x1 x2 x3 x4 x5 x6 x7 x8, back2_at x0 x1 x2 x3 x4 x5 x6 x7 x8]
  unfold Spec.Args.z Spec3.Args.base args
  rfl

theorem act_at (r : Fin 4096) (j : Fin 2816) :
    val_main_v40 (F := Ideal) x0 x1 x2 x3 (ix2 r j) = (args x0 x1 x2 x3 x4 x5 x6 x7 x8).base.act r j := by
  have e34 : val_main_v34 (F := Ideal) x0 x1 x2 x3 (ix2 r j) = Spec.refT ((args x0 x1 x2 x3 x4 x5 x6 x7 x8).base.z r j) := by
    pointwise [val_main_v34, val_main_v33, val_main_v32, val_main_v31, val_main_v30, val_main_v29, val_main_v28, val_main_v27,
      val_main_cst_0, val_main_cst_1]
    simp only [z_at x0 x1 x2 x3 x4 x5 x6 x7 x8, Consts.f32_c0, Consts.f32_c1]
    unfold Spec.refT
    rfl
  pointwise [val_main_v40, val_main_v39, val_main_v38, val_main_v37, val_main_v36, val_main_v35, val_main_cst_2, val_main_cst_3]
  rw [e34, z_at x0 x1 x2 x3 x4 x5 x6 x7 x8, value_at x0 x1 x2 x3 x4 x5 x6 x7 x8, Consts.f32_half]
  unfold Spec.Args.act Spec.gel
  rw [← Spec.refW_eq]
  rfl

theorem y_at (r : Fin 4096) (q : Fin 1024) :
    val_main_v41 (F := Ideal) x0 x1 x2 x3 x4 (ix2 r q) = (args x0 x1 x2 x3 x4 x5 x6 x7 x8).y r q := by
  pointwise [val_main_v41]
  simp only [act_at x0 x1 x2 x3 x4 x5 x6 x7 x8]
  rfl

theorem msq_at (r : Fin 4096) :
    val_main_v49 (F := Ideal) x0 x1 x2 x3 x4 (ix2 r 0) = Spec2.msq ((args x0 x1 x2 x3 x4 x5 x6 x7 x8).y r) := by
  pointwise [val_main_v49, val_main_v48, val_main_v47, val_main_v46, val_main_v45, val_main_v44, val_main_v43, val_main_cst_4,
    val_main_cst_5, val_main_cst_6]
  simp only [y_at x0 x1 x2 x3 x4 x5 x6 x7 x8]
  unfold Spec2.msq Spec2.width Spec2.eps
  rfl

theorem yn_at (r : Fin 4096) (q : Fin 1024) :
    val_main_v55 (F := Ideal) x0 x1 x2 x3 x4 (ix2 r q) = (args x0 x1 x2 x3 x4 x5 x6 x7 x8).yn r q := by
  pointwise [val_main_v55, val_main_v54, val_main_v50]
  rw [msq_at x0 x1 x2 x3 x4 x5 x6 x7 x8, y_at x0 x1 x2 x3 x4 x5 x6 x7 x8]
  rfl

theorem r2_at (r : Fin 4096) (q : Fin 1024) :
    val_main_v57 (F := Ideal) x0 x1 x2 x3 x4 x7 (ix2 r q) = (args x0 x1 x2 x3 x4 x5 x6 x7 x8).r2 r q := by
  pointwise [val_main_v57, val_main_v56]
  rw [yn_at x0 x1 x2 x3 x4 x5 x6 x7 x8]
  rfl

theorem diff_at (r : Fin 4096) (q : Fin 1024) :
    val_main_v61 (F := Ideal) x0 x1 x2 x3 x4 x5 x6 x7 x8 (ix2 r q) = (args x0 x1 x2 x3 x4 x5 x6 x7 x8).diff r q := by
  pointwise [val_main_v61, val_main_v60, val_main_v59, val_main_v58, val_main_v42]
  rw [r2_at x0 x1 x2 x3 x4 x5 x6 x7 x8]
  rfl

theorem loss_at (k : Fin 128) :
    val_main_v103 (F := Ideal) x0 x1 x2 x3 x4 x5 x6 x7 x8 (ix2 0 k) = (args x0 x1 x2 x3 x4 x5 x6 x7 x8).loss := by
  pointwise [val_main_v103, val_main_v69, val_main_v68, val_main_v67, val_main_v66, val_main_v65, val_main_v62, val_main_cst_9,
    val_main_cst_10, val_main_cst_11, val_main_cst_12]
  simp only [diff_at x0 x1 x2 x3 x4 x5 x6 x7 x8, Consts.f32_half]
  rfl

theorem dout_at (h : (args x0 x1 x2 x3 x4 x5 x6 x7 x8).Finite) (r : Fin 4096) (q : Fin 1024) :
    val_main_v75 (F := Ideal) x0 x1 x2 x3 x4 x5 x6 x7 x8 (ix2 r q) = (args x0 x1 x2 x3 x4 x5 x6 x7 x8).dout r q := by
  pointwise [val_main_v75, val_main_v74, val_main_v73, val_main_v72, val_main_v71, val_main_v70, val_main_v64, val_main_v63,
    val_main_cst_8, val_main_cst_13, val_main_cst_14, val_main_cst_15]
  simp only [diff_at x0 x1 x2 x3 x4 x5 x6 x7 x8, Consts.f32_half, Consts.f32_one, Spec3.f32_two]
  have e := Spec3.Args.dout_eq h r q
  rw [mul_one] at e
  exact e

theorem dr_at (h : (args x0 x1 x2 x3 x4 x5 x6 x7 x8).Finite) (r : Fin 4096) (q : Fin 1024) :
    val_main_v77 (F := Ideal) x0 x1 x2 x3 x4 x5 x6 x7 x8 (ix2 r q)
      = (args x0 x1 x2 x3 x4 x5 x6 x7 x8).dout r q * (args x0 x1 x2 x3 x4 x5 x6 x7 x8).M 5 q := by
  pointwise [val_main_v77, val_main_v76, val_main_v42]
  rw [dout_at x0 x1 x2 x3 x4 x5 x6 x7 x8 h]
  exact mul_comm _ _

theorem dgt_at (h : (args x0 x1 x2 x3 x4 x5 x6 x7 x8).Finite) (q : Fin 1024) :
    val_main_v80 (F := Ideal) x0 x1 x2 x3 x4 x5 x6 x7 x8 (ix2 0 q) = (args x0 x1 x2 x3 x4 x5 x6 x7 x8).dgt q := by
  pointwise [val_main_v80, val_main_v79, val_main_v78, val_main_cst_16]
  simp only [dout_at x0 x1 x2 x3 x4 x5 x6 x7 x8 h, r2_at x0 x1 x2 x3 x4 x5 x6 x7 x8]
  rfl

theorem dg_at (h : (args x0 x1 x2 x3 x4 x5 x6 x7 x8).Finite) (q : Fin 1024) :
    val_main_v83 (F := Ideal) x0 x1 x2 x3 x4 x5 x6 x7 x8 (ix2 0 q) = (args x0 x1 x2 x3 x4 x5 x6 x7 x8).dg q := by
  pointwise [val_main_v83, val_main_v82, val_main_v81, val_main_cst_17]
  simp only [dr_at x0 x1 x2 x3 x4 x5 x6 x7 x8 h, yn_at x0 x1 x2 x3 x4 x5 x6 x7 x8]
  exact Finset.sum_congr rfl fun r _ => mul_comm _ _

theorem dyn_at (h : (args x0 x1 x2 x3 x4 x5 x6 x7 x8).Finite) (r : Fin 4096) (q : Fin 1024) :
    val_main_v85 (F := Ideal) x0 x1 x2 x3 x4 x5 x6 x7 x8 (ix2 r q) = (args x0 x1 x2 x3 x4 x5 x6 x7 x8).dyn r q := by
  pointwise [val_main_v85, val_main_v84]
  rw [dr_at x0 x1 x2 x3 x4 x5 x6 x7 x8 h]
  rfl

theorem coef_at (h : (args x0 x1 x2 x3 x4 x5 x6 x7 x8).Finite) (r : Fin 4096) (q : Fin 1024) :
    val_main_v95 (F := Ideal) x0 x1 x2 x3 x4 x5 x6 x7 x8 (ix2 r q)
      = Spec2.coef ((args x0 x1 x2 x3 x4 x5 x6 x7 x8).y r) ((args x0 x1 x2 x3 x4 x5 x6 x7 x8).dyn r) := by
  pointwise [val_main_v95, val_main_v94, val_main_v93, val_main_v92, val_main_v91, val_main_v88, val_main_v87, val_main_v86,
    val_main_v53, val_main_v52, val_main_v51, val_main_v50, val_main_cst_7, val_main_cst_18, val_main_cst_19, val_main_cst_20]
  simp only [dyn_at x0 x1 x2 x3 x4 x5 x6 x7 x8 h, y_at x0 x1 x2 x3 x4 x5 x6 x7 x8, Fin.default_eq_zero,
    msq_at x0 x1 x2 x3 x4 x5 x6 x7 x8, Finset.univ_unique, Finset.sum_singleton]
  rfl

theorem dy_at (h : (args x0 x1 x2 x3 x4 x5 x6 x7 x8).Finite) (r : Fin 4096) (q : Fin 1024) :
    val_main_v102 (F := Ideal) x0 x1 x2 x3 x4 x5 x6 x7 x8 (ix2 r q) = (args x0 x1 x2 x3 x4 x5 x6 x7 x8).dy r q := by
  pointwise [val_main_v102, val_main_v99, val_main_v98, val_main_v97, val_main_v96, val_main_v90, val_main_v89, val_main_v50]
  simp only [dyn_at x0 x1 x2 x3 x4 x5 x6 x7 x8 h, msq_at x0 x1 x2 x3 x4 x5 x6 x7 x8, y_at x0 x1 x2 x3 x4 x5 x6 x7 x8,
    coef_at x0 x1 x2 x3 x4 x5 x6 x7 x8 h]
  exact Spec3.Args.dy_eq h r q

/-- The gate as it is saved. -/
theorem gateb_at (r : Fin 4096) (j : Fin 2816) :
    val_main_v100 (F := Ideal) x0 x1 (ix2 r j) = (args x0 x1 x2 x3 x4 x5 x6 x7 x8).base.gate r j := by
  pointwise [val_main_v100]
  rw [gate_at x0 x1 x2 x3 x4 x5 x6 x7 x8]

/-- The value half as it is saved. -/
theorem valueb_at (r : Fin 4096) (j : Fin 2816) :
    val_main_v101 (F := Ideal) x0 x1 (ix2 r j) = (args x0 x1 x2 x3 x4 x5 x6 x7 x8).base.value r j := by
  pointwise [val_main_v101]
  rw [value_at x0 x1 x2 x3 x4 x5 x6 x7 x8]

end Cert.RefSpec3

end
-- ==== Proof.Fwd3Blocks.lean ====
/-
  The input blocks of the layer's forward pass (`ffn_fwd`): what each grid point finds in its windows, as the layer's
  operands. Grid point `t` is block `t` of the tokens.
-/
module

public import proofs.«01_k».proof.Proof.Fwd3Ref
public import proofs.«01_k».proof.Proof.Gen.Kernel3Ideal.Frame.Runs

@[expose] public section

set_option maxRecDepth 16384

noncomputable section

namespace Cert.KerSpec3

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ) (c : Dev nD)

/-- The operands in the launch memory. -/
def args : Spec3.Args :=
  RefSpec3.args (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

theorem idx : ∀ t : Fin cfg0.N, win0_0.index t = ![t.val, 0] ∧ win0_1.index t = ![0, 0, 0]
    ∧ win0_2.index t = ![0, 0] ∧ win0_3.index t = ![0, 0] ∧ win0_4.index t = ![0, 0]
    ∧ win0_5.index t = ![t.val, 0] ∧ win0_6.index t = ![t.val, 0] ∧ win0_7.index t = ![0, 0]
    ∧ win0_8.index t = ![0, 0] ∧ win0_9.index t = ![t.val, 0] ∧ win0_10.index t = ![t.val, 0] ∧ win0_11.index t = ![t.val, 0]
    ∧ win0_12.index t = ![t.val, 0] ∧ win0_13.index t = ![0, 0] ∧ win0_14.index t = ![0, 0] ∧ win0_15.index t = ![0, 0] :=
  (by decide +kernel : ∀ t : Fin grid0.N, _)

/-- The token of row `r` of point `t`'s block. -/
abbrev row (t : Fin cfg0.N) (r : Fin 512) : Fin 4096 := ⟨t.val * 512 + r.val, by have h : t.val < 8 := t.isLt; omega⟩

theorem blk0 (t : Fin cfg0.N) (r : Fin 512) (q : Fin 1024) : iblk m c 0 t (ix2 r q) = (args m c).H (row t r) q := by
  unfold args RefSpec3.args
  blk_simp [iblk]
  entry_read
  pointwise
  blk_point [idx t]

theorem blk1 (t : Fin cfg0.N) (b : Fin 4) (q : Fin 1024) (k : Fin 1408) :
    iblk m c 1 t (ix3 b q k) = (args m c).WU q ⟨b.val * 1408 + k.val, by omega⟩ := by
  unfold args RefSpec3.args
  blk_simp [iblk]
  entry_read
  pointwise
  blk_point [idx t]

theorem blk2 (t : Fin cfg0.N) (r : Fin 3) (j : Fin 2816) : iblk m c 2 t (ix2 r j) = (args m c).CW r j := by
  unfold args RefSpec3.args
  blk_point [iblk, V, idx t]

theorem blk3 (t : Fin cfg0.N) (j : Fin 2816) : iblk m c 3 t (ix2 0 j) = (args m c).CB j := by
  unfold args RefSpec3.args
  blk_point [iblk, V, idx t]

theorem blk4 (t : Fin cfg0.N) (j : Fin 2816) (q : Fin 1024) : iblk m c 4 t (ix2 j q) = (args m c).WD j q := by
  unfold args RefSpec3.args
  blk_simp [iblk]
  entry_read
  pointwise
  blk_point [idx t]

theorem blk5 (t : Fin cfg0.N) (r : Fin 512) (q : Fin 1024) : iblk m c 5 t (ix2 r q) = (args m c).X (row t r) q := by
  unfold args RefSpec3.args
  blk_point [iblk, V, idx t]

theorem blk6 (t : Fin cfg0.N) (r : Fin 512) (q : Fin 1024) : iblk m c 6 t (ix2 r q) = (args m c).T (row t r) q := by
  unfold args RefSpec3.args
  blk_point [iblk, V, idx t]

theorem blk7 (t : Fin cfg0.N) (q : Fin 1024) : iblk m c 7 t (ix2 0 q) = (args m c).G q := by
  unfold args RefSpec3.args
  blk_point [iblk, V, idx t]

theorem blk8 (t : Fin cfg0.N) (k : Fin 6) (q : Fin 1024) : iblk m c 8 t (ix2 k q) = (args m c).M k q := by
  unfold args RefSpec3.args
  blk_point [iblk, V, idx t]

end Cert.KerSpec3

end
-- ==== Proof.Fwd3Taps.lean ====
/-
  The rows of the gate one and two tokens back, as the kernel takes them from its block of tokens and, at the head of the
  block, from the rows it kept of the block before.
-/
module

public import proofs.«01_k».proof.Proof.Fwd3Blocks
public import proofs.«01_k».proof.Proof.Taps

@[expose] public section

set_option maxRecDepth 16384

noncomputable section

namespace Cert.KerSpec3

open Idealize.ShloMosaic Idealize.ShloMosaic.TcCoe Idealize.SL.Sem
open Idealize.ShloMosaic.Pipeline (Dat)
open Cert.Kernel3Ideal Cert.Kernel3Ideal.Gen
open Cert.KerSpec (select_word)

variable (m : (ℓ : Loc nD τ sig) → Buf (Elt Ideal) ℓ) (c : Dev nD)

theorem coord : ∀ t : Fin cfg0.N, (grid0.coords t 0 : ℕ) = t.val := (by decide +kernel : ∀ t : Fin grid0.N, _)

/-- The columns of the first half. -/
abbrev col0 (k : Fin 1408) : Fin 2816 := ⟨k.val, by omega⟩

/-- The columns of the second half. -/
abbrev col1 (k : Fin 1408) : Fin 2816 := ⟨1408 + k.val, by omega⟩

/-- The block's gate, in the columns `col`. -/
def gtArr (t : Fin cfg0.N) (col : Fin 1408 → Fin 2816) : FVec Ideal S512x1408 .f32 := fun i =>
  (args m c).base.gate (row t (i 0)) (col (i 1))

/-- Eight rows are the last eight rows of the gate before point `t`'s block, if there are any. -/
def Tail (t : Fin cfg0.N) (col : Fin 1408 → Fin 2816) (C : FVec Ideal S8x1408 .f32) : Prop :=
  ∀ (h : t.val ≠ 0) (r : Fin 8) (k : Fin 1408),
    C (ix2 r k) = (args m c).base.gate ⟨t.val * 512 - 8 + r.val, by have ht : t.val < 8 := t.isLt; omega⟩ (col k)

variable {m c}

/-- Row `r` of the rows before the block, zero at the first block. -/
theorem halo (t : Fin cfg0.N) {col : Fin 1408 → Fin 2816} {C : FVec Ideal S8x1408 .f32} (hC : Tail m c t col C)
    (r : Fin 8) (k : Fin 1408) :
    Scalar.select (Scalar.cmpi CmpIPredicate.eq (BitVec.ofNat 32 (grid0.coords t 0 : ℕ)) 0#32) (0 : EReal) (C (ix2 r k)) =
    if h : 8 ≤ t.val * 512 + r.val then (args m c).base.gate ⟨t.val * 512 - 8 + r.val, by have ht : t.val < 8 := t.isLt; omega⟩ (col k)
      else 0 := by
  have ht : t.val < 8 := t.isLt
  rw [coord, Scalar.cmpi, select_word _ 0 (by omega) (by omega)]
  by_cases h : t.val = 0
  · rw [if_pos h, dif_neg (by omega)]
  · rw [if_neg h, dif_pos (by omega), hC h]

theorem tap1 (t : Fin cfg0.N) {col : Fin 1408 → Fin 2816} {C : FVec Ideal S8x1408 .f32} (hC : Tail m c t col C)
    (r : Fin 512) (k : Fin 1408) (p : (r.val + 512 - 1) % 512 < 512) :
    Scalar.select (IntOp.cmpi CmpIPredicate.eq (BitVec.ofNat 32 r.val) 0#32)
      (Scalar.select (Scalar.cmpi CmpIPredicate.eq (BitVec.ofNat 32 (grid0.coords t 0 : ℕ)) 0#32) (0 : EReal) (C (ix2 7 k)))
      ((args m c).base.gate (row t ⟨(r.val + 512 - 1) % 512, p⟩) (col k)) = (args m c).base.back 1 (row t r) (col k) := by
  have ht : t.val < 8 := t.isLt
  rw [halo t hC 7 k, select_word _ 0 (by omega) (by omega)]
  unfold Spec.Args.back
  have e7 : ((7 : Fin 8) : ℕ) = 7 := rfl
  simp only [e7]
  by_cases h : r.val = 0
  · rw [if_pos h]
    by_cases h' : t.val = 0
    · rw [dif_neg (by omega), if_neg (by show ¬ 1 ≤ t.val * 512 + r.val; omega)]
    · rw [dif_pos (by omega), if_pos (by show 1 ≤ t.val * 512 + r.val; omega)]
      congr 1; apply Fin.ext; show t.val * 512 - 8 + 7 = t.val * 512 + r.val - 1; omega
  · rw [if_neg h, if_pos (by show 1 ≤ t.val * 512 + r.val; omega)]
    congr 1; apply Fin.ext
    show t.val * 512 + (r.val + 512 - 1) % 512 = t.val * 512 + r.val - 1; omega

theorem tap2 (t : Fin cfg0.N) {col : Fin 1408 → Fin 2816} {C : FVec Ideal S8x1408 .f32} (hC : Tail m c t col C)
    (r : Fin 512) (k : Fin 1408) (p : (r.val + 512 - 2) % 512 < 512) :
    Scalar.select (IntOp.cmpi CmpIPredicate.eq (BitVec.ofNat 32 r.val) 0#32)
      (Scalar.select (Scalar.cmpi CmpIPredicate.eq (BitVec.ofNat 32 (grid0.coords t 0 : ℕ)) 0#32) (0 : EReal) (C (ix2 6 k)))
      (Scalar.select (IntOp.cmpi CmpIPredicate.eq (BitVec.ofNat 32 r.val) 1#32)
        (Scalar.select (Scalar.cmpi CmpIPredicate.eq (BitVec.ofNat 32 (grid0.coords t 0 : ℕ)) 0#32) (0 : EReal) (C (ix2 7 k)))
        ((args m c).base.gate (row t ⟨(r.val + 512 - 2) % 512, p⟩) (col k))) = (args m c).base.back 2 (row t r) (col k) := by
  have ht : t.val < 8 := t.isLt
  rw [halo t hC 6 k, halo t hC 7 k, select_word _ 0 (by omega) (by omega), select_word _ 1 (by omega) (by omega)]
  unfold Spec.Args.back
  have e7 : ((7 : Fin 8) : ℕ) = 7 := rfl
  have e6 : ((6 : Fin 8) : ℕ) = 6 := rfl
  simp only [e6, e7]
  by_cases h : r.val = 0
  · rw [if_pos h]
    by_cases h' : t.val = 0
    · rw [dif_neg (by omega), if_neg (by show ¬ 2 ≤ t.val * 512 + r.val; omega)]
    · rw [dif_pos (by omega), if_pos (by show 2 ≤ t.val * 512 + r.val; omega)]
      congr 1; apply Fin.ext; show t.val * 512 - 8 + 6 = t.val * 512 + r.val - 2; omega
  · rw [if_neg h]
    by_cases h1 : r.val = 1
    · rw [if_pos h1]
      by_cases h' : t.val = 0
      · rw [dif_neg (by omega), if_neg (by show ¬ 2 ≤ t.val * 512 + r.val; omega)]
      · rw [dif_pos (by omega), if_pos (by show 2 ≤ t.val * 512 + r.val; omega)]
        congr 1; apply Fin.ext; show t.val * 512 - 8 + 7 = t.val * 512 + r.val - 2; omega
    · rw [if_neg h1, if_pos (by show 2 ≤ t.val * 512 + r.val; omega)]
      congr 1; apply Fin.ext
      show t.val * 512 + (r.val + 512 - 2) % 512 = t.val * 512 + r.val - 2; omega

end Cert.KerSpec3

end
-- ==== Proof.Fwd3Tiles.lean ====
/-
  The values of a grid point of the forward pass, as arrays over its block of tokens: they depend on what the kept rows hold
  only through their being the last rows of the gate before the block.
-/
module

public import proofs.«01_k».proof.Proof.Fwd3Taps
public import proofs.«01_k».proof.Proof.Consts
public import proofs.«01_k».proof.Proof.Gen.Kernel3Ideal.Value

@[expose] public section

set_option maxRecDepth 16384

noncomputable section

namespace Cert.KerSpec3

open Idealize.ShloMosaic Idealize.ShloMosaic.TcCoe Idealize.SL.Sem
open Idealize.ShloMosaic.Pipeline (Dat)
open Cert.Kernel3Ideal Cert.Kernel3Ideal.Gen

theorem named_c0 : Named.named (F := Ideal) Cert.Kernel3Ideal.κ "gelu_c0" (φ := .bf16) 0x3F4C#16 = ((Spec.c0 : ℝ) : EReal) :=
  IdealRules.named_const.ideal_named_scalar _ _ _ _ rfl

theorem named_c1 : Named.named (F := Ideal) Cert.Kernel3Ideal.κ "gelu_c1" (φ := .bf16) 0x3D12#16
    = ((Spec.c0 * Spec.c1 : ℝ) : EReal) :=
  (IdealRules.named_const.ideal_named_scalar _ _ _ _ rfl).trans (by norm_num [Spec.c0, Spec.c1])

variable (m : (ℓ : Loc nD τ sig) → Buf (Elt Ideal) ℓ) (c : Dev nD)

/-- The block's value half, in the columns `col`. -/
def vlArr (t : Fin cfg0.N) (col : Fin 1408 → Fin 2816) : FVec Ideal S512x1408 .bf16 := fun i =>
  (args m c).base.value (row t (i 0)) (col (i 1))

/-- The block's gated product, in the columns `col`. -/
def actArr (t : Fin cfg0.N) (col : Fin 1408 → Fin 2816) : FVec Ideal S512x1408 .bf16 := fun i =>
  (args m c).base.act (row t (i 0)) (col (i 1))

/-- The block's output of the layer. -/
def yArr (t : Fin cfg0.N) : FVec Ideal S512x1024 .f32 := fun i => (args m c).y (row t (i 0)) (i 1)

/-- The block's mean squares of the layer's output. -/
def msArr (t : Fin cfg0.N) : FVec Ideal S512x1 .f32 := fun i =>
  Ideal.div (∑ q, (args m c).y (row t (i 0)) q * (args m c).y (row t (i 0)) q) Spec2.width

/-- The block's reciprocal roots of the output's mean squares. -/
def rsArr (t : Fin cfg0.N) : FVec Ideal S512x1 .f32 := fun i => Spec2.rstd ((args m c).y (row t (i 0)))

/-- The block's normed output. -/
def ynArr (t : Fin cfg0.N) : FVec Ideal S512x1024 .f32 := fun i => (args m c).yn (row t (i 0)) (i 1)

/-- The block's normed output with its gain. -/
def r2Arr (t : Fin cfg0.N) : FVec Ideal S512x1024 .f32 := fun i => (args m c).r2 (row t (i 0)) (i 1)

/-- The block's stream less its target. -/
def dfArr (t : Fin cfg0.N) : FVec Ideal S512x1024 .f32 := fun i => (args m c).diff (row t (i 0)) (i 1)

/-- The block's cotangent of the stream. -/
def doArr (t : Fin cfg0.N) : FVec Ideal S512x1024 .f32 := fun i => (args m c).dout (row t (i 0)) (i 1)

/-- The block's cotangent of the layer's output. -/
def dyArr (t : Fin cfg0.N) : FVec Ideal S512x1024 .bf16 := fun i => (args m c).dy (row t (i 0)) (i 1)

variable {m c}

theorem gt0_eq (t : Fin cfg0.N) : k0_pay11 (F := Ideal) (iblk m c 0 t)
    (View.ld (iblk m c 1 t) (Rect.unit ![0, 0, 0] ![1, 1024, 1408] inb_S4x1024x1408_S1x1024x1408_0_0_0)) = gtArr m c t col0 := by
  funext i
  obtain ⟨r, q, rfl⟩ : ∃ (r : Fin 512) (q : Fin 1408), i = ix2 r q := ⟨i 0, i 1, ValueIdx.eq_ix2 i⟩
  pointwise [k0_pay9, k0_pay11, gtArr]
  simp only [blk0, blk1]
  unfold Spec.Args.gate
  refine Finset.sum_congr (M := EReal) rfl fun k _ => congrArg₂ (· * ·) rfl (congrArg ((args m c).WU k) (Fin.ext ?_))
  show 0 * 1408 + q.val = q.val
  omega

theorem gt1_eq (t : Fin cfg0.N) : k0_pay24 (F := Ideal) (k0_pay9 (iblk m c 0 t))
    (View.ld (iblk m c 1 t) (Rect.unit ![1, 0, 0] ![1, 1024, 1408] inb_S4x1024x1408_S1x1024x1408_1_0_0)) = gtArr m c t col1 := by
  funext i
  obtain ⟨r, q, rfl⟩ : ∃ (r : Fin 512) (q : Fin 1408), i = ix2 r q := ⟨i 0, i 1, ValueIdx.eq_ix2 i⟩
  pointwise [k0_pay9, k0_pay24, gtArr]
  simp only [blk0, blk1]
  unfold Spec.Args.gate
  refine Finset.sum_congr (M := EReal) rfl fun k _ => congrArg₂ (· * ·) rfl (congrArg ((args m c).WU k) (Fin.ext ?_))
  show 1 * 1408 + q.val = 1408 + q.val
  omega

theorem vl0_eq (t : Fin cfg0.N) : k0_pay13 (F := Ideal) (iblk m c 0 t)
    (View.ld (iblk m c 1 t) (Rect.unit ![2, 0, 0] ![1, 1024, 1408] inb_S4x1024x1408_S1x1024x1408_2_0_0)) = vlArr m c t col0 := by
  funext i
  obtain ⟨r, q, rfl⟩ : ∃ (r : Fin 512) (q : Fin 1408), i = ix2 r q := ⟨i 0, i 1, ValueIdx.eq_ix2 i⟩
  pointwise [k0_pay9, k0_pay13, vlArr]
  simp only [blk0, blk1]
  unfold Spec.Args.value
  refine Finset.sum_congr (M := EReal) rfl fun k _ => congrArg₂ (· * ·) rfl (congrArg ((args m c).WU k) (Fin.ext ?_))
  show 2 * 1408 + q.val = 2816 + q.val
  omega

theorem vl1_eq (t : Fin cfg0.N) : k0_pay26 (F := Ideal) (k0_pay9 (iblk m c 0 t))
    (View.ld (iblk m c 1 t) (Rect.unit ![3, 0, 0] ![1, 1024, 1408] inb_S4x1024x1408_S1x1024x1408_3_0_0)) = vlArr m c t col1 := by
  funext i
  obtain ⟨r, q, rfl⟩ : ∃ (r : Fin 512) (q : Fin 1408), i = ix2 r q := ⟨i 0, i 1, ValueIdx.eq_ix2 i⟩
  pointwise [k0_pay9, k0_pay26, vlArr]
  simp only [blk0, blk1]
  unfold Spec.Args.value
  refine Finset.sum_congr (M := EReal) rfl fun k _ => congrArg₂ (· * ·) rfl (congrArg ((args m c).WU k) (Fin.ext ?_))
  show 3 * 1408 + q.val = 2816 + (1408 + q.val)
  omega

theorem act0_eq (t : Fin cfg0.N) {C : FVec Ideal S8x1408 .f32} (hC : Tail m c t col0 C) :
    k0_pay21 (F := Ideal) (k0_pay11 (iblk m c 0 t)
        (View.ld (iblk m c 1 t) (Rect.unit ![0, 0, 0] ![1, 1024, 1408] inb_S4x1024x1408_S1x1024x1408_0_0_0)))
      (k0_pay13 (iblk m c 0 t)
        (View.ld (iblk m c 1 t) (Rect.unit ![2, 0, 0] ![1, 1024, 1408] inb_S4x1024x1408_S1x1024x1408_2_0_0)))
      (k0_pay15 (grid0.coords t) C) (k0_pay16 (grid0.coords t) C)
      (k0_pay17 (grid0.coords t) (iblk m c 0 t)
        (View.ld (iblk m c 1 t) (Rect.unit ![0, 0, 0] ![1, 1024, 1408] inb_S4x1024x1408_S1x1024x1408_0_0_0)) C)
      k0_pay18 k0_pay19
      (View.ld (iblk m c 2 t) (Rect.unit ![0, 0] ![1, 1408] inb_S3x2816_S1x1408_0_0))
      (View.ld (iblk m c 2 t) (Rect.unit ![1, 0] ![1, 1408] inb_S3x2816_S1x1408_1_0))
      (View.ld (iblk m c 2 t) (Rect.unit ![2, 0] ![1, 1408] inb_S3x2816_S1x1408_2_0))
      (View.ld (iblk m c 3 t) (Rect.unit ![0, 0] ![1, 1408] inb_S1x2816_S1x1408_0_0)) = actArr m c t col0 := by
  unfold k0_pay17
  rw [gt0_eq, vl0_eq]
  funext i
  obtain ⟨r, q, rfl⟩ : ∃ (r : Fin 512) (q : Fin 1408), i = ix2 r q := ⟨i 0, i 1, ValueIdx.eq_ix2 i⟩
  pointwise [k0_pay14, k0_pay15, k0_pay16, k0_pay18, k0_pay19, k0_pay21, gtArr, vlArr, actArr]
  simp only [tap1 t hC, tap2 t hC]
  simp only [blk2, blk3, named_c0, named_c1, Consts.bf16_half]
  rfl

theorem ld_wd0 (t : Fin cfg0.N) : k0_pay22 (F := Ideal) (View.ld (iblk m c 4 t)
    (Rect.unit ![0, 0] ![1408, 1024] inb_S2816x1024_S1408x1024_0_0)) = fun i => (args m c).WD (col0 (i 0)) (i 1) := by
  funext i
  obtain ⟨k, q, rfl⟩ : ∃ (k : Fin 1408) (q : Fin 1024), i = ix2 k q := ⟨i 0, i 1, ValueIdx.eq_ix2 i⟩
  pointwise [k0_pay22]
  simp only [blk4]

variable (m c) in
/-- The layer's output over the block, as the kernel adds it up, over the two halves `C0` and `C1` of the kept rows. -/
def yT (t : Fin cfg0.N) (C0 C1 : FVec Ideal S8x1408 .f32) : FVec Ideal S512x1024 .f32 :=
  k0_pay33 (F := Ideal) (k0_pay23 k0_pay10 (k0_pay21 (k0_pay11 (iblk m c 0 t)
        (View.ld (iblk m c 1 t) (Rect.unit ![0, 0, 0] ![1, 1024, 1408] inb_S4x1024x1408_S1x1024x1408_0_0_0)))
      (k0_pay13 (iblk m c 0 t)
        (View.ld (iblk m c 1 t) (Rect.unit ![2, 0, 0] ![1, 1024, 1408] inb_S4x1024x1408_S1x1024x1408_2_0_0)))
      (k0_pay15 (grid0.coords t) C0) (k0_pay16 (grid0.coords t) C0)
      (k0_pay17 (grid0.coords t) (iblk m c 0 t)
        (View.ld (iblk m c 1 t) (Rect.unit ![0, 0, 0] ![1, 1024, 1408] inb_S4x1024x1408_S1x1024x1408_0_0_0)) C0)
      k0_pay18 k0_pay19
      (View.ld (iblk m c 2 t) (Rect.unit ![0, 0] ![1, 1408] inb_S3x2816_S1x1408_0_0))
      (View.ld (iblk m c 2 t) (Rect.unit ![1, 0] ![1, 1408] inb_S3x2816_S1x1408_1_0))
      (View.ld (iblk m c 2 t) (Rect.unit ![2, 0] ![1, 1408] inb_S3x2816_S1x1408_2_0))
      (View.ld (iblk m c 3 t) (Rect.unit ![0, 0] ![1, 1408] inb_S1x2816_S1x1408_0_0)))
      (k0_pay22 (View.ld (iblk m c 4 t) (Rect.unit ![0, 0] ![1408, 1024] inb_S2816x1024_S1408x1024_0_0)))
      (constant S512x1024 .f32 0x00000000#32))
    (k0_pay24 (k0_pay9 (iblk m c 0 t))
      (View.ld (iblk m c 1 t) (Rect.unit ![1, 0, 0] ![1, 1024, 1408] inb_S4x1024x1408_S1x1024x1408_1_0_0)))
    (k0_pay26 (k0_pay9 (iblk m c 0 t))
      (View.ld (iblk m c 1 t) (Rect.unit ![3, 0, 0] ![1, 1024, 1408] inb_S4x1024x1408_S1x1024x1408_3_0_0)))
    (k0_pay29 (Scalar.cmpi CmpIPredicate.eq (BitVec.ofNat 32 (grid0.coords t 0 : ℕ)) 0#32) (k0_pay9 (iblk m c 0 t))
      (View.ld (iblk m c 1 t) (Rect.unit ![1, 0, 0] ![1, 1024, 1408] inb_S4x1024x1408_S1x1024x1408_1_0_0)) C1)
    (k0_pay30 (Scalar.cmpi CmpIPredicate.eq (BitVec.ofNat 32 (grid0.coords t 0 : ℕ)) 0#32) (k0_pay9 (iblk m c 0 t))
      (View.ld (iblk m c 1 t) (Rect.unit ![1, 0, 0] ![1, 1024, 1408] inb_S4x1024x1408_S1x1024x1408_1_0_0)) C1)
    (View.ld (iblk m c 2 t) (Rect.unit ![0, 1408] ![1, 1408] inb_S3x2816_S1x1408_0_1408))
    (View.ld (iblk m c 2 t) (Rect.unit ![1, 1408] ![1, 1408] inb_S3x2816_S1x1408_1_1408))
    (View.ld (iblk m c 2 t) (Rect.unit ![2, 1408] ![1, 1408] inb_S3x2816_S1x1408_2_1408))
    (View.ld (iblk m c 3 t) (Rect.unit ![0, 1408] ![1, 1408] inb_S1x2816_S1x1408_0_1408))
    (View.ld (iblk m c 4 t) (Rect.unit ![1408, 0] ![1408, 1024] inb_S2816x1024_S1408x1024_1408_0))

theorem yT_eq (t : Fin cfg0.N) {C0 C1 : FVec Ideal S8x1408 .f32} (h0 : Tail m c t col0 C0) (h1 : Tail m c t col1 C1) :
    yT m c t C0 C1 = yArr m c t := by
  unfold yT k0_pay29 k0_pay30
  rw [act0_eq t h0, gt1_eq, vl1_eq, ld_wd0]
  funext i
  obtain ⟨r, q, rfl⟩ : ∃ (r : Fin 512) (q : Fin 1024), i = ix2 r q := ⟨i 0, i 1, ValueIdx.eq_ix2 i⟩
  pointwise [k0_pay10, k0_pay23, k0_pay27, k0_pay28, k0_pay33, gtArr, vlArr, actArr, yArr]
  simp only [tap1 t h1, tap2 t h1]
  simp only [blk2, blk3, blk4, named_c0, named_c1, Consts.bf16_half]
  refine Eq.trans ?_ (Spec3.Args.y_halves (A := args m c) (row t r) q)
  rfl

end Cert.KerSpec3

end
-- ==== Proof.Fwd3Norm.lean ====
/-
  The norm of the layer's output, the loss and the cotangents of a grid point of the forward pass, and what the point stores.
-/
module

public import proofs.«01_k».proof.Proof.Fwd3Tiles

@[expose] public section

set_option maxRecDepth 16384

noncomputable section

namespace Cert.KerSpec3

open Idealize.ShloMosaic Idealize.ShloMosaic.TcCoe Idealize.SL.Sem
open Idealize.ShloMosaic.Pipeline (Dat)
open Cert.Kernel3Ideal Cert.Kernel3Ideal.Gen

variable {m : (ℓ : Loc nD τ sig) → Buf (Elt Ideal) ℓ} {c : Dev nD}

variable (m c) in
/-- The mean squares of the output over the block, as the kernel takes them. -/
def msT (t : Fin cfg0.N) (C0 C1 : FVec Ideal S8x1408 .f32) : FVec Ideal S512x1 .f32 :=
  k0_pay34 (F := Ideal) (k0_pay23 k0_pay10 (k0_pay21 (k0_pay11 (iblk m c 0 t)
        (View.ld (iblk m c 1 t) (Rect.unit ![0, 0, 0] ![1, 1024, 1408] inb_S4x1024x1408_S1x1024x1408_0_0_0)))
      (k0_pay13 (iblk m c 0 t)
        (View.ld (iblk m c 1 t) (Rect.unit ![2, 0, 0] ![1, 1024, 1408] inb_S4x1024x1408_S1x1024x1408_2_0_0)))
      (k0_pay15 (grid0.coords t) C0) (k0_pay16 (grid0.coords t) C0)
      (k0_pay17 (grid0.coords t) (iblk m c 0 t)
        (View.ld (iblk m c 1 t) (Rect.unit ![0, 0, 0] ![1, 1024, 1408] inb_S4x1024x1408_S1x1024x1408_0_0_0)) C0)
      k0_pay18 k0_pay19
      (View.ld (iblk m c 2 t) (Rect.unit ![0, 0] ![1, 1408] inb_S3x2816_S1x1408_0_0))
      (View.ld (iblk m c 2 t) (Rect.unit ![1, 0] ![1, 1408] inb_S3x2816_S1x1408_1_0))
      (View.ld (iblk m c 2 t) (Rect.unit ![2, 0] ![1, 1408] inb_S3x2816_S1x1408_2_0))
      (View.ld (iblk m c 3 t) (Rect.unit ![0, 0] ![1, 1408] inb_S1x2816_S1x1408_0_0)))
      (k0_pay22 (View.ld (iblk m c 4 t) (Rect.unit ![0, 0] ![1408, 1024] inb_S2816x1024_S1408x1024_0_0)))
      (constant S512x1024 .f32 0x00000000#32))
    (k0_pay24 (k0_pay9 (iblk m c 0 t))
      (View.ld (iblk m c 1 t) (Rect.unit ![1, 0, 0] ![1, 1024, 1408] inb_S4x1024x1408_S1x1024x1408_1_0_0)))
    (k0_pay26 (k0_pay9 (iblk m c 0 t))
      (View.ld (iblk m c 1 t) (Rect.unit ![3, 0, 0] ![1, 1024, 1408] inb_S4x1024x1408_S1x1024x1408_3_0_0)))
    (k0_pay29 (Scalar.cmpi CmpIPredicate.eq (BitVec.ofNat 32 (grid0.coords t 0 : ℕ)) 0#32) (k0_pay9 (iblk m c 0 t))
      (View.ld (iblk m c 1 t) (Rect.unit ![1, 0, 0] ![1, 1024, 1408] inb_S4x1024x1408_S1x1024x1408_1_0_0)) C1)
    (k0_pay30 (Scalar.cmpi CmpIPredicate.eq (BitVec.ofNat 32 (grid0.coords t 0 : ℕ)) 0#32) (k0_pay9 (iblk m c 0 t))
      (View.ld (iblk m c 1 t) (Rect.unit ![1, 0, 0] ![1, 1024, 1408] inb_S4x1024x1408_S1x1024x1408_1_0_0)) C1)
    (View.ld (iblk m c 2 t) (Rect.unit ![0, 1408] ![1, 1408] inb_S3x2816_S1x1408_0_1408))
    (View.ld (iblk m c 2 t) (Rect.unit ![1, 1408] ![1, 1408] inb_S3x2816_S1x1408_1_1408))
    (View.ld (iblk m c 2 t) (Rect.unit ![2, 1408] ![1, 1408] inb_S3x2816_S1x1408_2_1408))
    (View.ld (iblk m c 3 t) (Rect.unit ![0, 1408] ![1, 1408] inb_S1x2816_S1x1408_0_1408))
    (View.ld (iblk m c 4 t) (Rect.unit ![1408, 0] ![1408, 1024] inb_S2816x1024_S1408x1024_1408_0))

theorem msT_eq (t : Fin cfg0.N) {C0 C1 : FVec Ideal S8x1408 .f32} (h0 : Tail m c t col0 C0) (h1 : Tail m c t col1 C1) :
    msT m c t C0 C1 = msArr m c t := by
  have e := yT_eq t h0 h1
  unfold yT at e
  unfold msT k0_pay34
  rw [e]
  funext i
  obtain ⟨r, q, rfl⟩ : ∃ (r : Fin 512) (q : Fin 1), i = ix2 r q := ⟨i 0, i 1, ValueIdx.eq_ix2 i⟩
  pointwise [yArr, msArr]
  rfl

theorem rs_eq (t : Fin cfg0.N) : k0_pay36 (F := Ideal) (msArr m c t) k0_pay35 = rsArr m c t := by
  funext i
  obtain ⟨r, q, rfl⟩ : ∃ (r : Fin 512) (q : Fin 1), i = ix2 r q := ⟨i 0, i 1, ValueIdx.eq_ix2 i⟩
  pointwise [k0_pay35, k0_pay36, msArr, rsArr]
  rfl

theorem yn_eq (t : Fin cfg0.N) : k0_pay37 (F := Ideal) (yArr m c t) (msArr m c t) k0_pay35 = ynArr m c t := by
  unfold k0_pay37
  rw [rs_eq]
  funext i
  obtain ⟨r, q, rfl⟩ : ∃ (r : Fin 512) (q : Fin 1024), i = ix2 r q := ⟨i 0, i 1, ValueIdx.eq_ix2 i⟩
  pointwise [yArr, rsArr, ynArr]
  rfl

theorem r2_eq (t : Fin cfg0.N) : k0_pay38 (F := Ideal) (yArr m c t) (msArr m c t) k0_pay35 (iblk m c 7 t) = r2Arr m c t := by
  unfold k0_pay38
  rw [yn_eq]
  funext i
  obtain ⟨r, q, rfl⟩ : ∃ (r : Fin 512) (q : Fin 1024), i = ix2 r q := ⟨i 0, i 1, ValueIdx.eq_ix2 i⟩
  pointwise [ynArr, r2Arr]
  simp only [blk7]
  rfl

theorem df_eq (t : Fin cfg0.N) : k0_pay39 (F := Ideal) (yArr m c t) (msArr m c t) k0_pay35 (iblk m c 7 t)
    (View.ld (iblk m c 8 t) (Rect.unit ![5, 0] ![1, 1024] inb_S6x1024_S1x1024_5_0)) (iblk m c 5 t) (iblk m c 6 t)
    = dfArr m c t := by
  unfold k0_pay39
  rw [r2_eq]
  funext i
  obtain ⟨r, q, rfl⟩ : ∃ (r : Fin 512) (q : Fin 1024), i = ix2 r q := ⟨i 0, i 1, ValueIdx.eq_ix2 i⟩
  pointwise [r2Arr, dfArr]
  simp only [blk5, blk6, blk8]
  rfl

theorem do_eq (t : Fin cfg0.N) : k0_pay41 (F := Ideal) (yArr m c t) (msArr m c t) k0_pay35 (iblk m c 7 t)
    (View.ld (iblk m c 8 t) (Rect.unit ![5, 0] ![1, 1024] inb_S6x1024_S1x1024_5_0)) (iblk m c 5 t) (iblk m c 6 t)
    = doArr m c t := by
  unfold k0_pay41
  rw [df_eq]
  funext i
  obtain ⟨r, q, rfl⟩ : ∃ (r : Fin 512) (q : Fin 1024), i = ix2 r q := ⟨i 0, i 1, ValueIdx.eq_ix2 i⟩
  pointwise [dfArr, doArr]
  rfl

/-- What a point stores for the cotangent of the stream. -/
theorem store12 (t : Fin cfg0.N) {C0 C1 : FVec Ideal S8x1408 .f32} (h0 : Tail m c t col0 C0) (h1 : Tail m c t col1 C1) :
    k0_pay41 (F := Ideal) (yT m c t C0 C1) (msT m c t C0 C1) k0_pay35 (iblk m c 7 t)
      (View.ld (iblk m c 8 t) (Rect.unit ![5, 0] ![1, 1024] inb_S6x1024_S1x1024_5_0)) (iblk m c 5 t) (iblk m c 6 t)
      = doArr m c t := by
  rw [yT_eq t h0 h1, msT_eq t h0 h1, do_eq]

/-- What a point stores for the cotangent of the layer's output. -/
theorem store11 (t : Fin cfg0.N) {C0 C1 : FVec Ideal S8x1408 .f32} (h0 : Tail m c t col0 C0) (h1 : Tail m c t col1 C1) :
    k0_pay4 (F := Ideal) (k0_pay36 (msT m c t C0 C1) k0_pay35) (k0_pay37 (yT m c t C0 C1) (msT m c t C0 C1) k0_pay35)
      (iblk m c 7 t) (View.ld (iblk m c 8 t) (Rect.unit ![5, 0] ![1, 1024] inb_S6x1024_S1x1024_5_0))
      (k0_pay41 (F := Ideal) (yT m c t C0 C1) (msT m c t C0 C1) k0_pay35 (iblk m c 7 t)
      (View.ld (iblk m c 8 t) (Rect.unit ![5, 0] ![1, 1024] inb_S6x1024_S1x1024_5_0)) (iblk m c 5 t) (iblk m c 6 t))
      = dyArr m c t := by
  rw [yT_eq t h0 h1, msT_eq t h0 h1, do_eq, rs_eq, yn_eq]
  funext i
  obtain ⟨r, q, rfl⟩ : ∃ (r : Fin 512) (q : Fin 1024), i = ix2 r q := ⟨i 0, i 1, ValueIdx.eq_ix2 i⟩
  pointwise [k0_pay2, k0_pay4, rsArr, ynArr, doArr, dyArr]
  simp only [blk7, blk8]
  rfl

variable (m c) in
/-- What a point adds to the loss: half the sum of its squares, over the width. -/
def part13 (t : Fin cfg0.N) (_i : S1x128.Idx) : EReal :=
  Spec.half * (∑ r : Fin 512, ∑ q : Fin 1024, (args m c).diff (row t r) q * (args m c).diff (row t r) q) * Spec3.inv

/-- The value a point stores for the loss, over what was there. -/
theorem store13 (t : Fin cfg0.N) {C0 C1 : FVec Ideal S8x1408 .f32} (h0 : Tail m c t col0 C0) (h1 : Tail m c t col1 C1)
    (x : FVec Ideal S1x128 .f32) (k : Fin 128) :
    k0_pay40 (F := Ideal) (yT m c t C0 C1) (msT m c t C0 C1) k0_pay35 (iblk m c 7 t)
      (View.ld (iblk m c 8 t) (Rect.unit ![5, 0] ![1, 1024] inb_S6x1024_S1x1024_5_0)) (iblk m c 5 t) (iblk m c 6 t) x (ix2 0 k)
      = x (ix2 0 k) + part13 m c t (ix2 0 k) := by
  rw [yT_eq t h0 h1, msT_eq t h0 h1]
  unfold k0_pay40
  rw [df_eq]
  pointwise [dfArr]
  simp only [Consts.f32_half]
  rfl

variable (m c) in
/-- What a point adds to the gradient of the gate row: the sum over its tokens. -/
def part14 (t : Fin cfg0.N) (i : S1x1024.Idx) : EReal :=
  ∑ r : Fin 512, (args m c).dout (row t r) (i 1) * (args m c).r2 (row t r) (i 1)

/-- The value a point stores for the gradient of the gate row, over what was there. -/
theorem store14 (t : Fin cfg0.N) {C0 C1 : FVec Ideal S8x1408 .f32} (h0 : Tail m c t col0 C0) (h1 : Tail m c t col1 C1)
    (x : FVec Ideal S1x1024 .f32) (j : Fin 1024) :
    k0_pay1 (F := Ideal) (k0_pay42 x) (k0_pay43 (yT m c t C0 C1) (msT m c t C0 C1) k0_pay35 (iblk m c 7 t)
      (View.ld (iblk m c 8 t) (Rect.unit ![5, 0] ![1, 1024] inb_S6x1024_S1x1024_5_0)) (iblk m c 5 t) (iblk m c 6 t)) (ix2 0 j)
      = x (ix2 0 j) + part14 m c t (ix2 0 j) := by
  rw [yT_eq t h0 h1, msT_eq t h0 h1]
  unfold k0_pay43
  rw [do_eq, r2_eq]
  pointwise [k0_pay1, k0_pay42, doArr, r2Arr]
  rfl

variable (m c) in
/-- What a point adds to the gradient of the gain: the sum over its tokens. -/
def part15 (t : Fin cfg0.N) (i : S1x1024.Idx) : EReal :=
  ∑ r : Fin 512, (args m c).dout (row t r) (i 1) * (args m c).M 5 (i 1) * (args m c).yn (row t r) (i 1)

/-- The value a point stores for the gradient of the gain, over what was there. -/
theorem store15 (t : Fin cfg0.N) {C0 C1 : FVec Ideal S8x1408 .f32} (h0 : Tail m c t col0 C0) (h1 : Tail m c t col1 C1)
    (x : FVec Ideal S1x1024 .f32) (j : Fin 1024) :
    k0_pay3 (F := Ideal) (k0_pay37 (yT m c t C0 C1) (msT m c t C0 C1) k0_pay35)
      (View.ld (iblk m c 8 t) (Rect.unit ![5, 0] ![1, 1024] inb_S6x1024_S1x1024_5_0))
      (k0_pay41 (yT m c t C0 C1) (msT m c t C0 C1) k0_pay35 (iblk m c 7 t)
      (View.ld (iblk m c 8 t) (Rect.unit ![5, 0] ![1, 1024] inb_S6x1024_S1x1024_5_0)) (iblk m c 5 t) (iblk m c 6 t)) x (ix2 0 j)
      = x (ix2 0 j) + part15 m c t (ix2 0 j) := by
  rw [yT_eq t h0 h1, msT_eq t h0 h1, do_eq, yn_eq]
  pointwise [k0_pay2, k0_pay3, doArr, ynArr]
  simp only [blk8]
  rfl

end Cert.KerSpec3

end
-- ==== Proof.Fwd3Rows.lean ====
/-
  What a grid point of the forward pass leaves: the kept rows of the gate, the blocks of the results, and the rows the kernel
  accumulates point by point.
-/
module

public import proofs.«01_k».proof.Proof.Fwd3Norm
public import proofs.«01_k».proof.Proof.Canon
public import Idealize.ShloMosaic.Lib.Pipeline.ReadBack

@[expose] public section

set_option maxRecDepth 16384

noncomputable section

namespace Cert.KerSpec3

open Idealize.ShloMosaic Idealize.ShloMosaic.TcCoe Idealize.SL.Sem
open Idealize.ShloMosaic.Pipeline (Dat)
open Cert.Kernel3Ideal Cert.Kernel3Ideal.Gen
open Cert.KerSpec (canon_init)

variable (m : (ℓ : Loc nD τ sig) → Buf (Elt Ideal) ℓ) (c : Dev nD)

theorem mod8 (t : Fin cfg0.N) : t.val % 8 = t.val := by have h : t.val < 8 := t.isLt; omega

/-- The rows kept of the block: the last eight rows of its gate, first half of the columns. -/
theorem keep0 (t : Fin cfg0.N) (r : Fin 8) (k : Fin 1408) : k0_pay20 (F := Ideal) (k0_pay11 (iblk m c 0 t)
    (View.ld (iblk m c 1 t) (Rect.unit ![0, 0, 0] ![1, 1024, 1408] inb_S4x1024x1408_S1x1024x1408_0_0_0))) (ix2 r k)
    = (args m c).base.gate (row t ⟨504 + r.val, by omega⟩) (col0 k) := by
  rw [gt0_eq]
  pointwise [k0_pay20, gtArr]

/-- The same, second half of the columns. -/
theorem keep1 (t : Fin cfg0.N) (r : Fin 8) (k : Fin 1408) : k0_pay32 (F := Ideal) (k0_pay31 (k0_pay9 (iblk m c 0 t))
    (View.ld (iblk m c 1 t) (Rect.unit ![1, 0, 0] ![1, 1024, 1408] inb_S4x1024x1408_S1x1024x1408_1_0_0))) (ix2 r k)
    = (args m c).base.gate (row t ⟨504 + r.val, by omega⟩) (col1 k) := by
  unfold k0_pay31
  rw [gt1_eq]
  pointwise [k0_pay32, gtArr]

/-- What a point stores for the gate, first half of the columns. -/
theorem gate0 (t : Fin cfg0.N) (r : Fin 512) (k : Fin 1408) : k0_pay12 (F := Ideal) (iblk m c 0 t)
    (View.ld (iblk m c 1 t) (Rect.unit ![0, 0, 0] ![1, 1024, 1408] inb_S4x1024x1408_S1x1024x1408_0_0_0)) (ix2 r k)
    = (args m c).base.gate (row t r) (col0 k) := by
  unfold k0_pay12
  rw [gt0_eq]
  pointwise [gtArr]

/-- The same, second half of the columns. -/
theorem gate1 (t : Fin cfg0.N) (r : Fin 512) (k : Fin 1408) : k0_pay25 (F := Ideal) (k0_pay9 (iblk m c 0 t))
    (View.ld (iblk m c 1 t) (Rect.unit ![1, 0, 0] ![1, 1024, 1408] inb_S4x1024x1408_S1x1024x1408_1_0_0)) (ix2 r k)
    = (args m c).base.gate (row t r) (col1 k) := by
  unfold k0_pay25
  rw [gt1_eq]
  pointwise [gtArr]

set_option maxHeartbeats 1600000 in
/-- What a point leaves in the kept rows. -/
theorem kept (t : Fin cfg0.N) (r : Fin 8) (j : Fin 2816) : (outsAt0 m c t.val t.isLt).2.2.2.2.2.2.2 (ix2 r j)
    = (args m c).base.gate (row t ⟨504 + r.val, by omega⟩) j := by
  by_cases h : t.val % 8 = 0
  · rw [outsAt0_A m c t h]
    frame_open
    simp (disch := decide) only [↓ View.readCov_skip, ↓ View.readCov_cons_toLoadRect, ↓ View.readCov_fill]
    frame_out
    clear h
    refine (canon_init _ _ (View.cover_of_tiledBy _ ![8, 128] (by sl_kernel_rfl) _)).trans ?_
    simp only [List.dropLast]
    canon_tiles x h using View.cover_of_tiledBy _ ![8, 128] (by sl_kernel_rfl) _
    · obtain ⟨z, k, rfl⟩ : ∃ (z : Fin 8) (k : Fin 1408), x = ix2 z k := ⟨x 0, x 1, ValueIdx.eq_ix2 x⟩
      obtain rfl : r = z := Fin.ext h0
      obtain ⟨j, hj⟩ := j
      obtain rfl : j = 1408 + k.val := h1
      exact keep1 m c t r k
    · obtain ⟨z, k, rfl⟩ : ∃ (z : Fin 8) (k : Fin 1408), x = ix2 z k := ⟨x 0, x 1, ValueIdx.eq_ix2 x⟩
      obtain rfl : r = z := Fin.ext h0
      obtain ⟨j, hj⟩ := j
      obtain rfl : j = k.val := h1
      exact keep0 m c t r k
  · rw [outsAt0_B m c t h]
    frame_out
    clear h
    canon_tiles x h using View.cover_of_tiledBy _ ![8, 128] (by sl_kernel_rfl) _
    · obtain ⟨z, k, rfl⟩ : ∃ (z : Fin 8) (k : Fin 1408), x = ix2 z k := ⟨x 0, x 1, ValueIdx.eq_ix2 x⟩
      obtain rfl : r = z := Fin.ext h0
      obtain ⟨j, hj⟩ := j
      obtain rfl : j = 1408 + k.val := h1
      exact keep1 m c t r k
    · obtain ⟨z, k, rfl⟩ : ∃ (z : Fin 8) (k : Fin 1408), x = ix2 z k := ⟨x 0, x 1, ValueIdx.eq_ix2 x⟩
      obtain rfl : r = z := Fin.ext h0
      obtain ⟨j, hj⟩ := j
      obtain rfl : j = k.val := h1
      exact keep0 m c t r k

theorem ld_kept0 (X : FVec Ideal S8x2816 .f32) (r : Fin 8) (k : Fin 1408) :
    View.ld (Val := Elt Ideal) (e' := .f32) X (Rect.unit ![0, 0] ![8, 1408] inb_S8x2816_S8x1408_0_0) (ix2 r k)
      = X (ix2 r (col0 k)) := by
  pointwise

theorem ld_kept1 (X : FVec Ideal S8x2816 .f32) (r : Fin 8) (k : Fin 1408) :
    View.ld (Val := Elt Ideal) (e' := .f32) X (Rect.unit ![0, 1408] ![8, 1408] inb_S8x2816_S8x1408_0_1408) (ix2 r k)
      = X (ix2 r (col1 k)) := by
  pointwise

/-- At the first point nothing is asked of the kept rows. -/
theorem tail_first (t : Fin cfg0.N) (h : t.val % 8 = 0) (col : Fin 1408 → Fin 2816) (C : FVec Ideal S8x1408 .f32) :
    Tail m c t col C := fun h' => absurd ((mod8 t).symm.trans h) h'

/-- Rows read from what the point before left are the last rows of the gate before the block. -/
theorem tail_next (t : Fin cfg0.N) (col : Fin 1408 → Fin 2816) (C : FVec Ideal S8x1408 .f32)
    (hC : ∀ r k, C (ix2 r k) = (outsAt0 m c (t.val - 1) (Nat.lt_of_le_of_lt (Nat.sub_le _ _) t.isLt)).2.2.2.2.2.2.2
      (ix2 r (col k))) : Tail m c t col C := by
  intro h r k
  have ht : t.val < 8 := t.isLt
  refine (hC r k).trans ((kept m c ⟨t.val - 1, Nat.lt_of_le_of_lt (Nat.sub_le _ _) t.isLt⟩ r (col k)).trans ?_)
  refine congrArg (fun s => (args m c).base.gate s (col k)) (Fin.ext ?_)
  show (t.val - 1) * 512 + (504 + r.val) = t.val * 512 - 8 + r.val
  omega

set_option maxHeartbeats 1600000 in
/-- What a point leaves in its block of the cotangent of the layer's output. -/
theorem at11 (t : Fin cfg0.N) : (outsAt0 m c t.val t.isLt).2.2.1 = dyArr m c t := by
  by_cases h : t.val % 8 = 0
  · rw [outsAt0_A m c t h]
    frame_open
    simp (disch := decide) only [↓ View.readCov_skip, ↓ View.readCov_cons_toLoadRect, ↓ View.readCov_fill]
    frame_out
    exact store11 t (tail_first m c t h col0 _) (tail_first m c t h col1 _)
  · rw [outsAt0_B m c t h]
    frame_out
    refine store11 t (tail_next m c t col0 _ ?_) (tail_next m c t col1 _ ?_)
    · intro r k; rw [read_unread_whole]; exact ld_kept0 _ r k
    · intro r k; rw [read_unread_whole]; exact ld_kept1 _ r k

set_option maxHeartbeats 1600000 in
/-- What a point leaves in its block of the cotangent of the stream. -/
theorem at12 (t : Fin cfg0.N) : (outsAt0 m c t.val t.isLt).2.2.2.1 = doArr m c t := by
  by_cases h : t.val % 8 = 0
  · rw [outsAt0_A m c t h]
    frame_open
    simp (disch := decide) only [↓ View.readCov_skip, ↓ View.readCov_cons_toLoadRect, ↓ View.readCov_fill]
    frame_out
    exact store12 t (tail_first m c t h col0 _) (tail_first m c t h col1 _)
  · rw [outsAt0_B m c t h]
    frame_out
    refine store12 t (tail_next m c t col0 _ ?_) (tail_next m c t col1 _ ?_)
    · intro r k; rw [read_unread_whole]; exact ld_kept0 _ r k
    · intro r k; rw [read_unread_whole]; exact ld_kept1 _ r k

set_option maxHeartbeats 1600000 in
/-- What a point leaves in its block of the gate. -/
theorem at9 (t : Fin cfg0.N) (b : Fin 512) (j : Fin 2816) :
    (outsAt0 m c t.val t.isLt).1 (ix2 b j) = (args m c).base.gate (row t b) j := by
  by_cases h : t.val % 8 = 0
  · rw [outsAt0_A m c t h]
    frame_open
    simp (disch := decide) only [↓ View.readCov_skip, ↓ View.readCov_cons_toLoadRect, ↓ View.readCov_fill]
    frame_out
    clear h
    canon_tiles x h using View.cover_of_tiledBy _ ![512, 128] (by sl_kernel_rfl) _
    · obtain ⟨z, k, rfl⟩ : ∃ (z : Fin 512) (k : Fin 1408), x = ix2 z k := ⟨x 0, x 1, ValueIdx.eq_ix2 x⟩
      obtain rfl : b = z := Fin.ext h0
      obtain ⟨j, hj⟩ := j
      obtain rfl : j = 1408 + k.val := h1
      exact gate1 m c t b k
    · obtain ⟨z, k, rfl⟩ : ∃ (z : Fin 512) (k : Fin 1408), x = ix2 z k := ⟨x 0, x 1, ValueIdx.eq_ix2 x⟩
      obtain rfl : b = z := Fin.ext h0
      obtain ⟨j, hj⟩ := j
      obtain rfl : j = k.val := h1
      exact gate0 m c t b k
  · rw [outsAt0_B m c t h]
    frame_out
    clear h
    canon_tiles x h using View.cover_of_tiledBy _ ![512, 128] (by sl_kernel_rfl) _
    · obtain ⟨z, k, rfl⟩ : ∃ (z : Fin 512) (k : Fin 1408), x = ix2 z k := ⟨x 0, x 1, ValueIdx.eq_ix2 x⟩
      obtain rfl : b = z := Fin.ext h0
      obtain ⟨j, hj⟩ := j
      obtain rfl : j = 1408 + k.val := h1
      exact gate1 m c t b k
    · obtain ⟨z, k, rfl⟩ : ∃ (z : Fin 512) (k : Fin 1408), x = ix2 z k := ⟨x 0, x 1, ValueIdx.eq_ix2 x⟩
      obtain rfl : b = z := Fin.ext h0
      obtain ⟨j, hj⟩ := j
      obtain rfl : j = k.val := h1
      exact gate0 m c t b k

set_option maxHeartbeats 1600000 in
/-- What a point leaves in its block of the value half. -/
theorem at10 (t : Fin cfg0.N) (b : Fin 512) (j : Fin 2816) :
    (outsAt0 m c t.val t.isLt).2.1 (ix2 b j) = (args m c).base.value (row t b) j := by
  by_cases h : t.val % 8 = 0
  · rw [outsAt0_A m c t h]
    frame_open
    simp (disch := decide) only [↓ View.readCov_skip, ↓ View.readCov_cons_toLoadRect, ↓ View.readCov_fill]
    frame_out
    clear h
    canon_tiles x h using View.cover_of_tiledBy _ ![512, 128] (by sl_kernel_rfl) _
    · obtain ⟨z, k, rfl⟩ : ∃ (z : Fin 512) (k : Fin 1408), x = ix2 z k := ⟨x 0, x 1, ValueIdx.eq_ix2 x⟩
      obtain rfl : b = z := Fin.ext h0
      obtain ⟨j, hj⟩ := j
      obtain rfl : j = 1408 + k.val := h1
      exact congrFun (vl1_eq t) (ix2 b k)
    · obtain ⟨z, k, rfl⟩ : ∃ (z : Fin 512) (k : Fin 1408), x = ix2 z k := ⟨x 0, x 1, ValueIdx.eq_ix2 x⟩
      obtain rfl : b = z := Fin.ext h0
      obtain ⟨j, hj⟩ := j
      obtain rfl : j = k.val := h1
      exact congrFun (vl0_eq t) (ix2 b k)
  · rw [outsAt0_B m c t h]
    frame_out
    clear h
    canon_tiles x h using View.cover_of_tiledBy _ ![512, 128] (by sl_kernel_rfl) _
    · obtain ⟨z, k, rfl⟩ : ∃ (z : Fin 512) (k : Fin 1408), x = ix2 z k := ⟨x 0, x 1, ValueIdx.eq_ix2 x⟩
      obtain rfl : b = z := Fin.ext h0
      obtain ⟨j, hj⟩ := j
      obtain rfl : j = 1408 + k.val := h1
      exact congrFun (vl1_eq t) (ix2 b k)
    · obtain ⟨z, k, rfl⟩ : ∃ (z : Fin 512) (k : Fin 1408), x = ix2 z k := ⟨x 0, x 1, ValueIdx.eq_ix2 x⟩
      obtain rfl : b = z := Fin.ext h0
      obtain ⟨j, hj⟩ := j
      obtain rfl : j = k.val := h1
      exact congrFun (vl0_eq t) (ix2 b k)

set_option maxHeartbeats 1600000 in
theorem first13 (t : Fin cfg0.N) (h : t.val % 8 = 0) (y : S1x128.Idx) :
    (outsAt0 m c t.val t.isLt).2.2.2.2.1 y = 0 + part13 m c t y := by
  obtain ⟨b, j, rfl⟩ : ∃ (b : Fin 1) (j : Fin 128), y = ix2 b j := ⟨y 0, y 1, ValueIdx.eq_ix2 y⟩
  obtain rfl : b = 0 := Subsingleton.elim _ _
  rw [outsAt0_A m c t h]
  frame_open
  simp (disch := decide) only [↓ View.readCov_skip, ↓ View.readCov_cons_toLoadRect, ↓ View.readCov_fill]
  frame_out
  refine (store13 t (tail_first m c t h col0 _) (tail_first m c t h col1 _) _ j).trans (congrArg (· + part13 m c t (ix2 0 j)) ?_)
  pointwise [k0_pay6]

set_option maxHeartbeats 1600000 in
theorem next13 (t : Fin cfg0.N) (h : ¬ t.val % 8 = 0) (y : S1x128.Idx) :
    (outsAt0 m c t.val t.isLt).2.2.2.2.1 y
      = (outsAt0 m c (t.val - 1) (Nat.lt_of_le_of_lt (Nat.sub_le _ _) t.isLt)).2.2.2.2.1 y + part13 m c t y := by
  obtain ⟨b, j, rfl⟩ : ∃ (b : Fin 1) (j : Fin 128), y = ix2 b j := ⟨y 0, y 1, ValueIdx.eq_ix2 y⟩
  obtain rfl : b = 0 := Subsingleton.elim _ _
  rw [outsAt0_B m c t h]
  frame_out
  refine store13 t (tail_next m c t col0 _ ?_) (tail_next m c t col1 _ ?_) _ j
  · intro r k; rw [read_unread_whole]; exact ld_kept0 _ r k
  · intro r k; rw [read_unread_whole]; exact ld_kept1 _ r k

set_option maxHeartbeats 1600000 in
theorem first14 (t : Fin cfg0.N) (h : t.val % 8 = 0) (y : S1x1024.Idx) :
    (outsAt0 m c t.val t.isLt).2.2.2.2.2.1 y = 0 + part14 m c t y := by
  obtain ⟨b, j, rfl⟩ : ∃ (b : Fin 1) (j : Fin 1024), y = ix2 b j := ⟨y 0, y 1, ValueIdx.eq_ix2 y⟩
  obtain rfl : b = 0 := Subsingleton.elim _ _
  rw [outsAt0_A m c t h]
  frame_open
  simp (disch := decide) only [↓ View.readCov_skip, ↓ View.readCov_cons_toLoadRect, ↓ View.readCov_fill]
  frame_out
  refine (store14 t (tail_first m c t h col0 _) (tail_first m c t h col1 _) _ j).trans (congrArg (· + part14 m c t (ix2 0 j)) ?_)
  pointwise [k0_pay7]

set_option maxHeartbeats 1600000 in
theorem next14 (t : Fin cfg0.N) (h : ¬ t.val % 8 = 0) (y : S1x1024.Idx) :
    (outsAt0 m c t.val t.isLt).2.2.2.2.2.1 y
      = (outsAt0 m c (t.val - 1) (Nat.lt_of_le_of_lt (Nat.sub_le _ _) t.isLt)).2.2.2.2.2.1 y + part14 m c t y := by
  obtain ⟨b, j, rfl⟩ : ∃ (b : Fin 1) (j : Fin 1024), y = ix2 b j := ⟨y 0, y 1, ValueIdx.eq_ix2 y⟩
  obtain rfl : b = 0 := Subsingleton.elim _ _
  rw [outsAt0_B m c t h]
  frame_out
  refine store14 t (tail_next m c t col0 _ ?_) (tail_next m c t col1 _ ?_) _ j
  · intro r k; rw [read_unread_whole]; exact ld_kept0 _ r k
  · intro r k; rw [read_unread_whole]; exact ld_kept1 _ r k

set_option maxHeartbeats 1600000 in
theorem first15 (t : Fin cfg0.N) (h : t.val % 8 = 0) (y : S1x1024.Idx) :
    (outsAt0 m c t.val t.isLt).2.2.2.2.2.2.1 y = 0 + part15 m c t y := by
  obtain ⟨b, j, rfl⟩ : ∃ (b : Fin 1) (j : Fin 1024), y = ix2 b j := ⟨y 0, y 1, ValueIdx.eq_ix2 y⟩
  obtain rfl : b = 0 := Subsingleton.elim _ _
  rw [outsAt0_A m c t h]
  frame_open
  simp (disch := decide) only [↓ View.readCov_skip, ↓ View.readCov_cons_toLoadRect, ↓ View.readCov_fill]
  frame_out
  refine (store15 t (tail_first m c t h col0 _) (tail_first m c t h col1 _) _ j).trans (congrArg (· + part15 m c t (ix2 0 j)) ?_)
  pointwise [k0_pay8]

set_option maxHeartbeats 1600000 in
theorem next15 (t : Fin cfg0.N) (h : ¬ t.val % 8 = 0) (y : S1x1024.Idx) :
    (outsAt0 m c t.val t.isLt).2.2.2.2.2.2.1 y
      = (outsAt0 m c (t.val - 1) (Nat.lt_of_le_of_lt (Nat.sub_le _ _) t.isLt)).2.2.2.2.2.2.1 y + part15 m c t y := by
  obtain ⟨b, j, rfl⟩ : ∃ (b : Fin 1) (j : Fin 1024), y = ix2 b j := ⟨y 0, y 1, ValueIdx.eq_ix2 y⟩
  obtain rfl : b = 0 := Subsingleton.elim _ _
  rw [outsAt0_B m c t h]
  frame_out
  refine store15 t (tail_next m c t col0 _ ?_) (tail_next m c t col1 _ ?_) _ j
  · intro r k; rw [read_unread_whole]; exact ld_kept0 _ r k
  · intro r k; rw [read_unread_whole]; exact ld_kept1 _ r k

end Cert.KerSpec3

end
-- ==== Proof.Fwd3Final.lean ====
/-
  The results of the forward pass, as the kernel leaves them.
-/
module

public import proofs.«01_k».proof.Proof.Fwd3Rows

@[expose] public section

set_option maxRecDepth 16384

noncomputable section

namespace Cert.KerSpec3

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ) (c : Dev nD)

/-- The gate before the convolution, as an array. -/
def gateArr : FVec Ideal S4096x2816 .bf16 := fun i => (args m c).base.gate (i 0) (i 1)

/-- The value half, as an array. -/
def valueArr : FVec Ideal S4096x2816 .bf16 := fun i => (args m c).base.value (i 0) (i 1)

/-- The cotangent of the layer's output, as an array. -/
def dy2Arr : FVec Ideal S4096x1024 .bf16 := fun i => (args m c).dy (i 0) (i 1)

/-- The cotangent of the stream, as an array. -/
def doutArr : FVec Ideal S4096x1024 .f32 := fun i => (args m c).dout (i 0) (i 1)

/-- The loss, in every column. -/
def lossArr : FVec Ideal S1x128 .f32 := fun _ => (args m c).loss

/-- The gradient of the gate row, as an array. -/
def dgtArr : FVec Ideal S1x1024 .f32 := fun i => (args m c).dgt (i 1)

/-- The gradient of the gain, as an array. -/
def dgArr : FVec Ideal S1x1024 .f32 := fun i => (args m c).dg (i 1)

theorem final9 : (dats m 0 c).arrAt 9 cfg0.N = gateArr m c := by
  refine (dats m 0 c).arrAt_eq_of_covers 9 _ (by decide +kernel) fun t hf y => ?_
  obtain ⟨b, j, rfl⟩ : ∃ (b : Fin 512) (j : Fin 2816), y = ix2 b j := ⟨y 0, y 1, ValueIdx.eq_ix2 y⟩
  have e : gateArr m c ((win0_9.rect t).emb (ix2 b j)) = (args m c).base.gate (row t b) j := by
    refine congrArg₂ (args m c).base.gate (Fin.ext ?_) (Fin.ext ?_) <;> blk_simp [idx t] <;>
      first | rfl | exact Nat.zero_add _
  refine Eq.trans ?_ e.symm
  blk_simp
  rw [after0_9]
  exact at9 m c t b j

theorem final10 : (dats m 0 c).arrAt 10 cfg0.N = valueArr m c := by
  refine (dats m 0 c).arrAt_eq_of_covers 10 _ (by decide +kernel) fun t hf y => ?_
  obtain ⟨b, j, rfl⟩ : ∃ (b : Fin 512) (j : Fin 2816), y = ix2 b j := ⟨y 0, y 1, ValueIdx.eq_ix2 y⟩
  have e : valueArr m c ((win0_10.rect t).emb (ix2 b j)) = (args m c).base.value (row t b) j := by
    refine congrArg₂ (args m c).base.value (Fin.ext ?_) (Fin.ext ?_) <;> blk_simp [idx t] <;>
      first | rfl | exact Nat.zero_add _
  refine Eq.trans ?_ e.symm
  blk_simp
  rw [after0_10]
  exact at10 m c t b j

theorem final11 : (dats m 0 c).arrAt 11 cfg0.N = dy2Arr m c := by
  refine (dats m 0 c).arrAt_eq_of_covers 11 _ (by decide +kernel) fun t hf y => ?_
  obtain ⟨b, j, rfl⟩ : ∃ (b : Fin 512) (j : Fin 1024), y = ix2 b j := ⟨y 0, y 1, ValueIdx.eq_ix2 y⟩
  have e : dy2Arr m c ((win0_11.rect t).emb (ix2 b j)) = (args m c).dy (row t b) j := by
    refine congrArg₂ (args m c).dy (Fin.ext ?_) (Fin.ext ?_) <;> blk_simp [idx t] <;>
      first | rfl | exact Nat.zero_add _
  refine Eq.trans ?_ e.symm
  blk_simp
  rw [after0_11]
  exact congrFun (at11 m c t) (ix2 b j)

theorem final12 : (dats m 0 c).arrAt 12 cfg0.N = doutArr m c := by
  refine (dats m 0 c).arrAt_eq_of_covers 12 _ (by decide +kernel) fun t hf y => ?_
  obtain ⟨b, j, rfl⟩ : ∃ (b : Fin 512) (j : Fin 1024), y = ix2 b j := ⟨y 0, y 1, ValueIdx.eq_ix2 y⟩
  have e : doutArr m c ((win0_12.rect t).emb (ix2 b j)) = (args m c).dout (row t b) j := by
    refine congrArg₂ (args m c).dout (Fin.ext ?_) (Fin.ext ?_) <;> blk_simp [idx t] <;>
      first | rfl | exact Nat.zero_add _
  refine Eq.trans ?_ e.symm
  blk_simp
  rw [after0_12]
  exact congrFun (at12 m c t) (ix2 b j)

/-- Point `s` of the run of eight that point `t` ends. -/
abbrev pt (t : Fin cfg0.N) (s : Fin 8) : Fin cfg0.N :=
  ⟨8 * (t.val / 8) + s.val, by have h : t.val < 8 := t.isLt; show _ < 8; omega⟩

/-- A sum over the eight blocks of tokens, block by block, is the sum over the tokens. -/
theorem sum_rows (t : Fin cfg0.N) (f : Fin 4096 → EReal) :
    ∑ s : Fin 8, ∑ r : Fin 512, f (row (pt t s) r) = ∑ r : Fin 4096, f r := by
  refine Fin.sum_mul_add_congr fun s r hl => congrArg f (Fin.ext ?_)
  have h : t.val < 8 := t.isLt
  show (8 * (t.val / 8) + s.val) * 512 + r.val = s.val * 512 + r.val
  omega

theorem final13 (hA : (args m c).Finite) : (dats m 0 c).arrAt 13 cfg0.N = lossArr m c := by
  refine (dats m 0 c).arrAt_eq_of_covers 13 _ (by decide +kernel) fun t hf y => ?_
  obtain ⟨b, j, rfl⟩ : ∃ (b : Fin 1) (j : Fin 128), y = ix2 b j := ⟨y 0, y 1, ValueIdx.eq_ix2 y⟩
  have e : lossArr m c ((win0_13.rect t).emb (ix2 b j)) = (args m c).loss := rfl
  refine Eq.trans ?_ e.symm
  blk_simp
  rw [after0_13, Pipeline.eq_sum_fin_of_reset_step_apply_of_flush (fun n h => (outsAt0 m c n h).2.2.2.2.1) 8 (fun _ => 0)
    (part13 m c) (first13 m c) (next13 m c) t ((flush0_13 t).mp hf) _, zero_add]
  refine Eq.trans (Finset.sum_congr (M := EReal) rfl fun s _ => Spec3.Args.part_eq hA (fun r => row (pt t s) r)) ?_
  exact (sum_rows t (fun r => Spec.half * Ideal.div (∑ q, (args m c).diff r q * (args m c).diff r q) Spec2.width)).trans
    (Spec3.Args.loss_eq hA)

theorem final14 : (dats m 0 c).arrAt 14 cfg0.N = dgtArr m c := by
  refine (dats m 0 c).arrAt_eq_of_covers 14 _ (by decide +kernel) fun t hf y => ?_
  obtain ⟨b, j, rfl⟩ : ∃ (b : Fin 1) (j : Fin 1024), y = ix2 b j := ⟨y 0, y 1, ValueIdx.eq_ix2 y⟩
  have e : dgtArr m c ((win0_14.rect t).emb (ix2 b j)) = (args m c).dgt j := by
    refine congrArg (args m c).dgt (Fin.ext ?_) <;> blk_simp [idx t] <;> first | rfl | exact Nat.zero_add _
  refine Eq.trans ?_ e.symm
  blk_simp
  rw [after0_14, Pipeline.eq_sum_fin_of_reset_step_apply_of_flush (fun n h => (outsAt0 m c n h).2.2.2.2.2.1) 8 (fun _ => 0)
    (part14 m c) (first14 m c) (next14 m c) t ((flush0_14 t).mp hf) _, zero_add]
  exact sum_rows t (fun r => (args m c).dout r j * (args m c).r2 r j)

theorem final15 : (dats m 0 c).arrAt 15 cfg0.N = dgArr m c := by
  refine (dats m 0 c).arrAt_eq_of_covers 15 _ (by decide +kernel) fun t hf y => ?_
  obtain ⟨b, j, rfl⟩ : ∃ (b : Fin 1) (j : Fin 1024), y = ix2 b j := ⟨y 0, y 1, ValueIdx.eq_ix2 y⟩
  have e : dgArr m c ((win0_15.rect t).emb (ix2 b j)) = (args m c).dg j := by
    refine congrArg (args m c).dg (Fin.ext ?_) <;> blk_simp [idx t] <;> first | rfl | exact Nat.zero_add _
  refine Eq.trans ?_ e.symm
  blk_simp
  rw [after0_15, Pipeline.eq_sum_fin_of_reset_step_apply_of_flush (fun n h => (outsAt0 m c n h).2.2.2.2.2.2.1) 8 (fun _ => 0)
    (part15 m c) (first15 m c) (next15 m c) t ((flush0_15 t).mp hf) _, zero_add]
  exact sum_rows t (fun r => (args m c).dout r j * (args m c).M 5 j * (args m c).yn r j)

end Cert.KerSpec3

end
-- ==== Proof.Fwd3Pre.lean ====
/-
  The precondition of the layer's forward pass, read back: its tests say that the operands, and the modulation row read, are real.
-/
module

public import proofs.«01_k».proof.Defs
public import proofs.«01_k».proof.Proof.Pre
public import proofs.«01_k».proof.Proof.Fwd3Ref
public import proofs.«01_k».proof.Proof.Gen.Pre_finite3
public import Idealize.ShloMosaic.Lib.ReduceAll

@[expose] public section

noncomputable section

namespace Cert.Pre3

open Idealize.ShloMosaic Idealize.ShloMosaic.TcCoe Idealize.SL.Sem
open Cert.Pre (real_of_lt)

instance : Subsingleton Pre_finite3.S_.Idx := ⟨fun a b => funext fun k => k.elim0⟩

variable (x0 : FVec Ideal Pre_finite3.S4096x1024 .f32) (x1 : FVec Ideal Pre_finite3.S1024x5632 .f32)
  (x2 : FVec Ideal Pre_finite3.S3x2816 .f32) (x3 : FVec Ideal Pre_finite3.S1x2816 .f32)
  (x4 : FVec Ideal Pre_finite3.S2816x1024 .f32) (x5 x6 : FVec Ideal Pre_finite3.S4096x1024 .f32)
  (x7 : FVec Ideal Pre_finite3.S1x1024 .f32) (x8 : FVec Ideal Pre_finite3.S6x1024 .f32)

/-- Row 5 of the modulation, read from its slice. -/
theorem row5 (x : FVec Ideal Pre_finite3.S6x1024 .f32) (q : Fin 1024) : extractStridedSlice Pre_finite3.S1x1024 ![5, 0] x
    Pre_finite3.Facts.slices_S6x1024_S1x1024_5_0 (ix2 0 q) = x (ix2 5 q) := by
  pointwise

/-- The precondition says that the operands are real. -/
theorem finite_of (h : Pre_finite3.fn (F := Ideal) x0 x1 x2 x3 x4 x5 x6 x7 x8 = fun _ => 1#1) :
    (RefSpec3.args x0 x1 x2 x3 x4 x5 x6 x7 x8).Finite := by
  have h := congrFun h (Shape.Idx.first Pre_finite3.Gen.h_S_)
  dsimp only [Pre_finite3.fn, Pre_finite3.fn_part1, Pre_finite3.fn_part2] at h
  obtain ⟨h, h8⟩ := IntOp.andi_eq_one.mp h
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨fun r q => real_of_lt (Host.reduce_andi_all _ _ _ _ _ h0 (ix2 r q)),
    fun q j => real_of_lt (Host.reduce_andi_all _ _ _ _ _ h1 (ix2 q j)),
    fun k j => real_of_lt (Host.reduce_andi_all _ _ _ _ _ h2 (ix2 k j)),
    fun j => real_of_lt (Host.reduce_andi_all _ _ _ _ _ h3 (ix2 0 j)),
    fun j q => real_of_lt (Host.reduce_andi_all _ _ _ _ _ h4 (ix2 j q)),
    fun r q => real_of_lt (Host.reduce_andi_all _ _ _ _ _ h5 (ix2 r q)),
    fun r q => real_of_lt (Host.reduce_andi_all _ _ _ _ _ h6 (ix2 r q)),
    fun q => real_of_lt (Host.reduce_andi_all _ _ _ _ _ h7 (ix2 0 q)),
    fun q => (real_of_lt (Host.reduce_andi_all _ _ _ _ _ h8 (ix2 0 q))).imp fun _ e => (row5 x8 q).symm.trans e⟩

end Cert.Pre3

end
-- ==== Proof.Fwd3.lean ====
/-
  The claims about the forward pass of the gated layer and the loss (`ffn_fwd`): the two runs, and their results set side by
  side through the layer's mathematics (Fwd3Spec.lean).
-/
module

public import proofs.«01_k».proof.Defs
public import proofs.«01_k».proof.Proof.Fwd3Final
public import proofs.«01_k».proof.Proof.Fwd3Pre
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read

@[expose] public section

set_option maxRecDepth 16384

noncomputable section

namespace Cert.Fwd3

open Idealize.ShloMosaic Idealize.ShloMosaic.TcCoe Idealize.SL.Sem
open Cert.KerSpec3

/-- The two constants named are the two the table holds. -/
theorem preserves : Cert.preserves_Kernel3_Kernel3Ideal :=
  ⟨IdealRules.named_const.statement Cert.Kernel3Ideal.κ "gelu_c1" .bf16 0x3D12#16 ((80338380498831/2251799813685248 : ℝ) : EReal) rfl,
    IdealRules.named_const.statement Cert.Kernel3Ideal.κ "gelu_c0" .bf16 0x3F4C#16 ((6693141/8388608 : ℝ) : EReal) rfl⟩

theorem frame_ref : Cert.quiescent_Reference3Ideal := fun m ρ _ =>
  (θ_run Cert.Reference3Ideal.defs _ _).mono (fun r h =>
    ⟨fun c => (h c).2.2.2.2.2.2.2, Idealize.ShloMosaic.sem_eq_zero_of_no_sems (by decide) r.2⟩)
    (Cert.Reference3Ideal.Value.run (F := Ideal) m ρ)

theorem frames : Cert.quiescent_Kernel3 ∧ Cert.quiescent_Kernel3Ideal ∧ Cert.quiescent_Kernel3Ideal_pre_finite3
    ∧ Cert.quiescent_Reference3Ideal ∧ Cert.quiescent_Reference3Ideal_pre_finite3 :=
  ⟨fun m ρ _ => Cert.Kernel3.Gen.frame m ρ, fun m ρ _ => Cert.Kernel3Ideal.Gen.frame m ρ,
    fun m ρ _ => Cert.Kernel3Ideal.Gen.frame m ρ, frame_ref, fun m ρ _ => frame_ref m ρ trivial⟩

section Results

variable (m : (ℓ : Loc Cert.Kernel3Ideal.nD Cert.Kernel3Ideal.τ Cert.Kernel3Ideal.sig) → Buf (Elt Ideal) ℓ)
  (c : Dev Cert.Kernel3Ideal.nD)

/-- The nine arguments. -/
abbrev a0 := m ((c.tc : Thread Cert.Kernel3Ideal.nD Cert.Kernel3Ideal.τ).loc Cert.Kernel3Ideal.main_arg0)
abbrev a1 := m ((c.tc : Thread Cert.Kernel3Ideal.nD Cert.Kernel3Ideal.τ).loc Cert.Kernel3Ideal.main_arg1)
abbrev a2 := m ((c.tc : Thread Cert.Kernel3Ideal.nD Cert.Kernel3Ideal.τ).loc Cert.Kernel3Ideal.main_arg2)
abbrev a3 := m ((c.tc : Thread Cert.Kernel3Ideal.nD Cert.Kernel3Ideal.τ).loc Cert.Kernel3Ideal.main_arg3)
abbrev a4 := m ((c.tc : Thread Cert.Kernel3Ideal.nD Cert.Kernel3Ideal.τ).loc Cert.Kernel3Ideal.main_arg4)
abbrev a5 := m ((c.tc : Thread Cert.Kernel3Ideal.nD Cert.Kernel3Ideal.τ).loc Cert.Kernel3Ideal.main_arg5)
abbrev a6 := m ((c.tc : Thread Cert.Kernel3Ideal.nD Cert.Kernel3Ideal.τ).loc Cert.Kernel3Ideal.main_arg6)
abbrev a7 := m ((c.tc : Thread Cert.Kernel3Ideal.nD Cert.Kernel3Ideal.τ).loc Cert.Kernel3Ideal.main_arg7)
abbrev a8 := m ((c.tc : Thread Cert.Kernel3Ideal.nD Cert.Kernel3Ideal.τ).loc Cert.Kernel3Ideal.main_arg8)

open Cert.Reference3Ideal.Read

theorem ref_gate : val_main_v100 (F := Ideal) (a0 m c) (a1 m c) = gateArr m c := by
  funext i
  obtain ⟨r, j, rfl⟩ : ∃ (r : Fin 4096) (j : Fin 2816), i = ix2 r j := ⟨i 0, i 1, ValueIdx.eq_ix2 i⟩
  exact RefSpec3.gateb_at (a0 m c) (a1 m c) (a2 m c) (a3 m c) (a4 m c) (a5 m c) (a6 m c) (a7 m c) (a8 m c) r j

theorem ref_value : val_main_v101 (F := Ideal) (a0 m c) (a1 m c) = valueArr m c := by
  funext i
  obtain ⟨r, j, rfl⟩ : ∃ (r : Fin 4096) (j : Fin 2816), i = ix2 r j := ⟨i 0, i 1, ValueIdx.eq_ix2 i⟩
  exact RefSpec3.valueb_at (a0 m c) (a1 m c) (a2 m c) (a3 m c) (a4 m c) (a5 m c) (a6 m c) (a7 m c) (a8 m c) r j

theorem ref_dy (h : (args m c).Finite) : val_main_v102 (F := Ideal) (a0 m c) (a1 m c) (a2 m c) (a3 m c) (a4 m c) (a5 m c) (a6 m c) (a7 m c) (a8 m c) = dy2Arr m c := by
  funext i
  obtain ⟨r, j, rfl⟩ : ∃ (r : Fin 4096) (j : Fin 1024), i = ix2 r j := ⟨i 0, i 1, ValueIdx.eq_ix2 i⟩
  exact RefSpec3.dy_at (a0 m c) (a1 m c) (a2 m c) (a3 m c) (a4 m c) (a5 m c) (a6 m c) (a7 m c) (a8 m c) h r j

theorem ref_dout (h : (args m c).Finite) : val_main_v75 (F := Ideal) (a0 m c) (a1 m c) (a2 m c) (a3 m c) (a4 m c) (a5 m c) (a6 m c) (a7 m c) (a8 m c) = doutArr m c := by
  funext i
  obtain ⟨r, j, rfl⟩ : ∃ (r : Fin 4096) (j : Fin 1024), i = ix2 r j := ⟨i 0, i 1, ValueIdx.eq_ix2 i⟩
  exact RefSpec3.dout_at (a0 m c) (a1 m c) (a2 m c) (a3 m c) (a4 m c) (a5 m c) (a6 m c) (a7 m c) (a8 m c) h r j

theorem ref_loss : val_main_v103 (F := Ideal) (a0 m c) (a1 m c) (a2 m c) (a3 m c) (a4 m c) (a5 m c) (a6 m c) (a7 m c) (a8 m c) = lossArr m c := by
  funext i
  obtain ⟨r, j, rfl⟩ : ∃ (r : Fin 1) (j : Fin 128), i = ix2 r j := ⟨i 0, i 1, ValueIdx.eq_ix2 i⟩
  obtain rfl : r = 0 := Subsingleton.elim _ _
  exact RefSpec3.loss_at (a0 m c) (a1 m c) (a2 m c) (a3 m c) (a4 m c) (a5 m c) (a6 m c) (a7 m c) (a8 m c) j

theorem ref_dgt (h : (args m c).Finite) : val_main_v80 (F := Ideal) (a0 m c) (a1 m c) (a2 m c) (a3 m c) (a4 m c) (a5 m c) (a6 m c) (a7 m c) (a8 m c) = dgtArr m c := by
  funext i
  obtain ⟨r, j, rfl⟩ : ∃ (r : Fin 1) (j : Fin 1024), i = ix2 r j := ⟨i 0, i 1, ValueIdx.eq_ix2 i⟩
  obtain rfl : r = 0 := Subsingleton.elim _ _
  exact RefSpec3.dgt_at (a0 m c) (a1 m c) (a2 m c) (a3 m c) (a4 m c) (a5 m c) (a6 m c) (a7 m c) (a8 m c) h j

theorem ref_dg (h : (args m c).Finite) : val_main_v83 (F := Ideal) (a0 m c) (a1 m c) (a2 m c) (a3 m c) (a4 m c) (a5 m c) (a6 m c) (a7 m c) (a8 m c) = dgArr m c := by
  funext i
  obtain ⟨r, j, rfl⟩ : ∃ (r : Fin 1) (j : Fin 1024), i = ix2 r j := ⟨i 0, i 1, ValueIdx.eq_ix2 i⟩
  obtain rfl : r = 0 := Subsingleton.elim _ _
  exact RefSpec3.dg_at (a0 m c) (a1 m c) (a2 m c) (a3 m c) (a4 m c) (a5 m c) (a6 m c) (a7 m c) (a8 m c) h j

end Results

open Cert.Reference3Ideal.Read in
/-- The kernel's seven results are the reference's. -/
theorem algebraic : Cert.algebraic_Kernel3Ideal_Reference3Ideal_pre_finite3 := by
  intro m g m' g' hpre hagree
  have hfin : ∀ c, (args m c).Finite := fun c => Pre3.finite_of _ _ _ _ _ _ _ _ _ (hpre c)
  refine ⟨fun c => gateArr m c, fun c => valueArr m c, fun c => dy2Arr m c, fun c => doutArr m c, fun c => lossArr m c,
    fun c => dgtArr m c, fun c => dgArr m c, ?_, ?_⟩
  · refine (θ_run Cert.Kernel3Ideal.defs _ _).mono (fun r h c => ?_) (Cert.Kernel3Ideal.Value.run_blocks (F := Ideal) m g)
    obtain ⟨h9, h10, h11, h12, h13, h14, h15, hk⟩ := h c
    exact ⟨h9.trans (final9 m c), h10.trans (final10 m c), h11.trans (final11 m c), h12.trans (final12 m c),
      h13.trans (final13 m c (hfin c)), h14.trans (final14 m c), h15.trans (final15 m c), hk⟩
  · refine (θ_run Cert.Reference3Ideal.defs _ _).mono (fun r h c => ?_) (Cert.Reference3Ideal.Value.run (F := Ideal) m' g')
    obtain ⟨e0, e1, e2, e3, e4, e5, e6, e7, e8⟩ := hagree c
    obtain ⟨h0, h1, h2, h3, h4, h5, h6, hk⟩ := h c
    have h0 : r.2.mem ((c.tc : Thread Cert.Reference3Ideal.nD Cert.Reference3Ideal.τ).loc Cert.Reference3Ideal.main_v100)
        = val_main_v100 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) :=
      h0.trans (val_main_v100_eq _)
    have h1 : r.2.mem ((c.tc : Thread Cert.Reference3Ideal.nD Cert.Reference3Ideal.τ).loc Cert.Reference3Ideal.main_v101)
        = val_main_v101 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) :=
      h1.trans (val_main_v101_eq _)
    have h2 : r.2.mem ((c.tc : Thread Cert.Reference3Ideal.nD Cert.Reference3Ideal.τ).loc Cert.Reference3Ideal.main_v102)
        = val_main_v102 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) :=
      h2.trans (val_main_v102_eq _)
    have h3 : r.2.mem ((c.tc : Thread Cert.Reference3Ideal.nD Cert.Reference3Ideal.τ).loc Cert.Reference3Ideal.main_v75)
        = val_main_v75 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) :=
      h3.trans (val_main_v75_eq _)
    have h4 : r.2.mem ((c.tc : Thread Cert.Reference3Ideal.nD Cert.Reference3Ideal.τ).loc Cert.Reference3Ideal.main_v103)
        = val_main_v103 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) :=
      h4.trans (val_main_v103_eq _)
    have h5 : r.2.mem ((c.tc : Thread Cert.Reference3Ideal.nD Cert.Reference3Ideal.τ).loc Cert.Reference3Ideal.main_v80)
        = val_main_v80 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) :=
      h5.trans (val_main_v80_eq _)
    have h6 : r.2.mem ((c.tc : Thread Cert.Reference3Ideal.nD Cert.Reference3Ideal.τ).loc Cert.Reference3Ideal.main_v83)
        = val_main_v83 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) :=
      h6.trans (val_main_v83_eq _)
    rw [e0, e1] at h0 h1
    rw [e0, e1, e2, e3, e4, e5, e6, e7, e8] at h2 h3 h4 h5 h6
    exact ⟨h0.trans (ref_gate m c), h1.trans (ref_value m c), h2.trans (ref_dy m c (hfin c)), h3.trans (ref_dout m c (hfin c)),
      h4.trans (ref_loss m c), h5.trans (ref_dgt m c (hfin c)), h6.trans (ref_dg m c (hfin c)), hk⟩

end Cert.Fwd3

end
-- ==== Proof.AdamSpec.lean ====
/-
  One step of the optimiser on one element of a weight: the new moments and the update, as functions of the weight, its
  gradient and the two moments kept.
-/
module

public import Idealize.ShloMosaic.PureOps.Ideal.Laws

@[expose] public section

noncomputable section

namespace Cert.AdamSpec

open Idealize.ShloMosaic

/-- The first moment after the step. -/
def newM (g m : EReal) : EReal := Ideal.ofBits .f32 0x3F666666#32 * m + Ideal.ofBits .f32 0x3DCCCCCD#32 * g

/-- The second moment after the step. -/
def newV (g v : EReal) : EReal := Ideal.ofBits .f32 0x3F7FBE77#32 * v + Ideal.ofBits .f32 0x3A83126F#32 * (g * g)

/-- The update of the weight. -/
def delta (w g m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
    + Ideal.ofBits .f32 0x3C23D70A#32 * w)

end Cert.AdamSpec

end
-- ==== Proof.Adam4.lean ====
/-
  The claims about the optimiser's step on the up projection (`adamw_rows`): the two runs, and their results set side by side,
  element by element (AdamSpec.lean).
-/
module

public import proofs.«01_k».proof.Defs
public import proofs.«01_k».proof.Proof.AdamSpec
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit

@[expose] public section

set_option maxRecDepth 16384

noncomputable section

namespace Cert.Adam4

open Idealize.ShloMosaic Idealize.ShloMosaic.TcCoe Idealize.SL.Sem
open Idealize.ShloMosaic.Pipeline (Dat)
open Cert.AdamSpec

/-- No constant is named here. -/
theorem preserves : Cert.preserves_Kernel4_Kernel4Ideal := trivial

theorem frames : Cert.quiescent_Kernel4 ∧ Cert.quiescent_Kernel4Ideal ∧ Cert.quiescent_Reference4Ideal :=
  ⟨fun m ρ _ => Cert.Kernel4.Gen.frame m ρ, fun m ρ _ => Cert.Kernel4Ideal.Gen.frame m ρ,
    fun m ρ _ => (θ_run Cert.Reference4Ideal.defs _ _).mono (fun r h =>
      ⟨fun c => (h c).2.2.2.2, Idealize.ShloMosaic.sem_eq_zero_of_no_sems (by decide) r.2⟩)
      (Cert.Reference4Ideal.Value.run (F := Ideal) m ρ)⟩

section Kernel

open Cert.Kernel4Ideal Cert.Kernel4Ideal.Gen

variable (m : (ℓ : Loc nD τ sig) → Buf (Elt Ideal) ℓ) (c : Dev nD)

/-- The weight, its gradient and the two moments, as the launch finds them. -/
abbrev a0 : FVec Ideal S1024x1408 .f32 := m ((c.tc : Thread nD τ).loc main_arg0)
abbrev a1 : FVec Ideal S1024x1408 .f32 := m ((c.tc : Thread nD τ).loc main_arg1)
abbrev a2 : FVec Ideal S1024x1408 .f32 := m ((c.tc : Thread nD τ).loc main_arg2)
abbrev a3 : FVec Ideal S1024x1408 .f32 := m ((c.tc : Thread nD τ).loc main_arg3)

/-- The update, as an array. -/
def deltaArr : FVec Ideal S1024x1408 .f32 := fun i => delta (a0 m c i) (a1 m c i) (a2 m c i) (a3 m c i)

/-- The first moment after the step, as an array. -/
def mArr : FVec Ideal S1024x1408 .f32 := fun i => newM (a1 m c i) (a2 m c i)

/-- The second moment after the step, as an array. -/
def vArr : FVec Ideal S1024x1408 .f32 := fun i => newV (a1 m c i) (a3 m c i)

theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- The weight's row of row `b` of point `t`'s block. -/
abbrev row (t : Fin cfg0.N) (b : Fin 256) : Fin 1024 := ⟨t.val * 256 + b.val, by have h : t.val < 4 := t.isLt; omega⟩

theorem blk0 (t : Fin cfg0.N) (b : Fin 256) (j : Fin 1408) : iblk m c 0 t (ix2 b j) = a0 m c (ix2 (row t b) j) := by
  blk_point [iblk, V, idx t]

theorem blk1 (t : Fin cfg0.N) (b : Fin 256) (j : Fin 1408) : iblk m c 1 t (ix2 b j) = a1 m c (ix2 (row t b) j) := by
  blk_point [iblk, V, idx t]

theorem blk2 (t : Fin cfg0.N) (b : Fin 256) (j : Fin 1408) : iblk m c 2 t (ix2 b j) = a2 m c (ix2 (row t b) j) := by
  blk_point [iblk, V, idx t]

theorem blk3 (t : Fin cfg0.N) (b : Fin 256) (j : Fin 1408) : iblk m c 3 t (ix2 b j) = a3 m c (ix2 (row t b) j) := by
  blk_point [iblk, V, idx t]

variable (x0 x1 x2 x3 : Vec Ideal S256x1408 .f32) (i : S256x1408.Idx)

theorem out4 : out0_4 x0 x1 x2 x3 i = x1 i := by
  unfold out0_4
  frame_out

theorem out5 : out0_5 x0 x1 x2 x3 i = delta (x0 i) (x1 i) (x2 i) (x3 i) := by
  unfold out0_5
  frame_out
  rfl

theorem out6 : out0_6 x0 x1 x2 x3 i = newM (x1 i) (x2 i) := by
  unfold out0_6
  frame_out
  rfl

theorem out7 : out0_7 x0 x1 x2 x3 i = newV (x1 i) (x3 i) := by
  unfold out0_7
  frame_out
  rfl

theorem final4 : (dats m 0 c).arrAt 4 cfg0.N = a1 m c := by
  refine (dats m 0 c).arrAt_eq_of_covers 4 _ (by decide +kernel) fun t hf y => ?_
  obtain ⟨b, j, rfl⟩ : ∃ (b : Fin 256) (j : Fin 1408), y = ix2 b j := ⟨y 0, y 1, ValueIdx.eq_ix2 y⟩
  have e : a1 m c ((win0_4.rect t).emb (ix2 b j)) = a1 m c (ix2 (row t b) j) := by
    refine congrArg (a1 m c) (funext fun a => ?_)
    fin_cases a <;> refine Fin.ext ?_ <;> blk_simp [idx t] <;> first | rfl | exact Nat.zero_add _
  refine Eq.trans ?_ e.symm
  blk_simp
  rw [after0_4, out4]
  exact blk1 m c t b j

theorem final5 : (dats m 0 c).arrAt 5 cfg0.N = deltaArr m c := by
  refine (dats m 0 c).arrAt_eq_of_covers 5 _ (by decide +kernel) fun t hf y => ?_
  obtain ⟨b, j, rfl⟩ : ∃ (b : Fin 256) (j : Fin 1408), y = ix2 b j := ⟨y 0, y 1, ValueIdx.eq_ix2 y⟩
  have e : deltaArr m c ((win0_5.rect t).emb (ix2 b j)) = deltaArr m c (ix2 (row t b) j) := by
    refine congrArg (deltaArr m c) (funext fun a => ?_)
    fin_cases a <;> refine Fin.ext ?_ <;> blk_simp [idx t] <;> first | rfl | exact Nat.zero_add _
  refine Eq.trans ?_ e.symm
  blk_simp
  rw [after0_5, out5]
  rw [blk0, blk1, blk2, blk3]; rfl

theorem final6 : (dats m 0 c).arrAt 6 cfg0.N = mArr m c := by
  refine (dats m 0 c).arrAt_eq_of_covers 6 _ (by decide +kernel) fun t hf y => ?_
  obtain ⟨b, j, rfl⟩ : ∃ (b : Fin 256) (j : Fin 1408), y = ix2 b j := ⟨y 0, y 1, ValueIdx.eq_ix2 y⟩
  have e : mArr m c ((win0_6.rect t).emb (ix2 b j)) = mArr m c (ix2 (row t b) j) := by
    refine congrArg (mArr m c) (funext fun a => ?_)
    fin_cases a <;> refine Fin.ext ?_ <;> blk_simp [idx t] <;> first | rfl | exact Nat.zero_add _
  refine Eq.trans ?_ e.symm
  blk_simp
  rw [after0_6, out6]
  rw [blk1, blk2]; rfl

theorem final7 : (dats m 0 c).arrAt 7 cfg0.N = vArr m c := by
  refine (dats m 0 c).arrAt_eq_of_covers 7 _ (by decide +kernel) fun t hf y => ?_
  obtain ⟨b, j, rfl⟩ : ∃ (b : Fin 256) (j : Fin 1408), y = ix2 b j := ⟨y 0, y 1, ValueIdx.eq_ix2 y⟩
  have e : vArr m c ((win0_7.rect t).emb (ix2 b j)) = vArr m c (ix2 (row t b) j) := by
    refine congrArg (vArr m c) (funext fun a => ?_)
    fin_cases a <;> refine Fin.ext ?_ <;> blk_simp [idx t] <;> first | rfl | exact Nat.zero_add _
  refine Eq.trans ?_ e.symm
  blk_simp
  rw [after0_7, out7]
  rw [blk1, blk3]; rfl

end Kernel

section Reference

open Cert.Reference4Ideal Cert.Reference4Ideal.Read

variable (x0 x1 x2 x3 : FVec Ideal S1024x1408 .f32) (i : S1024x1408.Idx)

theorem ref_m : val_main_v4 (F := Ideal) x1 x2 i = newM (x1 i) (x2 i) := by
  simp only [val_main_v4_apply, val_main_v3_apply, val_main_v2_apply, val_main_v1_apply, val_main_v0_apply,
    val_main_cst_apply, val_main_cst_0_apply]
  rfl

theorem ref_v : val_main_v10 (F := Ideal) x1 x3 i = newV (x1 i) (x3 i) := by
  simp only [val_main_v10_apply, val_main_v9_apply, val_main_v8_apply, val_main_v7_apply, val_main_v6_apply,
    val_main_v5_apply, val_main_cst_1_apply, val_main_cst_2_apply]
  rfl

theorem ref_delta : val_main_v23 (F := Ideal) x0 x1 x2 x3 i = delta (x0 i) (x1 i) (x2 i) (x3 i) := by
  simp only [val_main_v23_apply, val_main_v22_apply, val_main_v21_apply, val_main_v20_apply, val_main_v19_apply,
    val_main_v18_apply, val_main_v17_apply, val_main_v16_apply, val_main_v15_apply, val_main_v14_apply,
    val_main_v13_apply, val_main_v12_apply, val_main_v11_apply, val_main_cst_3_apply, val_main_cst_4_apply,
    val_main_cst_5_apply, val_main_cst_6_apply, val_main_cst_7_apply, ref_m, ref_v]
  rfl

end Reference

open Cert.Reference4Ideal.Read in
/-- The kernel's four results are the reference's. -/
theorem algebraic : Cert.algebraic_Kernel4Ideal_Reference4Ideal := by
  intro m g m' g' _ hagree
  refine ⟨fun c => a1 m c, fun c => deltaArr m c, fun c => mArr m c, fun c => vArr m c, ?_, ?_⟩
  · refine (θ_run Cert.Kernel4Ideal.defs _ _).mono (fun r h c => ?_) (Cert.Kernel4Ideal.Value.run_blocks (F := Ideal) m g)
    obtain ⟨h4, h5, h6, h7, hk⟩ := h c
    exact ⟨h4.trans (final4 m c), h5.trans (final5 m c), h6.trans (final6 m c), h7.trans (final7 m c), hk⟩
  · refine (θ_run Cert.Reference4Ideal.defs _ _).mono (fun r h c => ?_) (Cert.Reference4Ideal.Value.run (F := Ideal) m' g')
    obtain ⟨e0, e1, e2, e3⟩ := hagree c
    obtain ⟨h0, h1, h2, h3, hk⟩ := h c
    have h1 := h1.trans (val_main_v23_eq _ _ _ _)
    have h2 := h2.trans (val_main_v4_eq _ _)
    have h3 := h3.trans (val_main_v10_eq _ _)
    rw [e0, e1, e2, e3] at h1
    rw [e1, e2] at h2
    rw [e1, e3] at h3
    exact ⟨h0.trans e1, h1.trans (funext fun i => ref_delta _ _ _ _ i), h2.trans (funext fun i => ref_m _ _ i),
      h3.trans (funext fun i => ref_v _ _ i), hk⟩

end Cert.Adam4

end
-- ==== Proof.Adam5.lean ====
/-
  The claims about the optimiser's step on the down projection (`adamw_rows`): the two runs, and their results set side by side,
  element by element (AdamSpec.lean).
-/
module

public import proofs.«01_k».proof.Defs
public import proofs.«01_k».proof.Proof.AdamSpec
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit

@[expose] public section

set_option maxRecDepth 16384

noncomputable section

namespace Cert.Adam5

open Idealize.ShloMosaic Idealize.ShloMosaic.TcCoe Idealize.SL.Sem
open Idealize.ShloMosaic.Pipeline (Dat)
open Cert.AdamSpec

/-- No constant is named here. -/
theorem preserves : Cert.preserves_Kernel5_Kernel5Ideal := trivial

theorem frames : Cert.quiescent_Kernel5 ∧ Cert.quiescent_Kernel5Ideal ∧ Cert.quiescent_Reference5Ideal :=
  ⟨fun m ρ _ => Cert.Kernel5.Gen.frame m ρ, fun m ρ _ => Cert.Kernel5Ideal.Gen.frame m ρ,
    fun m ρ _ => (θ_run Cert.Reference5Ideal.defs _ _).mono (fun r h =>
      ⟨fun c => (h c).2.2.2.2, Idealize.ShloMosaic.sem_eq_zero_of_no_sems (by decide) r.2⟩)
      (Cert.Reference5Ideal.Value.run (F := Ideal) m ρ)⟩

section Kernel

open Cert.Kernel5Ideal Cert.Kernel5Ideal.Gen

variable (m : (ℓ : Loc nD τ sig) → Buf (Elt Ideal) ℓ) (c : Dev nD)

/-- The weight, its gradient and the two moments, as the launch finds them. -/
abbrev a0 : FVec Ideal S704x1024 .f32 := m ((c.tc : Thread nD τ).loc main_arg0)
abbrev a1 : FVec Ideal S704x1024 .f32 := m ((c.tc : Thread nD τ).loc main_arg1)
abbrev a2 : FVec Ideal S704x1024 .f32 := m ((c.tc : Thread nD τ).loc main_arg2)
abbrev a3 : FVec Ideal S704x1024 .f32 := m ((c.tc : Thread nD τ).loc main_arg3)

/-- The update, as an array. -/
def deltaArr : FVec Ideal S704x1024 .f32 := fun i => delta (a0 m c i) (a1 m c i) (a2 m c i) (a3 m c i)

/-- The first moment after the step, as an array. -/
def mArr : FVec Ideal S704x1024 .f32 := fun i => newM (a1 m c i) (a2 m c i)

/-- The second moment after the step, as an array. -/
def vArr : FVec Ideal S704x1024 .f32 := fun i => newV (a1 m c i) (a3 m c i)

theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- The weight's row of row `b` of point `t`'s block. -/
abbrev row (t : Fin cfg0.N) (b : Fin 352) : Fin 704 := ⟨t.val * 352 + b.val, by have h : t.val < 2 := t.isLt; omega⟩

theorem blk0 (t : Fin cfg0.N) (b : Fin 352) (j : Fin 1024) : iblk m c 0 t (ix2 b j) = a0 m c (ix2 (row t b) j) := by
  blk_point [iblk, V, idx t]

theorem blk1 (t : Fin cfg0.N) (b : Fin 352) (j : Fin 1024) : iblk m c 1 t (ix2 b j) = a1 m c (ix2 (row t b) j) := by
  blk_point [iblk, V, idx t]

theorem blk2 (t : Fin cfg0.N) (b : Fin 352) (j : Fin 1024) : iblk m c 2 t (ix2 b j) = a2 m c (ix2 (row t b) j) := by
  blk_point [iblk, V, idx t]

theorem blk3 (t : Fin cfg0.N) (b : Fin 352) (j : Fin 1024) : iblk m c 3 t (ix2 b j) = a3 m c (ix2 (row t b) j) := by
  blk_point [iblk, V, idx t]

variable (x0 x1 x2 x3 : Vec Ideal S352x1024 .f32) (i : S352x1024.Idx)

theorem out4 : out0_4 x0 x1 x2 x3 i = x1 i := by
  unfold out0_4
  frame_out

theorem out5 : out0_5 x0 x1 x2 x3 i = delta (x0 i) (x1 i) (x2 i) (x3 i) := by
  unfold out0_5
  frame_out
  rfl

theorem out6 : out0_6 x0 x1 x2 x3 i = newM (x1 i) (x2 i) := by
  unfold out0_6
  frame_out
  rfl

theorem out7 : out0_7 x0 x1 x2 x3 i = newV (x1 i) (x3 i) := by
  unfold out0_7
  frame_out
  rfl

theorem final4 : (dats m 0 c).arrAt 4 cfg0.N = a1 m c := by
  refine (dats m 0 c).arrAt_eq_of_covers 4 _ (by decide +kernel) fun t hf y => ?_
  obtain ⟨b, j, rfl⟩ : ∃ (b : Fin 352) (j : Fin 1024), y = ix2 b j := ⟨y 0, y 1, ValueIdx.eq_ix2 y⟩
  have e : a1 m c ((win0_4.rect t).emb (ix2 b j)) = a1 m c (ix2 (row t b) j) := by
    refine congrArg (a1 m c) (funext fun a => ?_)
    fin_cases a <;> refine Fin.ext ?_ <;> blk_simp [idx t] <;> first | rfl | exact Nat.zero_add _
  refine Eq.trans ?_ e.symm
  blk_simp
  rw [after0_4, out4]
  exact blk1 m c t b j

theorem final5 : (dats m 0 c).arrAt 5 cfg0.N = deltaArr m c := by
  refine (dats m 0 c).arrAt_eq_of_covers 5 _ (by decide +kernel) fun t hf y => ?_
  obtain ⟨b, j, rfl⟩ : ∃ (b : Fin 352) (j : Fin 1024), y = ix2 b j := ⟨y 0, y 1, ValueIdx.eq_ix2 y⟩
  have e : deltaArr m c ((win0_5.rect t).emb (ix2 b j)) = deltaArr m c (ix2 (row t b) j) := by
    refine congrArg (deltaArr m c) (funext fun a => ?_)
    fin_cases a <;> refine Fin.ext ?_ <;> blk_simp [idx t] <;> first | rfl | exact Nat.zero_add _
  refine Eq.trans ?_ e.symm
  blk_simp
  rw [after0_5, out5]
  rw [blk0, blk1, blk2, blk3]; rfl

theorem final6 : (dats m 0 c).arrAt 6 cfg0.N = mArr m c := by
  refine (dats m 0 c).arrAt_eq_of_covers 6 _ (by decide +kernel) fun t hf y => ?_
  obtain ⟨b, j, rfl⟩ : ∃ (b : Fin 352) (j : Fin 1024), y = ix2 b j := ⟨y 0, y 1, ValueIdx.eq_ix2 y⟩
  have e : mArr m c ((win0_6.rect t).emb (ix2 b j)) = mArr m c (ix2 (row t b) j) := by
    refine congrArg (mArr m c) (funext fun a => ?_)
    fin_cases a <;> refine Fin.ext ?_ <;> blk_simp [idx t] <;> first | rfl | exact Nat.zero_add _
  refine Eq.trans ?_ e.symm
  blk_simp
  rw [after0_6, out6]
  rw [blk1, blk2]; rfl

theorem final7 : (dats m 0 c).arrAt 7 cfg0.N = vArr m c := by
  refine (dats m 0 c).arrAt_eq_of_covers 7 _ (by decide +kernel) fun t hf y => ?_
  obtain ⟨b, j, rfl⟩ : ∃ (b : Fin 352) (j : Fin 1024), y = ix2 b j := ⟨y 0, y 1, ValueIdx.eq_ix2 y⟩
  have e : vArr m c ((win0_7.rect t).emb (ix2 b j)) = vArr m c (ix2 (row t b) j) := by
    refine congrArg (vArr m c) (funext fun a => ?_)
    fin_cases a <;> refine Fin.ext ?_ <;> blk_simp [idx t] <;> first | rfl | exact Nat.zero_add _
  refine Eq.trans ?_ e.symm
  blk_simp
  rw [after0_7, out7]
  rw [blk1, blk3]; rfl

end Kernel

section Reference

open Cert.Reference5Ideal Cert.Reference5Ideal.Read

variable (x0 x1 x2 x3 : FVec Ideal S704x1024 .f32) (i : S704x1024.Idx)

theorem ref_m : val_main_v4 (F := Ideal) x1 x2 i = newM (x1 i) (x2 i) := by
  simp only [val_main_v4_apply, val_main_v3_apply, val_main_v2_apply, val_main_v1_apply, val_main_v0_apply,
    val_main_cst_apply, val_main_cst_0_apply]
  rfl

theorem ref_v : val_main_v10 (F := Ideal) x1 x3 i = newV (x1 i) (x3 i) := by
  simp only [val_main_v10_apply, val_main_v9_apply, val_main_v8_apply, val_main_v7_apply, val_main_v6_apply,
    val_main_v5_apply, val_main_cst_1_apply, val_main_cst_2_apply]
  rfl

theorem ref_delta : val_main_v23 (F := Ideal) x0 x1 x2 x3 i = delta (x0 i) (x1 i) (x2 i) (x3 i) := by
  simp only [val_main_v23_apply, val_main_v22_apply, val_main_v21_apply, val_main_v20_apply, val_main_v19_apply,
    val_main_v18_apply, val_main_v17_apply, val_main_v16_apply, val_main_v15_apply, val_main_v14_apply,
    val_main_v13_apply, val_main_v12_apply, val_main_v11_apply, val_main_cst_3_apply, val_main_cst_4_apply,
    val_main_cst_5_apply, val_main_cst_6_apply, val_main_cst_7_apply, ref_m, ref_v]
  rfl

end Reference

open Cert.Reference5Ideal.Read in
/-- The kernel's four results are the reference's. -/
theorem algebraic : Cert.algebraic_Kernel5Ideal_Reference5Ideal := by
  intro m g m' g' _ hagree
  refine ⟨fun c => a1 m c, fun c => deltaArr m c, fun c => mArr m c, fun c => vArr m c, ?_, ?_⟩
  · refine (θ_run Cert.Kernel5Ideal.defs _ _).mono (fun r h c => ?_) (Cert.Kernel5Ideal.Value.run_blocks (F := Ideal) m g)
    obtain ⟨h4, h5, h6, h7, hk⟩ := h c
    exact ⟨h4.trans (final4 m c), h5.trans (final5 m c), h6.trans (final6 m c), h7.trans (final7 m c), hk⟩
  · refine (θ_run Cert.Reference5Ideal.defs _ _).mono (fun r h c => ?_) (Cert.Reference5Ideal.Value.run (F := Ideal) m' g')
    obtain ⟨e0, e1, e2, e3⟩ := hagree c
    obtain ⟨h0, h1, h2, h3, hk⟩ := h c
    have h1 := h1.trans (val_main_v23_eq _ _ _ _)
    have h2 := h2.trans (val_main_v4_eq _ _)
    have h3 := h3.trans (val_main_v10_eq _ _)
    rw [e0, e1, e2, e3] at h1
    rw [e1, e2] at h2
    rw [e1, e3] at h3
    exact ⟨h0.trans e1, h1.trans (funext fun i => ref_delta _ _ _ _ i), h2.trans (funext fun i => ref_m _ _ i),
      h3.trans (funext fun i => ref_v _ _ i), hk⟩

end Cert.Adam5

end
-- ==== Proof.Adam6.lean ====
/-
  The claims about the optimiser's step on the input projection (`adamw_rows`): the two runs, and their results set side by side,
  element by element (AdamSpec.lean).
-/
module

public import proofs.«01_k».proof.Defs
public import proofs.«01_k».proof.Proof.AdamSpec
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit

@[expose] public section

set_option maxRecDepth 16384

noncomputable section

namespace Cert.Adam6

open Idealize.ShloMosaic Idealize.ShloMosaic.TcCoe Idealize.SL.Sem
open Idealize.ShloMosaic.Pipeline (Dat)
open Cert.AdamSpec

/-- No constant is named here. -/
theorem preserves : Cert.preserves_Kernel6_Kernel6Ideal := trivial

theorem frames : Cert.quiescent_Kernel6 ∧ Cert.quiescent_Kernel6Ideal ∧ Cert.quiescent_Reference6Ideal :=
  ⟨fun m ρ _ => Cert.Kernel6.Gen.frame m ρ, fun m ρ _ => Cert.Kernel6Ideal.Gen.frame m ρ,
    fun m ρ _ => (θ_run Cert.Reference6Ideal.defs _ _).mono (fun r h =>
      ⟨fun c => (h c).2.2.2.2, Idealize.ShloMosaic.sem_eq_zero_of_no_sems (by decide) r.2⟩)
      (Cert.Reference6Ideal.Value.run (F := Ideal) m ρ)⟩

section Kernel

open Cert.Kernel6Ideal Cert.Kernel6Ideal.Gen

variable (m : (ℓ : Loc nD τ sig) → Buf (Elt Ideal) ℓ) (c : Dev nD)

/-- The weight, its gradient and the two moments, as the launch finds them. -/
abbrev a0 : FVec Ideal S1024x640 .f32 := m ((c.tc : Thread nD τ).loc main_arg0)
abbrev a1 : FVec Ideal S1024x640 .f32 := m ((c.tc : Thread nD τ).loc main_arg1)
abbrev a2 : FVec Ideal S1024x640 .f32 := m ((c.tc : Thread nD τ).loc main_arg2)
abbrev a3 : FVec Ideal S1024x640 .f32 := m ((c.tc : Thread nD τ).loc main_arg3)

/-- The update, as an array. -/
def deltaArr : FVec Ideal S1024x640 .f32 := fun i => delta (a0 m c i) (a1 m c i) (a2 m c i) (a3 m c i)

/-- The first moment after the step, as an array. -/
def mArr : FVec Ideal S1024x640 .f32 := fun i => newM (a1 m c i) (a2 m c i)

/-- The second moment after the step, as an array. -/
def vArr : FVec Ideal S1024x640 .f32 := fun i => newV (a1 m c i) (a3 m c i)

theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- The weight's row of row `b` of point `t`'s block. -/
abbrev row (t : Fin cfg0.N) (b : Fin 256) : Fin 1024 := ⟨t.val * 256 + b.val, by have h : t.val < 4 := t.isLt; omega⟩

theorem blk0 (t : Fin cfg0.N) (b : Fin 256) (j : Fin 640) : iblk m c 0 t (ix2 b j) = a0 m c (ix2 (row t b) j) := by
  blk_point [iblk, V, idx t]

theorem blk1 (t : Fin cfg0.N) (b : Fin 256) (j : Fin 640) : iblk m c 1 t (ix2 b j) = a1 m c (ix2 (row t b) j) := by
  blk_point [iblk, V, idx t]

theorem blk2 (t : Fin cfg0.N) (b : Fin 256) (j : Fin 640) : iblk m c 2 t (ix2 b j) = a2 m c (ix2 (row t b) j) := by
  blk_point [iblk, V, idx t]

theorem blk3 (t : Fin cfg0.N) (b : Fin 256) (j : Fin 640) : iblk m c 3 t (ix2 b j) = a3 m c (ix2 (row t b) j) := by
  blk_point [iblk, V, idx t]

variable (x0 x1 x2 x3 : Vec Ideal S256x640 .f32) (i : S256x640.Idx)

theorem out4 : out0_4 x0 x1 x2 x3 i = x1 i := by
  unfold out0_4
  frame_out

theorem out5 : out0_5 x0 x1 x2 x3 i = delta (x0 i) (x1 i) (x2 i) (x3 i) := by
  unfold out0_5
  frame_out
  rfl

theorem out6 : out0_6 x0 x1 x2 x3 i = newM (x1 i) (x2 i) := by
  unfold out0_6
  frame_out
  rfl

theorem out7 : out0_7 x0 x1 x2 x3 i = newV (x1 i) (x3 i) := by
  unfold out0_7
  frame_out
  rfl

theorem final4 : (dats m 0 c).arrAt 4 cfg0.N = a1 m c := by
  refine (dats m 0 c).arrAt_eq_of_covers 4 _ (by decide +kernel) fun t hf y => ?_
  obtain ⟨b, j, rfl⟩ : ∃ (b : Fin 256) (j : Fin 640), y = ix2 b j := ⟨y 0, y 1, ValueIdx.eq_ix2 y⟩
  have e : a1 m c ((win0_4.rect t).emb (ix2 b j)) = a1 m c (ix2 (row t b) j) := by
    refine congrArg (a1 m c) (funext fun a => ?_)
    fin_cases a <;> refine Fin.ext ?_ <;> blk_simp [idx t] <;> first | rfl | exact Nat.zero_add _
  refine Eq.trans ?_ e.symm
  blk_simp
  rw [after0_4, out4]
  exact blk1 m c t b j

theorem final5 : (dats m 0 c).arrAt 5 cfg0.N = deltaArr m c := by
  refine (dats m 0 c).arrAt_eq_of_covers 5 _ (by decide +kernel) fun t hf y => ?_
  obtain ⟨b, j, rfl⟩ : ∃ (b : Fin 256) (j : Fin 640), y = ix2 b j := ⟨y 0, y 1, ValueIdx.eq_ix2 y⟩
  have e : deltaArr m c ((win0_5.rect t).emb (ix2 b j)) = deltaArr m c (ix2 (row t b) j) := by
    refine congrArg (deltaArr m c) (funext fun a => ?_)
    fin_cases a <;> refine Fin.ext ?_ <;> blk_simp [idx t] <;> first | rfl | exact Nat.zero_add _
  refine Eq.trans ?_ e.symm
  blk_simp
  rw [after0_5, out5]
  rw [blk0, blk1, blk2, blk3]; rfl

theorem final6 : (dats m 0 c).arrAt 6 cfg0.N = mArr m c := by
  refine (dats m 0 c).arrAt_eq_of_covers 6 _ (by decide +kernel) fun t hf y => ?_
  obtain ⟨b, j, rfl⟩ : ∃ (b : Fin 256) (j : Fin 640), y = ix2 b j := ⟨y 0, y 1, ValueIdx.eq_ix2 y⟩
  have e : mArr m c ((win0_6.rect t).emb (ix2 b j)) = mArr m c (ix2 (row t b) j) := by
    refine congrArg (mArr m c) (funext fun a => ?_)
    fin_cases a <;> refine Fin.ext ?_ <;> blk_simp [idx t] <;> first | rfl | exact Nat.zero_add _
  refine Eq.trans ?_ e.symm
  blk_simp
  rw [after0_6, out6]
  rw [blk1, blk2]; rfl

theorem final7 : (dats m 0 c).arrAt 7 cfg0.N = vArr m c := by
  refine (dats m 0 c).arrAt_eq_of_covers 7 _ (by decide +kernel) fun t hf y => ?_
  obtain ⟨b, j, rfl⟩ : ∃ (b : Fin 256) (j : Fin 640), y = ix2 b j := ⟨y 0, y 1, ValueIdx.eq_ix2 y⟩
  have e : vArr m c ((win0_7.rect t).emb (ix2 b j)) = vArr m c (ix2 (row t b) j) := by
    refine congrArg (vArr m c) (funext fun a => ?_)
    fin_cases a <;> refine Fin.ext ?_ <;> blk_simp [idx t] <;> first | rfl | exact Nat.zero_add _
  refine Eq.trans ?_ e.symm
  blk_simp
  rw [after0_7, out7]
  rw [blk1, blk3]; rfl

end Kernel

section Reference

open Cert.Reference6Ideal Cert.Reference6Ideal.Read

variable (x0 x1 x2 x3 : FVec Ideal S1024x640 .f32) (i : S1024x640.Idx)

theorem ref_m : val_main_v4 (F := Ideal) x1 x2 i = newM (x1 i) (x2 i) := by
  simp only [val_main_v4_apply, val_main_v3_apply, val_main_v2_apply, val_main_v1_apply, val_main_v0_apply,
    val_main_cst_apply, val_main_cst_0_apply]
  rfl

theorem ref_v : val_main_v10 (F := Ideal) x1 x3 i = newV (x1 i) (x3 i) := by
  simp only [val_main_v10_apply, val_main_v9_apply, val_main_v8_apply, val_main_v7_apply, val_main_v6_apply,
    val_main_v5_apply, val_main_cst_1_apply, val_main_cst_2_apply]
  rfl

theorem ref_delta : val_main_v23 (F := Ideal) x0 x1 x2 x3 i = delta (x0 i) (x1 i) (x2 i) (x3 i) := by
  simp only [val_main_v23_apply, val_main_v22_apply, val_main_v21_apply, val_main_v20_apply, val_main_v19_apply,
    val_main_v18_apply, val_main_v17_apply, val_main_v16_apply, val_main_v15_apply, val_main_v14_apply,
    val_main_v13_apply, val_main_v12_apply, val_main_v11_apply, val_main_cst_3_apply, val_main_cst_4_apply,
    val_main_cst_5_apply, val_main_cst_6_apply, val_main_cst_7_apply, ref_m, ref_v]
  rfl

end Reference

open Cert.Reference6Ideal.Read in
/-- The kernel's four results are the reference's. -/
theorem algebraic : Cert.algebraic_Kernel6Ideal_Reference6Ideal := by
  intro m g m' g' _ hagree
  refine ⟨fun c => a1 m c, fun c => deltaArr m c, fun c => mArr m c, fun c => vArr m c, ?_, ?_⟩
  · refine (θ_run Cert.Kernel6Ideal.defs _ _).mono (fun r h c => ?_) (Cert.Kernel6Ideal.Value.run_blocks (F := Ideal) m g)
    obtain ⟨h4, h5, h6, h7, hk⟩ := h c
    exact ⟨h4.trans (final4 m c), h5.trans (final5 m c), h6.trans (final6 m c), h7.trans (final7 m c), hk⟩
  · refine (θ_run Cert.Reference6Ideal.defs _ _).mono (fun r h c => ?_) (Cert.Reference6Ideal.Value.run (F := Ideal) m' g')
    obtain ⟨e0, e1, e2, e3⟩ := hagree c
    obtain ⟨h0, h1, h2, h3, hk⟩ := h c
    have h1 := h1.trans (val_main_v23_eq _ _ _ _)
    have h2 := h2.trans (val_main_v4_eq _ _)
    have h3 := h3.trans (val_main_v10_eq _ _)
    rw [e0, e1, e2, e3] at h1
    rw [e1, e2] at h2
    rw [e1, e3] at h3
    exact ⟨h0.trans e1, h1.trans (funext fun i => ref_delta _ _ _ _ i), h2.trans (funext fun i => ref_m _ _ i),
      h3.trans (funext fun i => ref_v _ _ i), hk⟩

end Cert.Adam6

end
-- ==== Proof.Adam7.lean ====
/-
  The claims about the optimiser's step on the output projection (`adamw_rows`): the two runs, and their results set side by side,
  element by element (AdamSpec.lean).
-/
module

public import proofs.«01_k».proof.Defs
public import proofs.«01_k».proof.Proof.AdamSpec
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit

@[expose] public section

set_option maxRecDepth 16384

noncomputable section

namespace Cert.Adam7

open Idealize.ShloMosaic Idealize.ShloMosaic.TcCoe Idealize.SL.Sem
open Idealize.ShloMosaic.Pipeline (Dat)
open Cert.AdamSpec

/-- No constant is named here. -/
theorem preserves : Cert.preserves_Kernel7_Kernel7Ideal := trivial

theorem frames : Cert.quiescent_Kernel7 ∧ Cert.quiescent_Kernel7Ideal ∧ Cert.quiescent_Reference7Ideal :=
  ⟨fun m ρ _ => Cert.Kernel7.Gen.frame m ρ, fun m ρ _ => Cert.Kernel7Ideal.Gen.frame m ρ,
    fun m ρ _ => (θ_run Cert.Reference7Ideal.defs _ _).mono (fun r h =>
      ⟨fun c => (h c).2.2.2.2, Idealize.ShloMosaic.sem_eq_zero_of_no_sems (by decide) r.2⟩)
      (Cert.Reference7Ideal.Value.run (F := Ideal) m ρ)⟩

section Kernel

open Cert.Kernel7Ideal Cert.Kernel7Ideal.Gen

variable (m : (ℓ : Loc nD τ sig) → Buf (Elt Ideal) ℓ) (c : Dev nD)

/-- The weight, its gradient and the two moments, as the launch finds them. -/
abbrev a0 : FVec Ideal S512x256 .f32 := m ((c.tc : Thread nD τ).loc main_arg0)
abbrev a1 : FVec Ideal S512x256 .f32 := m ((c.tc : Thread nD τ).loc main_arg1)
abbrev a2 : FVec Ideal S512x256 .f32 := m ((c.tc : Thread nD τ).loc main_arg2)
abbrev a3 : FVec Ideal S512x256 .f32 := m ((c.tc : Thread nD τ).loc main_arg3)

/-- The update, as an array. -/
def deltaArr : FVec Ideal S512x256 .f32 := fun i => delta (a0 m c i) (a1 m c i) (a2 m c i) (a3 m c i)

/-- The first moment after the step, as an array. -/
def mArr : FVec Ideal S512x256 .f32 := fun i => newM (a1 m c i) (a2 m c i)

/-- The second moment after the step, as an array. -/
def vArr : FVec Ideal S512x256 .f32 := fun i => newV (a1 m c i) (a3 m c i)

theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- The weight's row of row `b` of point `t`'s block. -/
abbrev row (t : Fin cfg0.N) (b : Fin 256) : Fin 512 := ⟨t.val * 256 + b.val, by have h : t.val < 2 := t.isLt; omega⟩

theorem blk0 (t : Fin cfg0.N) (b : Fin 256) (j : Fin 256) : iblk m c 0 t (ix2 b j) = a0 m c (ix2 (row t b) j) := by
  blk_point [iblk, V, idx t]

theorem blk1 (t : Fin cfg0.N) (b : Fin 256) (j : Fin 256) : iblk m c 1 t (ix2 b j) = a1 m c (ix2 (row t b) j) := by
  blk_point [iblk, V, idx t]

theorem blk2 (t : Fin cfg0.N) (b : Fin 256) (j : Fin 256) : iblk m c 2 t (ix2 b j) = a2 m c (ix2 (row t b) j) := by
  blk_point [iblk, V, idx t]

theorem blk3 (t : Fin cfg0.N) (b : Fin 256) (j : Fin 256) : iblk m c 3 t (ix2 b j) = a3 m c (ix2 (row t b) j) := by
  blk_point [iblk, V, idx t]

variable (x0 x1 x2 x3 : Vec Ideal S256x256 .f32) (i : S256x256.Idx)

theorem out4 : out0_4 x0 x1 x2 x3 i = x1 i := by
  unfold out0_4
  frame_out

theorem out5 : out0_5 x0 x1 x2 x3 i = delta (x0 i) (x1 i) (x2 i) (x3 i) := by
  unfold out0_5
  frame_out
  rfl

theorem out6 : out0_6 x0 x1 x2 x3 i = newM (x1 i) (x2 i) := by
  unfold out0_6
  frame_out
  rfl

theorem out7 : out0_7 x0 x1 x2 x3 i = newV (x1 i) (x3 i) := by
  unfold out0_7
  frame_out
  rfl

theorem final4 : (dats m 0 c).arrAt 4 cfg0.N = a1 m c := by
  refine (dats m 0 c).arrAt_eq_of_covers 4 _ (by decide +kernel) fun t hf y => ?_
  obtain ⟨b, j, rfl⟩ : ∃ (b : Fin 256) (j : Fin 256), y = ix2 b j := ⟨y 0, y 1, ValueIdx.eq_ix2 y⟩
  have e : a1 m c ((win0_4.rect t).emb (ix2 b j)) = a1 m c (ix2 (row t b) j) := by
    refine congrArg (a1 m c) (funext fun a => ?_)
    fin_cases a <;> refine Fin.ext ?_ <;> blk_simp [idx t] <;> first | rfl | exact Nat.zero_add _
  refine Eq.trans ?_ e.symm
  blk_simp
  rw [after0_4, out4]
  exact blk1 m c t b j

theorem final5 : (dats m 0 c).arrAt 5 cfg0.N = deltaArr m c := by
  refine (dats m 0 c).arrAt_eq_of_covers 5 _ (by decide +kernel) fun t hf y => ?_
  obtain ⟨b, j, rfl⟩ : ∃ (b : Fin 256) (j : Fin 256), y = ix2 b j := ⟨y 0, y 1, ValueIdx.eq_ix2 y⟩
  have e : deltaArr m c ((win0_5.rect t).emb (ix2 b j)) = deltaArr m c (ix2 (row t b) j) := by
    refine congrArg (deltaArr m c) (funext fun a => ?_)
    fin_cases a <;> refine Fin.ext ?_ <;> blk_simp [idx t] <;> first | rfl | exact Nat.zero_add _
  refine Eq.trans ?_ e.symm
  blk_simp
  rw [after0_5, out5]
  rw [blk0, blk1, blk2, blk3]; rfl

theorem final6 : (dats m 0 c).arrAt 6 cfg0.N = mArr m c := by
  refine (dats m 0 c).arrAt_eq_of_covers 6 _ (by decide +kernel) fun t hf y => ?_
  obtain ⟨b, j, rfl⟩ : ∃ (b : Fin 256) (j : Fin 256), y = ix2 b j := ⟨y 0, y 1, ValueIdx.eq_ix2 y⟩
  have e : mArr m c ((win0_6.rect t).emb (ix2 b j)) = mArr m c (ix2 (row t b) j) := by
    refine congrArg (mArr m c) (funext fun a => ?_)
    fin_cases a <;> refine Fin.ext ?_ <;> blk_simp [idx t] <;> first | rfl | exact Nat.zero_add _
  refine Eq.trans ?_ e.symm
  blk_simp
  rw [after0_6, out6]
  rw [blk1, blk2]; rfl

theorem final7 : (dats m 0 c).arrAt 7 cfg0.N = vArr m c := by
  refine (dats m 0 c).arrAt_eq_of_covers 7 _ (by decide +kernel) fun t hf y => ?_
  obtain ⟨b, j, rfl⟩ : ∃ (b : Fin 256) (j : Fin 256), y = ix2 b j := ⟨y 0, y 1, ValueIdx.eq_ix2 y⟩
  have e : vArr m c ((win0_7.rect t).emb (ix2 b j)) = vArr m c (ix2 (row t b) j) := by
    refine congrArg (vArr m c) (funext fun a => ?_)
    fin_cases a <;> refine Fin.ext ?_ <;> blk_simp [idx t] <;> first | rfl | exact Nat.zero_add _
  refine Eq.trans ?_ e.symm
  blk_simp
  rw [after0_7, out7]
  rw [blk1, blk3]; rfl

end Kernel

section Reference

open Cert.Reference7Ideal Cert.Reference7Ideal.Read

variable (x0 x1 x2 x3 : FVec Ideal S512x256 .f32) (i : S512x256.Idx)

theorem ref_m : val_main_v4 (F := Ideal) x1 x2 i = newM (x1 i) (x2 i) := by
  simp only [val_main_v4_apply, val_main_v3_apply, val_main_v2_apply, val_main_v1_apply, val_main_v0_apply,
    val_main_cst_apply, val_main_cst_0_apply]
  rfl

theorem ref_v : val_main_v10 (F := Ideal) x1 x3 i = newV (x1 i) (x3 i) := by
  simp only [val_main_v10_apply, val_main_v9_apply, val_main_v8_apply, val_main_v7_apply, val_main_v6_apply,
    val_main_v5_apply, val_main_cst_1_apply, val_main_cst_2_apply]
  rfl

theorem ref_delta : val_main_v23 (F := Ideal) x0 x1 x2 x3 i = delta (x0 i) (x1 i) (x2 i) (x3 i) := by
  simp only [val_main_v23_apply, val_main_v22_apply, val_main_v21_apply, val_main_v20_apply, val_main_v19_apply,
    val_main_v18_apply, val_main_v17_apply, val_main_v16_apply, val_main_v15_apply, val_main_v14_apply,
    val_main_v13_apply, val_main_v12_apply, val_main_v11_apply, val_main_cst_3_apply, val_main_cst_4_apply,
    val_main_cst_5_apply, val_main_cst_6_apply, val_main_cst_7_apply, ref_m, ref_v]
  rfl

end Reference

open Cert.Reference7Ideal.Read in
/-- The kernel's four results are the reference's. -/
theorem algebraic : Cert.algebraic_Kernel7Ideal_Reference7Ideal := by
  intro m g m' g' _ hagree
  refine ⟨fun c => a1 m c, fun c => deltaArr m c, fun c => mArr m c, fun c => vArr m c, ?_, ?_⟩
  · refine (θ_run Cert.Kernel7Ideal.defs _ _).mono (fun r h c => ?_) (Cert.Kernel7Ideal.Value.run_blocks (F := Ideal) m g)
    obtain ⟨h4, h5, h6, h7, hk⟩ := h c
    exact ⟨h4.trans (final4 m c), h5.trans (final5 m c), h6.trans (final6 m c), h7.trans (final7 m c), hk⟩
  · refine (θ_run Cert.Reference7Ideal.defs _ _).mono (fun r h c => ?_) (Cert.Reference7Ideal.Value.run (F := Ideal) m' g')
    obtain ⟨e0, e1, e2, e3⟩ := hagree c
    obtain ⟨h0, h1, h2, h3, hk⟩ := h c
    have h1 := h1.trans (val_main_v23_eq _ _ _ _)
    have h2 := h2.trans (val_main_v4_eq _ _)
    have h3 := h3.trans (val_main_v10_eq _ _)
    rw [e0, e1, e2, e3] at h1
    rw [e1, e2] at h2
    rw [e1, e3] at h3
    exact ⟨h0.trans e1, h1.trans (funext fun i => ref_delta _ _ _ _ i), h2.trans (funext fun i => ref_m _ _ i),
      h3.trans (funext fun i => ref_v _ _ i), hk⟩

end Cert.Adam7

end
-- ==== Proof.Adam8.lean ====
/-
  The claims about the optimiser's step on the modulation's weight (`adamw_ada`): its gradient as the product over the
  examples, and the two runs, their results set side by side element by element (AdamSpec.lean).
-/
module

public import proofs.«01_k».proof.Defs
public import proofs.«01_k».proof.Proof.AdamSpec
public import proofs.«01_k».proof.Proof.Pre
public import proofs.«01_k».proof.Proof.Gen.Pre_finite8
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.ReduceAll
public import Idealize.ShloMosaic.Lib.Pipeline.ValueKit

@[expose] public section

set_option maxRecDepth 16384

noncomputable section

namespace Cert.Adam8

open Idealize.ShloMosaic Idealize.ShloMosaic.TcCoe Idealize.SL.Sem
open Idealize.ShloMosaic.Pipeline (Dat)
open Cert.AdamSpec

/-- No constant is named here. -/
theorem preserves : Cert.preserves_Kernel8_Kernel8Ideal := trivial

theorem frame_ref : Cert.quiescent_Reference8Ideal := fun m ρ _ =>
  (θ_run Cert.Reference8Ideal.defs _ _).mono (fun r h =>
    ⟨fun c => (h c).2.2.2.2, Idealize.ShloMosaic.sem_eq_zero_of_no_sems (by decide) r.2⟩)
    (Cert.Reference8Ideal.Value.run (F := Ideal) m ρ)

theorem frames : Cert.quiescent_Kernel8 ∧ Cert.quiescent_Kernel8Ideal ∧ Cert.quiescent_Kernel8Ideal_pre_finite8
    ∧ Cert.quiescent_Reference8Ideal ∧ Cert.quiescent_Reference8Ideal_pre_finite8 :=
  ⟨fun m ρ _ => Cert.Kernel8.Gen.frame m ρ, fun m ρ _ => Cert.Kernel8Ideal.Gen.frame m ρ,
    fun m ρ _ => Cert.Kernel8Ideal.Gen.frame m ρ, frame_ref, fun m ρ _ => frame_ref m ρ trivial⟩

/-- The activation of the conditioning. -/
def act (x : EReal) : EReal := x * Ideal.logistic x

theorem act_real {x : EReal} (h : ∃ r : ℝ, x = r) : ∃ r : ℝ, act x = r := by
  obtain ⟨r, rfl⟩ := h
  exact ⟨r * (1 + Real.exp (-r))⁻¹, by rw [act, Ideal.logistic_coe, EReal.coe_mul]⟩

theorem sub_self_real {x : EReal} (h : ∃ r : ℝ, x = r) : x - x = 0 := by
  obtain ⟨r, rfl⟩ := h
  rw [← EReal.coe_sub, sub_self, EReal.coe_zero]

/-- One element of the gradient: the product over the eight examples. -/
def grad (a d : Fin 8 → EReal) : EReal := ∑ k : Fin 8, act (a k) * d k

section Kernel

open Cert.Kernel8Ideal Cert.Kernel8Ideal.Gen

variable (m : (ℓ : Loc nD τ sig) → Buf (Elt Ideal) ℓ) (c : Dev nD)

/-- The conditioning, the modulation's cotangents, the weight and the two moments, as the launch finds them. -/
abbrev a0 : FVec Ideal S8x1024 .f32 := m ((c.tc : Thread nD τ).loc main_arg0)
abbrev a1 : FVec Ideal S8x1536 .f32 := m ((c.tc : Thread nD τ).loc main_arg1)
abbrev a2 : FVec Ideal S1024x1536 .f32 := m ((c.tc : Thread nD τ).loc main_arg2)
abbrev a3 : FVec Ideal S1024x1536 .f32 := m ((c.tc : Thread nD τ).loc main_arg3)
abbrev a4 : FVec Ideal S1024x1536 .f32 := m ((c.tc : Thread nD τ).loc main_arg4)

/-- The conditioning and the cotangents are real. -/
def Finite : Prop := (∀ k q, ∃ r : ℝ, a0 m c (ix2 k q) = r) ∧ ∀ k j, ∃ r : ℝ, a1 m c (ix2 k j) = r

/-- The gradient, as an array. -/
def gArr : FVec Ideal S1024x1536 .f32 := fun i => grad (fun k => a0 m c (ix2 k (i 0))) (fun k => a1 m c (ix2 k (i 1)))

/-- The update, as an array. -/
def deltaArr : FVec Ideal S1024x1536 .f32 := fun i => delta (a2 m c i) (gArr m c i) (a3 m c i) (a4 m c i)

/-- The first moment after the step, as an array. -/
def mArr : FVec Ideal S1024x1536 .f32 := fun i => newM (gArr m c i) (a3 m c i)

/-- The second moment after the step, as an array. -/
def vArr : FVec Ideal S1024x1536 .f32 := fun i => newV (gArr m c i) (a4 m c i)

theorem idx : ∀ t : Fin cfg0.N, win0_0.index t = ![t.val, 0] ∧ win0_1.index t = ![0, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0]
    ∧ win0_8.index t = ![t.val, 0] :=
  (by decide +kernel : ∀ t : Fin grid0.N, _)

/-- The weight's row of row `b` of point `t`'s block. -/
abbrev row (t : Fin cfg0.N) (b : Fin 256) : Fin 1024 := ⟨t.val * 256 + b.val, by have h : t.val < 4 := t.isLt; omega⟩

theorem blk0 (t : Fin cfg0.N) (b : Fin 256) (k : Fin 8) : iblk m c 0 t (ix2 b k) = a0 m c (ix2 k (row t b)) := by
  blk_simp [iblk]
  entry_read
  pointwise
  blk_point [idx t]

theorem blk1 (t : Fin cfg0.N) (k : Fin 8) (j : Fin 1536) : iblk m c 1 t (ix2 k j) = a1 m c (ix2 k j) := by
  blk_point [iblk, V, idx t]

theorem blk2 (t : Fin cfg0.N) (b : Fin 256) (j : Fin 1536) : iblk m c 2 t (ix2 b j) = a2 m c (ix2 (row t b) j) := by
  blk_point [iblk, V, idx t]

theorem blk3 (t : Fin cfg0.N) (b : Fin 256) (j : Fin 1536) : iblk m c 3 t (ix2 b j) = a3 m c (ix2 (row t b) j) := by
  blk_point [iblk, V, idx t]

theorem blk4 (t : Fin cfg0.N) (b : Fin 256) (j : Fin 1536) : iblk m c 4 t (ix2 b j) = a4 m c (ix2 (row t b) j) := by
  blk_point [iblk, V, idx t]

/-- The kernel's three products, as sums. -/
theorem pay2 (x0 : Vec Ideal S256x8 .f32) (x1 : Vec Ideal S8x1536 .f32) (b : Fin 256) (j : Fin 1536) :
    k0_pay2 (F := Ideal) x0 x1 (ix2 b j) = (∑ k : Fin 8, act (x0 (ix2 b k)) * x1 (ix2 k j))
      + (∑ k : Fin 8, (act (x0 (ix2 b k)) - act (x0 (ix2 b k))) * x1 (ix2 k j))
      + ∑ k : Fin 8, act (x0 (ix2 b k)) * (x1 (ix2 k j) - x1 (ix2 k j)) := by
  pointwise [k0_pay2, act]

variable {m c}

theorem g_at (h : Finite m c) (t : Fin cfg0.N) (b : Fin 256) (j : Fin 1536) :
    k0_pay2 (F := Ideal) (iblk m c 0 t) (iblk m c 1 t) (ix2 b j) = gArr m c (ix2 (row t b) j) := by
  rw [pay2]
  simp only [blk0, blk1]
  have e0 : ∀ k, act (a0 m c (ix2 k (row t b))) - act (a0 m c (ix2 k (row t b))) = 0 := fun k =>
    sub_self_real (act_real (h.1 k (row t b)))
  have e1 : ∀ k, a1 m c (ix2 k j) - a1 m c (ix2 k j) = 0 := fun k => sub_self_real (h.2 k j)
  simp only [e0, e1, zero_mul, mul_zero, Finset.sum_const_zero, add_zero]
  rfl

variable (x0 : Vec Ideal S256x8 .f32) (x1 : Vec Ideal S8x1536 .f32) (x2 x3 x4 : Vec Ideal S256x1536 .f32) (i : S256x1536.Idx)

theorem out5 : out0_5 x0 x1 x2 x3 x4 i = k0_pay2 (F := Ideal) x0 x1 i := by
  unfold out0_5
  frame_out

theorem out6 : out0_6 x0 x1 x2 x3 x4 i = delta (x2 i) (k0_pay2 (F := Ideal) x0 x1 i) (x3 i) (x4 i) := by
  unfold out0_6
  frame_out
  rfl

theorem out7 : out0_7 x0 x1 x2 x3 x4 i = newM (k0_pay2 (F := Ideal) x0 x1 i) (x3 i) := by
  unfold out0_7
  frame_out
  rfl

theorem out8 : out0_8 x0 x1 x2 x3 x4 i = newV (k0_pay2 (F := Ideal) x0 x1 i) (x4 i) := by
  unfold out0_8
  frame_out
  rfl

theorem final5 (h : Finite m c) : (dats m 0 c).arrAt 5 cfg0.N = gArr m c := by
  refine (dats m 0 c).arrAt_eq_of_covers 5 _ (by decide +kernel) fun t hf y => ?_
  obtain ⟨b, j, rfl⟩ : ∃ (b : Fin 256) (j : Fin 1536), y = ix2 b j := ⟨y 0, y 1, ValueIdx.eq_ix2 y⟩
  have e : gArr m c ((win0_5.rect t).emb (ix2 b j)) = gArr m c (ix2 (row t b) j) := by
    refine congrArg (gArr m c) (funext fun a => ?_)
    fin_cases a <;> refine Fin.ext ?_ <;> blk_simp [idx t] <;> first | rfl | exact Nat.zero_add _
  refine Eq.trans ?_ e.symm
  blk_simp
  rw [after0_5, out5, g_at h]

theorem final6 (h : Finite m c) : (dats m 0 c).arrAt 6 cfg0.N = deltaArr m c := by
  refine (dats m 0 c).arrAt_eq_of_covers 6 _ (by decide +kernel) fun t hf y => ?_
  obtain ⟨b, j, rfl⟩ : ∃ (b : Fin 256) (j : Fin 1536), y = ix2 b j := ⟨y 0, y 1, ValueIdx.eq_ix2 y⟩
  have e : deltaArr m c ((win0_6.rect t).emb (ix2 b j)) = deltaArr m c (ix2 (row t b) j) := by
    refine congrArg (deltaArr m c) (funext fun a => ?_)
    fin_cases a <;> refine Fin.ext ?_ <;> blk_simp [idx t] <;> first | rfl | exact Nat.zero_add _
  refine Eq.trans ?_ e.symm
  blk_simp
  rw [after0_6, out6, g_at h, blk2, blk3, blk4]; rfl

theorem final7 (h : Finite m c) : (dats m 0 c).arrAt 7 cfg0.N = mArr m c := by
  refine (dats m 0 c).arrAt_eq_of_covers 7 _ (by decide +kernel) fun t hf y => ?_
  obtain ⟨b, j, rfl⟩ : ∃ (b : Fin 256) (j : Fin 1536), y = ix2 b j := ⟨y 0, y 1, ValueIdx.eq_ix2 y⟩
  have e : mArr m c ((win0_7.rect t).emb (ix2 b j)) = mArr m c (ix2 (row t b) j) := by
    refine congrArg (mArr m c) (funext fun a => ?_)
    fin_cases a <;> refine Fin.ext ?_ <;> blk_simp [idx t] <;> first | rfl | exact Nat.zero_add _
  refine Eq.trans ?_ e.symm
  blk_simp
  rw [after0_7, out7, g_at h, blk3]; rfl

theorem final8 (h : Finite m c) : (dats m 0 c).arrAt 8 cfg0.N = vArr m c := by
  refine (dats m 0 c).arrAt_eq_of_covers 8 _ (by decide +kernel) fun t hf y => ?_
  obtain ⟨b, j, rfl⟩ : ∃ (b : Fin 256) (j : Fin 1536), y = ix2 b j := ⟨y 0, y 1, ValueIdx.eq_ix2 y⟩
  have e : vArr m c ((win0_8.rect t).emb (ix2 b j)) = vArr m c (ix2 (row t b) j) := by
    refine congrArg (vArr m c) (funext fun a => ?_)
    fin_cases a <;> refine Fin.ext ?_ <;> blk_simp [idx t] <;> first | rfl | exact Nat.zero_add _
  refine Eq.trans ?_ e.symm
  blk_simp
  rw [after0_8, out8, g_at h, blk4]; rfl

end Kernel

section Reference

open Cert.Reference8Ideal Cert.Reference8Ideal.Read

variable (x0 : FVec Ideal S8x1024 .f32) (x1 : FVec Ideal S8x1536 .f32) (x2 x3 x4 : FVec Ideal S1024x1536 .f32)
  (i : S1024x1536.Idx)

theorem ref_act (j : S8x1024.Idx) : val_main_v0 (F := Ideal) x0 j = act (x0 j) := by
  simp only [val_main_v0_apply, val_main_call0_v5_apply, val_main_call0_v4_apply, val_main_call0_v3_apply,
    val_main_call0_v2_apply, val_main_call0_v1_apply, val_main_call0_v0_apply, val_main_call0_cst_apply,
    val_main_call0_cst_0_apply, act, Ideal.logistic]
  rw [show (FloatOps.ofBits .f32 0x3F800000#32 : Ideal .f32) = (1 : EReal) from Consts.f32_one]
  rfl

theorem ref_g : val_main_v3 (F := Ideal) x0 x1 i = grad (fun k => x0 (ix2 k (i 0))) (fun k => x1 (ix2 k (i 1))) := by
  rw [val_main_v3_apply, val_main_v2_apply]
  refine Finset.sum_congr (M := EReal) rfl fun k _ => ?_
  rw [ref_act, mul_comm]
  refine congrArg₂ (fun a b : EReal => act a * b) (congrArg x0 (funext fun a => ?_)) (congrArg x1 (funext fun a => ?_)) <;>
    fin_cases a <;> rfl

theorem ref_m : val_main_v8 (F := Ideal) x0 x1 x3 i = newM (val_main_v3 (F := Ideal) x0 x1 i) (x3 i) := by
  simp only [val_main_v8_apply, val_main_v7_apply, val_main_v6_apply, val_main_v5_apply, val_main_v4_apply,
    val_main_cst_apply, val_main_cst_0_apply]
  rfl

theorem ref_v : val_main_v14 (F := Ideal) x0 x1 x4 i = newV (val_main_v3 (F := Ideal) x0 x1 i) (x4 i) := by
  simp only [val_main_v14_apply, val_main_v13_apply, val_main_v12_apply, val_main_v11_apply, val_main_v10_apply,
    val_main_v9_apply, val_main_cst_1_apply, val_main_cst_2_apply]
  rfl

theorem ref_delta : val_main_v27 (F := Ideal) x0 x1 x2 x3 x4 i
    = delta (x2 i) (val_main_v3 (F := Ideal) x0 x1 i) (x3 i) (x4 i) := by
  simp only [val_main_v27_apply, val_main_v26_apply, val_main_v25_apply, val_main_v24_apply, val_main_v23_apply,
    val_main_v22_apply, val_main_v21_apply, val_main_v20_apply, val_main_v19_apply, val_main_v18_apply,
    val_main_v17_apply, val_main_v16_apply, val_main_v15_apply, val_main_cst_3_apply, val_main_cst_4_apply,
    val_main_cst_5_apply, val_main_cst_6_apply, val_main_cst_7_apply, ref_m, ref_v]
  rfl

end Reference

instance : Subsingleton Pre_finite8.S_.Idx := ⟨fun a b => funext fun k => k.elim0⟩

/-- The precondition says that the conditioning and the cotangents are real. -/
theorem finite_of (x0 : FVec Ideal Pre_finite8.S8x1024 .f32) (x1 : FVec Ideal Pre_finite8.S8x1536 .f32)
    (x2 x3 x4 : FVec Ideal Pre_finite8.S1024x1536 .f32)
    (h : Pre_finite8.fn (F := Ideal) x0 x1 x2 x3 x4 = fun _ => 1#1) :
    (∀ k q, ∃ r : ℝ, x0 (ix2 k q) = r) ∧ ∀ k j, ∃ r : ℝ, x1 (ix2 k j) = r := by
  have h := congrFun h (Shape.Idx.first Pre_finite8.Gen.h_S_)
  dsimp only [Pre_finite8.fn] at h
  obtain ⟨h0, h1⟩ := IntOp.andi_eq_one.mp h
  exact ⟨fun k q => Pre.real_of_lt (Host.reduce_andi_all _ _ _ _ _ h0 (ix2 k q)),
    fun k j => Pre.real_of_lt (Host.reduce_andi_all _ _ _ _ _ h1 (ix2 k j))⟩

open Cert.Reference8Ideal.Read in
/-- The kernel's four results are the reference's. -/
theorem algebraic : Cert.algebraic_Kernel8Ideal_Reference8Ideal_pre_finite8 := by
  intro m g m' g' hpre hagree
  have hfin : ∀ c, Finite m c := fun c => finite_of _ _ _ _ _ (hpre c)
  refine ⟨fun c => gArr m c, fun c => deltaArr m c, fun c => mArr m c, fun c => vArr m c, ?_, ?_⟩
  · refine (θ_run Cert.Kernel8Ideal.defs _ _).mono (fun r h c => ?_) (Cert.Kernel8Ideal.Value.run_blocks (F := Ideal) m g)
    obtain ⟨h5, h6, h7, h8, hk⟩ := h c
    exact ⟨h5.trans (final5 (hfin c)), h6.trans (final6 (hfin c)), h7.trans (final7 (hfin c)), h8.trans (final8 (hfin c)), hk⟩
  · refine (θ_run Cert.Reference8Ideal.defs _ _).mono (fun r h c => ?_) (Cert.Reference8Ideal.Value.run (F := Ideal) m' g')
    obtain ⟨e0, e1, e2, e3, e4⟩ := hagree c
    obtain ⟨h0, h1, h2, h3, hk⟩ := h c
    have h0 := h0.trans (val_main_v3_eq _ _)
    have h1 := h1.trans (val_main_v27_eq _ _ _ _ _)
    have h2 := h2.trans (val_main_v8_eq _ _ _)
    have h3 := h3.trans (val_main_v14_eq _ _ _)
    rw [e0, e1] at h0
    rw [e0, e1, e2, e3, e4] at h1
    rw [e0, e1, e3] at h2
    rw [e0, e1, e4] at h3
    have eg : ∀ i, val_main_v3 (F := Ideal) (a0 m c) (a1 m c) i = gArr m c i := fun i => ref_g _ _ i
    refine ⟨h0.trans (funext eg), h1.trans (funext fun i => ?_), h2.trans (funext fun i => ?_),
      h3.trans (funext fun i => ?_), hk⟩
    · exact (ref_delta _ _ _ _ _ i).trans (congrArg (fun g => delta (a2 m c i) g (a3 m c i) (a4 m c i)) (eg i))
    · exact (ref_m _ _ _ i).trans (congrArg (fun g => newM g (a3 m c i)) (eg i))
    · exact (ref_v _ _ _ i).trans (congrArg (fun g => newV g (a4 m c i)) (eg i))

end Cert.Adam8

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Pre_finite2
public import proofs.«01_k».proof.Proof.Gen.On_value_half
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite8
public import proofs.«01_k».proof.Proof.Down
public import proofs.«01_k».proof.Proof.Up2
public import proofs.«01_k».proof.Proof.Fwd3
public import proofs.«01_k».proof.Proof.Adam4
public import proofs.«01_k».proof.Proof.Adam5
public import proofs.«01_k».proof.Proof.Adam6
public import proofs.«01_k».proof.Proof.Adam7
public import proofs.«01_k».proof.Proof.Adam8
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite.Gen.facts, Cert.Pre_finite2.Gen.facts, Cert.Pre_finite3.Gen.facts, Cert.Pre_finite8.Gen.facts,
  Cert.On_value_half.Gen.facts, Cert.Down.frames.1,
  Cert.Down.frames.2.1, Cert.Down.frames.2.2.1, Cert.Down.frames.2.2.2.1, Cert.Down.frames.2.2.2.2, Cert.Up2.frames.1,
  Cert.Up2.frames.2.1, Cert.Up2.frames.2.2.1, Cert.Up2.frames.2.2.2.1, Cert.Up2.frames.2.2.2.2, Cert.Fwd3.frames.1,
  Cert.Fwd3.frames.2.1, Cert.Fwd3.frames.2.2.1, Cert.Fwd3.frames.2.2.2.1, Cert.Fwd3.frames.2.2.2.2,
  Cert.Adam4.frames.1, Cert.Adam4.frames.2.1, Cert.Adam4.frames.2.2,
  Cert.Adam5.frames.1, Cert.Adam5.frames.2.1, Cert.Adam5.frames.2.2,
  Cert.Adam6.frames.1, Cert.Adam6.frames.2.1, Cert.Adam6.frames.2.2,
  Cert.Adam7.frames.1, Cert.Adam7.frames.2.1, Cert.Adam7.frames.2.2,
  Cert.Adam8.frames.1, Cert.Adam8.frames.2.1, Cert.Adam8.frames.2.2.1, Cert.Adam8.frames.2.2.2.1, Cert.Adam8.frames.2.2.2.2,
  Cert.Down.preserves,
  Cert.Down.algebraic, Cert.Up2.preserves, Cert.Up2.algebraic, Cert.Fwd3.preserves, Cert.Fwd3.algebraic,
  Cert.Adam4.preserves, Cert.Adam4.algebraic,
  Cert.Adam5.preserves, Cert.Adam5.algebraic,
  Cert.Adam6.preserves, Cert.Adam6.algebraic,
  Cert.Adam7.preserves, Cert.Adam7.algebraic,
  Cert.Adam8.preserves, Cert.Adam8.algebraic⟩

end Cert.Proof

end
